-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).1 = (fun _ => 1#1)
    ∧ (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))).2 = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).1 = (fun _ => 1#1)
    ∧ (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))).2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_routed [hPre_routed : Cert.Pre_routed.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).1 = (fun _ => 1#1)
    ∧ (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))).2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_routed [hExpertsReferenceIdeal : Cert.ExpertsReferenceIdeal.Facts] [hPre_routed : Cert.Pre_routed.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_routed m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4)
      ∧ r.2.mem ((c.tc : Thread Cert.Projection.nD Cert.Projection.τ).loc Cert.Projection.main_arg5) = m ((c.tc : Thread Cert.Projection.nD Cert.Projection.τ).loc Cert.Projection.main_arg5)
      ∧ r.2.mem ((c.tc : Thread Cert.Projection.nD Cert.Projection.τ).loc Cert.Projection.main_arg6) = m ((c.tc : Thread Cert.Projection.nD Cert.Projection.τ).loc Cert.Projection.main_arg6)
      ∧ r.2.mem ((c.tc : Thread Cert.Projection.nD Cert.Projection.τ).loc Cert.Projection.main_arg7) = m ((c.tc : Thread Cert.Projection.nD Cert.Projection.τ).loc Cert.Projection.main_arg7)
      ∧ r.2.mem ((c.tc : Thread Cert.Projection.nD Cert.Projection.τ).loc Cert.Projection.main_arg8) = m ((c.tc : Thread Cert.Projection.nD Cert.Projection.τ).loc Cert.Projection.main_arg8)
      ∧ r.2.mem ((c.tc : Thread Cert.Projection.nD Cert.Projection.τ).loc Cert.Projection.main_arg9) = m ((c.tc : Thread Cert.Projection.nD Cert.Projection.τ).loc Cert.Projection.main_arg9)
      ∧ r.2.mem ((c.tc : Thread Cert.Projection.nD Cert.Projection.τ).loc Cert.Projection.main_arg10) = m ((c.tc : Thread Cert.Projection.nD Cert.Projection.τ).loc Cert.Projection.main_arg10)
      ∧ r.2.mem ((c.tc : Thread Cert.Projection.nD Cert.Projection.τ).loc Cert.Projection.main_arg11) = m ((c.tc : Thread Cert.Projection.nD Cert.Projection.τ).loc Cert.Projection.main_arg11)
      ∧ r.2.mem ((c.tc : Thread Cert.Projection.nD Cert.Projection.τ).loc Cert.Projection.main_arg12) = m ((c.tc : Thread Cert.Projection.nD Cert.Projection.τ).loc Cert.Projection.main_arg12)
      ∧ r.2.mem ((c.tc : Thread Cert.Projection.nD Cert.Projection.τ).loc Cert.Projection.main_arg13) = m ((c.tc : Thread Cert.Projection.nD Cert.Projection.τ).loc Cert.Projection.main_arg13)
      ∧ r.2.mem ((c.tc : Thread Cert.Projection.nD Cert.Projection.τ).loc Cert.Projection.main_arg14) = m ((c.tc : Thread Cert.Projection.nD Cert.Projection.τ).loc Cert.Projection.main_arg14)
      ∧ r.2.mem ((c.tc : Thread Cert.Projection.nD Cert.Projection.τ).loc Cert.Projection.main_arg15) = m ((c.tc : Thread Cert.Projection.nD Cert.Projection.τ).loc Cert.Projection.main_arg15)
      ∧ r.2.mem ((c.tc : Thread Cert.Projection.nD Cert.Projection.τ).loc Cert.Projection.main_arg16) = m ((c.tc : Thread Cert.Projection.nD Cert.Projection.τ).loc Cert.Projection.main_arg16)
      ∧ r.2.mem ((c.tc : Thread Cert.Projection.nD Cert.Projection.τ).loc Cert.Projection.main_arg17) = m ((c.tc : Thread Cert.Projection.nD Cert.Projection.τ).loc Cert.Projection.main_arg17)
      ∧ r.2.mem ((c.tc : Thread Cert.Projection.nD Cert.Projection.τ).loc Cert.Projection.main_arg18) = m ((c.tc : Thread Cert.Projection.nD Cert.Projection.τ).loc Cert.Projection.main_arg18)
      ∧ r.2.mem ((c.tc : Thread Cert.Projection.nD Cert.Projection.τ).loc Cert.Projection.main_arg19) = m ((c.tc : Thread Cert.Projection.nD Cert.Projection.τ).loc Cert.Projection.main_arg19))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
      ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6)
      ∧ r.2.mem ((c.tc : Thread Cert.ProjectionIdeal.nD Cert.ProjectionIdeal.τ).loc Cert.ProjectionIdeal.main_arg7) = m ((c.tc : Thread Cert.ProjectionIdeal.nD Cert.ProjectionIdeal.τ).loc Cert.ProjectionIdeal.main_arg7)
      ∧ r.2.mem ((c.tc : Thread Cert.ProjectionIdeal.nD Cert.ProjectionIdeal.τ).loc Cert.ProjectionIdeal.main_arg8) = m ((c.tc : Thread Cert.ProjectionIdeal.nD Cert.ProjectionIdeal.τ).loc Cert.ProjectionIdeal.main_arg8)
      ∧ r.2.mem ((c.tc : Thread Cert.ProjectionIdeal.nD Cert.ProjectionIdeal.τ).loc Cert.ProjectionIdeal.main_arg9) = m ((c.tc : Thread Cert.ProjectionIdeal.nD Cert.ProjectionIdeal.τ).loc Cert.ProjectionIdeal.main_arg9)
      ∧ r.2.mem ((c.tc : Thread Cert.ProjectionIdeal.nD Cert.ProjectionIdeal.τ).loc Cert.ProjectionIdeal.main_arg10) = m ((c.tc : Thread Cert.ProjectionIdeal.nD Cert.ProjectionIdeal.τ).loc Cert.ProjectionIdeal.main_arg10)
      ∧ r.2.mem ((c.tc : Thread Cert.ProjectionIdeal.nD Cert.ProjectionIdeal.τ).loc Cert.ProjectionIdeal.main_arg11) = m ((c.tc : Thread Cert.ProjectionIdeal.nD Cert.ProjectionIdeal.τ).loc Cert.ProjectionIdeal.main_arg11)
      ∧ r.2.mem ((c.tc : Thread Cert.ProjectionIdeal.nD Cert.ProjectionIdeal.τ).loc Cert.ProjectionIdeal.main_arg12) = m ((c.tc : Thread Cert.ProjectionIdeal.nD Cert.ProjectionIdeal.τ).loc Cert.ProjectionIdeal.main_arg12)
      ∧ r.2.mem ((c.tc : Thread Cert.ProjectionIdeal.nD Cert.ProjectionIdeal.τ).loc Cert.ProjectionIdeal.main_arg13) = m ((c.tc : Thread Cert.ProjectionIdeal.nD Cert.ProjectionIdeal.τ).loc Cert.ProjectionIdeal.main_arg13)
      ∧ r.2.mem ((c.tc : Thread Cert.ProjectionIdeal.nD Cert.ProjectionIdeal.τ).loc Cert.ProjectionIdeal.main_arg14) = m ((c.tc : Thread Cert.ProjectionIdeal.nD Cert.ProjectionIdeal.τ).loc Cert.ProjectionIdeal.main_arg14)
      ∧ r.2.mem ((c.tc : Thread Cert.ProjectionIdeal.nD Cert.ProjectionIdeal.τ).loc Cert.ProjectionIdeal.main_arg15) = m ((c.tc : Thread Cert.ProjectionIdeal.nD Cert.ProjectionIdeal.τ).loc Cert.ProjectionIdeal.main_arg15)
      ∧ r.2.mem ((c.tc : Thread Cert.ProjectionIdeal.nD Cert.ProjectionIdeal.τ).loc Cert.ProjectionIdeal.main_arg16) = m ((c.tc : Thread Cert.ProjectionIdeal.nD Cert.ProjectionIdeal.τ).loc Cert.ProjectionIdeal.main_arg16)
      ∧ r.2.mem ((c.tc : Thread Cert.ProjectionIdeal.nD Cert.ProjectionIdeal.τ).loc Cert.ProjectionIdeal.main_arg17) = m ((c.tc : Thread Cert.ProjectionIdeal.nD Cert.ProjectionIdeal.τ).loc Cert.ProjectionIdeal.main_arg17)
      ∧ r.2.mem ((c.tc : Thread Cert.ProjectionIdeal.nD Cert.ProjectionIdeal.τ).loc Cert.ProjectionIdeal.main_arg18) = m ((c.tc : Thread Cert.ProjectionIdeal.nD Cert.ProjectionIdeal.τ).loc Cert.ProjectionIdeal.main_arg18)
      ∧ r.2.mem ((c.tc : Thread Cert.ProjectionIdeal.nD Cert.ProjectionIdeal.τ).loc Cert.ProjectionIdeal.main_arg19) = m ((c.tc : Thread Cert.ProjectionIdeal.nD Cert.ProjectionIdeal.τ).loc Cert.ProjectionIdeal.main_arg19))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4)
      ∧ r.2.mem ((c.tc : Thread Cert.ProjectionReferenceIdeal.nD Cert.ProjectionReferenceIdeal.τ).loc Cert.ProjectionReferenceIdeal.main_arg5) = m ((c.tc : Thread Cert.ProjectionReferenceIdeal.nD Cert.ProjectionReferenceIdeal.τ).loc Cert.ProjectionReferenceIdeal.main_arg5)
      ∧ r.2.mem ((c.tc : Thread Cert.ProjectionReferenceIdeal.nD Cert.ProjectionReferenceIdeal.τ).loc Cert.ProjectionReferenceIdeal.main_arg6) = m ((c.tc : Thread Cert.ProjectionReferenceIdeal.nD Cert.ProjectionReferenceIdeal.τ).loc Cert.ProjectionReferenceIdeal.main_arg6)
      ∧ r.2.mem ((c.tc : Thread Cert.ProjectionReferenceIdeal.nD Cert.ProjectionReferenceIdeal.τ).loc Cert.ProjectionReferenceIdeal.main_arg7) = m ((c.tc : Thread Cert.ProjectionReferenceIdeal.nD Cert.ProjectionReferenceIdeal.τ).loc Cert.ProjectionReferenceIdeal.main_arg7)
      ∧ r.2.mem ((c.tc : Thread Cert.ProjectionReferenceIdeal.nD Cert.ProjectionReferenceIdeal.τ).loc Cert.ProjectionReferenceIdeal.main_arg8) = m ((c.tc : Thread Cert.ProjectionReferenceIdeal.nD Cert.ProjectionReferenceIdeal.τ).loc Cert.ProjectionReferenceIdeal.main_arg8)
      ∧ r.2.mem ((c.tc : Thread Cert.ProjectionReferenceIdeal.nD Cert.ProjectionReferenceIdeal.τ).loc Cert.ProjectionReferenceIdeal.main_arg9) = m ((c.tc : Thread Cert.ProjectionReferenceIdeal.nD Cert.ProjectionReferenceIdeal.τ).loc Cert.ProjectionReferenceIdeal.main_arg9)
      ∧ r.2.mem ((c.tc : Thread Cert.ProjectionReferenceIdeal.nD Cert.ProjectionReferenceIdeal.τ).loc Cert.ProjectionReferenceIdeal.main_arg10) = m ((c.tc : Thread Cert.ProjectionReferenceIdeal.nD Cert.ProjectionReferenceIdeal.τ).loc Cert.ProjectionReferenceIdeal.main_arg10)
      ∧ r.2.mem ((c.tc : Thread Cert.ProjectionReferenceIdeal.nD Cert.ProjectionReferenceIdeal.τ).loc Cert.ProjectionReferenceIdeal.main_arg11) = m ((c.tc : Thread Cert.ProjectionReferenceIdeal.nD Cert.ProjectionReferenceIdeal.τ).loc Cert.ProjectionReferenceIdeal.main_arg11)
      ∧ r.2.mem ((c.tc : Thread Cert.ProjectionReferenceIdeal.nD Cert.ProjectionReferenceIdeal.τ).loc Cert.ProjectionReferenceIdeal.main_arg12) = m ((c.tc : Thread Cert.ProjectionReferenceIdeal.nD Cert.ProjectionReferenceIdeal.τ).loc Cert.ProjectionReferenceIdeal.main_arg12)
      ∧ r.2.mem ((c.tc : Thread Cert.ProjectionReferenceIdeal.nD Cert.ProjectionReferenceIdeal.τ).loc Cert.ProjectionReferenceIdeal.main_arg13) = m ((c.tc : Thread Cert.ProjectionReferenceIdeal.nD Cert.ProjectionReferenceIdeal.τ).loc Cert.ProjectionReferenceIdeal.main_arg13)
      ∧ r.2.mem ((c.tc : Thread Cert.ProjectionReferenceIdeal.nD Cert.ProjectionReferenceIdeal.τ).loc Cert.ProjectionReferenceIdeal.main_arg14) = m ((c.tc : Thread Cert.ProjectionReferenceIdeal.nD Cert.ProjectionReferenceIdeal.τ).loc Cert.ProjectionReferenceIdeal.main_arg14)
      ∧ r.2.mem ((c.tc : Thread Cert.ProjectionReferenceIdeal.nD Cert.ProjectionReferenceIdeal.τ).loc Cert.ProjectionReferenceIdeal.main_arg15) = m ((c.tc : Thread Cert.ProjectionReferenceIdeal.nD Cert.ProjectionReferenceIdeal.τ).loc Cert.ProjectionReferenceIdeal.main_arg15)
      ∧ r.2.mem ((c.tc : Thread Cert.ProjectionReferenceIdeal.nD Cert.ProjectionReferenceIdeal.τ).loc Cert.ProjectionReferenceIdeal.main_arg16) = m ((c.tc : Thread Cert.ProjectionReferenceIdeal.nD Cert.ProjectionReferenceIdeal.τ).loc Cert.ProjectionReferenceIdeal.main_arg16)
      ∧ r.2.mem ((c.tc : Thread Cert.ProjectionReferenceIdeal.nD Cert.ProjectionReferenceIdeal.τ).loc Cert.ProjectionReferenceIdeal.main_arg17) = m ((c.tc : Thread Cert.ProjectionReferenceIdeal.nD Cert.ProjectionReferenceIdeal.τ).loc Cert.ProjectionReferenceIdeal.main_arg17)
      ∧ r.2.mem ((c.tc : Thread Cert.ProjectionReferenceIdeal.nD Cert.ProjectionReferenceIdeal.τ).loc Cert.ProjectionReferenceIdeal.main_arg18) = m ((c.tc : Thread Cert.ProjectionReferenceIdeal.nD Cert.ProjectionReferenceIdeal.τ).loc Cert.ProjectionReferenceIdeal.main_arg18)
      ∧ r.2.mem ((c.tc : Thread Cert.ProjectionReferenceIdeal.nD Cert.ProjectionReferenceIdeal.τ).loc Cert.ProjectionReferenceIdeal.main_arg19) = m ((c.tc : Thread Cert.ProjectionReferenceIdeal.nD Cert.ProjectionReferenceIdeal.τ).loc Cert.ProjectionReferenceIdeal.main_arg19))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v24)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v24) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v62) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v16_0)) (v1 : (c : Dev Cert.MergeIdeal.nD) → Buf (Elt Ideal) ((c.tc : Thread Cert.MergeIdeal.nD Cert.MergeIdeal.τ).loc Cert.MergeIdeal.main_v16_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16_0) = v0 c
          ∧ r.2.mem ((c.tc : Thread Cert.MergeIdeal.nD Cert.MergeIdeal.τ).loc Cert.MergeIdeal.main_v16_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v51) = v0 c
          ∧ r.2.mem ((c.tc : Thread Cert.MergeReferenceIdeal.nD Cert.MergeReferenceIdeal.τ).loc Cert.MergeReferenceIdeal.main_v53) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)
      ∧ m' ((c.tc : Thread Cert.ProjectionReferenceIdeal.nD Cert.ProjectionReferenceIdeal.τ).loc Cert.ProjectionReferenceIdeal.main_arg4) = m ((c.tc : Thread Cert.ProjectionIdeal.nD Cert.ProjectionIdeal.τ).loc Cert.ProjectionIdeal.main_arg4)
      ∧ m' ((c.tc : Thread Cert.ProjectionReferenceIdeal.nD Cert.ProjectionReferenceIdeal.τ).loc Cert.ProjectionReferenceIdeal.main_arg5) = m ((c.tc : Thread Cert.ProjectionIdeal.nD Cert.ProjectionIdeal.τ).loc Cert.ProjectionIdeal.main_arg5)
      ∧ m' ((c.tc : Thread Cert.ProjectionReferenceIdeal.nD Cert.ProjectionReferenceIdeal.τ).loc Cert.ProjectionReferenceIdeal.main_arg6) = m ((c.tc : Thread Cert.ProjectionIdeal.nD Cert.ProjectionIdeal.τ).loc Cert.ProjectionIdeal.main_arg6)
      ∧ m' ((c.tc : Thread Cert.ProjectionReferenceIdeal.nD Cert.ProjectionReferenceIdeal.τ).loc Cert.ProjectionReferenceIdeal.main_arg7) = m ((c.tc : Thread Cert.ProjectionIdeal.nD Cert.ProjectionIdeal.τ).loc Cert.ProjectionIdeal.main_arg7)
      ∧ m' ((c.tc : Thread Cert.ProjectionReferenceIdeal.nD Cert.ProjectionReferenceIdeal.τ).loc Cert.ProjectionReferenceIdeal.main_arg8) = m ((c.tc : Thread Cert.ProjectionIdeal.nD Cert.ProjectionIdeal.τ).loc Cert.ProjectionIdeal.main_arg8)
      ∧ m' ((c.tc : Thread Cert.ProjectionReferenceIdeal.nD Cert.ProjectionReferenceIdeal.τ).loc Cert.ProjectionReferenceIdeal.main_arg9) = m ((c.tc : Thread Cert.ProjectionIdeal.nD Cert.ProjectionIdeal.τ).loc Cert.ProjectionIdeal.main_arg9)
      ∧ m' ((c.tc : Thread Cert.ProjectionReferenceIdeal.nD Cert.ProjectionReferenceIdeal.τ).loc Cert.ProjectionReferenceIdeal.main_arg10) = m ((c.tc : Thread Cert.ProjectionIdeal.nD Cert.ProjectionIdeal.τ).loc Cert.ProjectionIdeal.main_arg10)
      ∧ m' ((c.tc : Thread Cert.ProjectionReferenceIdeal.nD Cert.ProjectionReferenceIdeal.τ).loc Cert.ProjectionReferenceIdeal.main_arg11) = m ((c.tc : Thread Cert.ProjectionIdeal.nD Cert.ProjectionIdeal.τ).loc Cert.ProjectionIdeal.main_arg11)
      ∧ m' ((c.tc : Thread Cert.ProjectionReferenceIdeal.nD Cert.ProjectionReferenceIdeal.τ).loc Cert.ProjectionReferenceIdeal.main_arg12) = m ((c.tc : Thread Cert.ProjectionIdeal.nD Cert.ProjectionIdeal.τ).loc Cert.ProjectionIdeal.main_arg12)
      ∧ m' ((c.tc : Thread Cert.ProjectionReferenceIdeal.nD Cert.ProjectionReferenceIdeal.τ).loc Cert.ProjectionReferenceIdeal.main_arg13) = m ((c.tc : Thread Cert.ProjectionIdeal.nD Cert.ProjectionIdeal.τ).loc Cert.ProjectionIdeal.main_arg13)
      ∧ m' ((c.tc : Thread Cert.ProjectionReferenceIdeal.nD Cert.ProjectionReferenceIdeal.τ).loc Cert.ProjectionReferenceIdeal.main_arg14) = m ((c.tc : Thread Cert.ProjectionIdeal.nD Cert.ProjectionIdeal.τ).loc Cert.ProjectionIdeal.main_arg14)
      ∧ m' ((c.tc : Thread Cert.ProjectionReferenceIdeal.nD Cert.ProjectionReferenceIdeal.τ).loc Cert.ProjectionReferenceIdeal.main_arg15) = m ((c.tc : Thread Cert.ProjectionIdeal.nD Cert.ProjectionIdeal.τ).loc Cert.ProjectionIdeal.main_arg15)
      ∧ m' ((c.tc : Thread Cert.ProjectionReferenceIdeal.nD Cert.ProjectionReferenceIdeal.τ).loc Cert.ProjectionReferenceIdeal.main_arg16) = m ((c.tc : Thread Cert.ProjectionIdeal.nD Cert.ProjectionIdeal.τ).loc Cert.ProjectionIdeal.main_arg16)
      ∧ m' ((c.tc : Thread Cert.ProjectionReferenceIdeal.nD Cert.ProjectionReferenceIdeal.τ).loc Cert.ProjectionReferenceIdeal.main_arg17) = m ((c.tc : Thread Cert.ProjectionIdeal.nD Cert.ProjectionIdeal.τ).loc Cert.ProjectionIdeal.main_arg17)
      ∧ m' ((c.tc : Thread Cert.ProjectionReferenceIdeal.nD Cert.ProjectionReferenceIdeal.τ).loc Cert.ProjectionReferenceIdeal.main_arg18) = m ((c.tc : Thread Cert.ProjectionIdeal.nD Cert.ProjectionIdeal.τ).loc Cert.ProjectionIdeal.main_arg18)
      ∧ m' ((c.tc : Thread Cert.ProjectionReferenceIdeal.nD Cert.ProjectionReferenceIdeal.τ).loc Cert.ProjectionReferenceIdeal.main_arg19) = m ((c.tc : Thread Cert.ProjectionIdeal.nD Cert.ProjectionIdeal.τ).loc Cert.ProjectionIdeal.main_arg19)) →
    ∃ (v0 : (c : Dev Cert.ProjectionIdeal.nD) → Buf (Elt Ideal) ((c.tc : Thread Cert.ProjectionIdeal.nD Cert.ProjectionIdeal.τ).loc Cert.ProjectionIdeal.main_v24_1)) (v1 : (c : Dev Cert.ProjectionIdeal.nD) → Buf (Elt Ideal) ((c.tc : Thread Cert.ProjectionIdeal.nD Cert.ProjectionIdeal.τ).loc Cert.ProjectionIdeal.main_v24_3)) (v2 : (c : Dev Cert.ProjectionIdeal.nD) → Buf (Elt Ideal) ((c.tc : Thread Cert.ProjectionIdeal.nD Cert.ProjectionIdeal.τ).loc Cert.ProjectionIdeal.main_v24_6)) (v3 : (c : Dev Cert.ProjectionIdeal.nD) → Buf (Elt Ideal) ((c.tc : Thread Cert.ProjectionIdeal.nD Cert.ProjectionIdeal.τ).loc Cert.ProjectionIdeal.main_v24_7)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v24_1) = v0 c
          ∧ r.2.mem ((c.tc : Thread Cert.ProjectionIdeal.nD Cert.ProjectionIdeal.τ).loc Cert.ProjectionIdeal.main_v24_3) = v1 c
          ∧ r.2.mem ((c.tc : Thread Cert.ProjectionIdeal.nD Cert.ProjectionIdeal.τ).loc Cert.ProjectionIdeal.main_v24_6) = v2 c
          ∧ r.2.mem ((c.tc : Thread Cert.ProjectionIdeal.nD Cert.ProjectionIdeal.τ).loc Cert.ProjectionIdeal.main_v24_7) = v3 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
          ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6)
          ∧ r.2.mem ((c.tc : Thread Cert.ProjectionIdeal.nD Cert.ProjectionIdeal.τ).loc Cert.ProjectionIdeal.main_arg7) = m ((c.tc : Thread Cert.ProjectionIdeal.nD Cert.ProjectionIdeal.τ).loc Cert.ProjectionIdeal.main_arg7)
          ∧ r.2.mem ((c.tc : Thread Cert.ProjectionIdeal.nD Cert.ProjectionIdeal.τ).loc Cert.ProjectionIdeal.main_arg8) = m ((c.tc : Thread Cert.ProjectionIdeal.nD Cert.ProjectionIdeal.τ).loc Cert.ProjectionIdeal.main_arg8)
          ∧ r.2.mem ((c.tc : Thread Cert.ProjectionIdeal.nD Cert.ProjectionIdeal.τ).loc Cert.ProjectionIdeal.main_arg9) = m ((c.tc : Thread Cert.ProjectionIdeal.nD Cert.ProjectionIdeal.τ).loc Cert.ProjectionIdeal.main_arg9)
          ∧ r.2.mem ((c.tc : Thread Cert.ProjectionIdeal.nD Cert.ProjectionIdeal.τ).loc Cert.ProjectionIdeal.main_arg10) = m ((c.tc : Thread Cert.ProjectionIdeal.nD Cert.ProjectionIdeal.τ).loc Cert.ProjectionIdeal.main_arg10)
          ∧ r.2.mem ((c.tc : Thread Cert.ProjectionIdeal.nD Cert.ProjectionIdeal.τ).loc Cert.ProjectionIdeal.main_arg11) = m ((c.tc : Thread Cert.ProjectionIdeal.nD Cert.ProjectionIdeal.τ).loc Cert.ProjectionIdeal.main_arg11)
          ∧ r.2.mem ((c.tc : Thread Cert.ProjectionIdeal.nD Cert.ProjectionIdeal.τ).loc Cert.ProjectionIdeal.main_arg12) = m ((c.tc : Thread Cert.ProjectionIdeal.nD Cert.ProjectionIdeal.τ).loc Cert.ProjectionIdeal.main_arg12)
          ∧ r.2.mem ((c.tc : Thread Cert.ProjectionIdeal.nD Cert.ProjectionIdeal.τ).loc Cert.ProjectionIdeal.main_arg13) = m ((c.tc : Thread Cert.ProjectionIdeal.nD Cert.ProjectionIdeal.τ).loc Cert.ProjectionIdeal.main_arg13)
          ∧ r.2.mem ((c.tc : Thread Cert.ProjectionIdeal.nD Cert.ProjectionIdeal.τ).loc Cert.ProjectionIdeal.main_arg14) = m ((c.tc : Thread Cert.ProjectionIdeal.nD Cert.ProjectionIdeal.τ).loc Cert.ProjectionIdeal.main_arg14)
          ∧ r.2.mem ((c.tc : Thread Cert.ProjectionIdeal.nD Cert.ProjectionIdeal.τ).loc Cert.ProjectionIdeal.main_arg15) = m ((c.tc : Thread Cert.ProjectionIdeal.nD Cert.ProjectionIdeal.τ).loc Cert.ProjectionIdeal.main_arg15)
          ∧ r.2.mem ((c.tc : Thread Cert.ProjectionIdeal.nD Cert.ProjectionIdeal.τ).loc Cert.ProjectionIdeal.main_arg16) = m ((c.tc : Thread Cert.ProjectionIdeal.nD Cert.ProjectionIdeal.τ).loc Cert.ProjectionIdeal.main_arg16)
          ∧ r.2.mem ((c.tc : Thread Cert.ProjectionIdeal.nD Cert.ProjectionIdeal.τ).loc Cert.ProjectionIdeal.main_arg17) = m ((c.tc : Thread Cert.ProjectionIdeal.nD Cert.ProjectionIdeal.τ).loc Cert.ProjectionIdeal.main_arg17)
          ∧ r.2.mem ((c.tc : Thread Cert.ProjectionIdeal.nD Cert.ProjectionIdeal.τ).loc Cert.ProjectionIdeal.main_arg18) = m ((c.tc : Thread Cert.ProjectionIdeal.nD Cert.ProjectionIdeal.τ).loc Cert.ProjectionIdeal.main_arg18)
          ∧ r.2.mem ((c.tc : Thread Cert.ProjectionIdeal.nD Cert.ProjectionIdeal.τ).loc Cert.ProjectionIdeal.main_arg19) = m ((c.tc : Thread Cert.ProjectionIdeal.nD Cert.ProjectionIdeal.τ).loc Cert.ProjectionIdeal.main_arg19))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v68) = v0 c
          ∧ r.2.mem ((c.tc : Thread Cert.ProjectionReferenceIdeal.nD Cert.ProjectionReferenceIdeal.τ).loc Cert.ProjectionReferenceIdeal.main_v70) = v1 c
          ∧ r.2.mem ((c.tc : Thread Cert.ProjectionReferenceIdeal.nD Cert.ProjectionReferenceIdeal.τ).loc Cert.ProjectionReferenceIdeal.main_v71) = v2 c
          ∧ r.2.mem ((c.tc : Thread Cert.ProjectionReferenceIdeal.nD Cert.ProjectionReferenceIdeal.τ).loc Cert.ProjectionReferenceIdeal.main_v72) = v3 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3)
          ∧ r.2.mem ((c.tc : Thread Cert.ProjectionReferenceIdeal.nD Cert.ProjectionReferenceIdeal.τ).loc Cert.ProjectionReferenceIdeal.main_arg4) = m' ((c.tc : Thread Cert.ProjectionReferenceIdeal.nD Cert.ProjectionReferenceIdeal.τ).loc Cert.ProjectionReferenceIdeal.main_arg4)
          ∧ r.2.mem ((c.tc : Thread Cert.ProjectionReferenceIdeal.nD Cert.ProjectionReferenceIdeal.τ).loc Cert.ProjectionReferenceIdeal.main_arg5) = m' ((c.tc : Thread Cert.ProjectionReferenceIdeal.nD Cert.ProjectionReferenceIdeal.τ).loc Cert.ProjectionReferenceIdeal.main_arg5)
          ∧ r.2.mem ((c.tc : Thread Cert.ProjectionReferenceIdeal.nD Cert.ProjectionReferenceIdeal.τ).loc Cert.ProjectionReferenceIdeal.main_arg6) = m' ((c.tc : Thread Cert.ProjectionReferenceIdeal.nD Cert.ProjectionReferenceIdeal.τ).loc Cert.ProjectionReferenceIdeal.main_arg6)
          ∧ r.2.mem ((c.tc : Thread Cert.ProjectionReferenceIdeal.nD Cert.ProjectionReferenceIdeal.τ).loc Cert.ProjectionReferenceIdeal.main_arg7) = m' ((c.tc : Thread Cert.ProjectionReferenceIdeal.nD Cert.ProjectionReferenceIdeal.τ).loc Cert.ProjectionReferenceIdeal.main_arg7)
          ∧ r.2.mem ((c.tc : Thread Cert.ProjectionReferenceIdeal.nD Cert.ProjectionReferenceIdeal.τ).loc Cert.ProjectionReferenceIdeal.main_arg8) = m' ((c.tc : Thread Cert.ProjectionReferenceIdeal.nD Cert.ProjectionReferenceIdeal.τ).loc Cert.ProjectionReferenceIdeal.main_arg8)
          ∧ r.2.mem ((c.tc : Thread Cert.ProjectionReferenceIdeal.nD Cert.ProjectionReferenceIdeal.τ).loc Cert.ProjectionReferenceIdeal.main_arg9) = m' ((c.tc : Thread Cert.ProjectionReferenceIdeal.nD Cert.ProjectionReferenceIdeal.τ).loc Cert.ProjectionReferenceIdeal.main_arg9)
          ∧ r.2.mem ((c.tc : Thread Cert.ProjectionReferenceIdeal.nD Cert.ProjectionReferenceIdeal.τ).loc Cert.ProjectionReferenceIdeal.main_arg10) = m' ((c.tc : Thread Cert.ProjectionReferenceIdeal.nD Cert.ProjectionReferenceIdeal.τ).loc Cert.ProjectionReferenceIdeal.main_arg10)
          ∧ r.2.mem ((c.tc : Thread Cert.ProjectionReferenceIdeal.nD Cert.ProjectionReferenceIdeal.τ).loc Cert.ProjectionReferenceIdeal.main_arg11) = m' ((c.tc : Thread Cert.ProjectionReferenceIdeal.nD Cert.ProjectionReferenceIdeal.τ).loc Cert.ProjectionReferenceIdeal.main_arg11)
          ∧ r.2.mem ((c.tc : Thread Cert.ProjectionReferenceIdeal.nD Cert.ProjectionReferenceIdeal.τ).loc Cert.ProjectionReferenceIdeal.main_arg12) = m' ((c.tc : Thread Cert.ProjectionReferenceIdeal.nD Cert.ProjectionReferenceIdeal.τ).loc Cert.ProjectionReferenceIdeal.main_arg12)
          ∧ r.2.mem ((c.tc : Thread Cert.ProjectionReferenceIdeal.nD Cert.ProjectionReferenceIdeal.τ).loc Cert.ProjectionReferenceIdeal.main_arg13) = m' ((c.tc : Thread Cert.ProjectionReferenceIdeal.nD Cert.ProjectionReferenceIdeal.τ).loc Cert.ProjectionReferenceIdeal.main_arg13)
          ∧ r.2.mem ((c.tc : Thread Cert.ProjectionReferenceIdeal.nD Cert.ProjectionReferenceIdeal.τ).loc Cert.ProjectionReferenceIdeal.main_arg14) = m' ((c.tc : Thread Cert.ProjectionReferenceIdeal.nD Cert.ProjectionReferenceIdeal.τ).loc Cert.ProjectionReferenceIdeal.main_arg14)
          ∧ r.2.mem ((c.tc : Thread Cert.ProjectionReferenceIdeal.nD Cert.ProjectionReferenceIdeal.τ).loc Cert.ProjectionReferenceIdeal.main_arg15) = m' ((c.tc : Thread Cert.ProjectionReferenceIdeal.nD Cert.ProjectionReferenceIdeal.τ).loc Cert.ProjectionReferenceIdeal.main_arg15)
          ∧ r.2.mem ((c.tc : Thread Cert.ProjectionReferenceIdeal.nD Cert.ProjectionReferenceIdeal.τ).loc Cert.ProjectionReferenceIdeal.main_arg16) = m' ((c.tc : Thread Cert.ProjectionReferenceIdeal.nD Cert.ProjectionReferenceIdeal.τ).loc Cert.ProjectionReferenceIdeal.main_arg16)
          ∧ r.2.mem ((c.tc : Thread Cert.ProjectionReferenceIdeal.nD Cert.ProjectionReferenceIdeal.τ).loc Cert.ProjectionReferenceIdeal.main_arg17) = m' ((c.tc : Thread Cert.ProjectionReferenceIdeal.nD Cert.ProjectionReferenceIdeal.τ).loc Cert.ProjectionReferenceIdeal.main_arg17)
          ∧ r.2.mem ((c.tc : Thread Cert.ProjectionReferenceIdeal.nD Cert.ProjectionReferenceIdeal.τ).loc Cert.ProjectionReferenceIdeal.main_arg18) = m' ((c.tc : Thread Cert.ProjectionReferenceIdeal.nD Cert.ProjectionReferenceIdeal.τ).loc Cert.ProjectionReferenceIdeal.main_arg18)
          ∧ r.2.mem ((c.tc : Thread Cert.ProjectionReferenceIdeal.nD Cert.ProjectionReferenceIdeal.τ).loc Cert.ProjectionReferenceIdeal.main_arg19) = m' ((c.tc : Thread Cert.ProjectionReferenceIdeal.nD Cert.ProjectionReferenceIdeal.τ).loc Cert.ProjectionReferenceIdeal.main_arg19))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hMerge : Cert.Merge.Facts) (hMergeIdeal : Cert.MergeIdeal.Facts) (hMergeReferenceIdeal : Cert.MergeReferenceIdeal.Facts) (hProjection : Cert.Projection.Facts) (hProjectionIdeal : Cert.ProjectionIdeal.Facts) (hProjectionReferenceIdeal : Cert.ProjectionReferenceIdeal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_routed := hPre_routed)
    ∧ quiescent_ExpertsIdeal (hExpertsIdeal := hExpertsIdeal) (hPre_routed := hPre_routed)
    ∧ quiescent_ExpertsReferenceIdeal (hExpertsReferenceIdeal := hExpertsReferenceIdeal)
    ∧ quiescent_ExpertsReferenceIdeal_pre_routed (hExpertsReferenceIdeal := hExpertsReferenceIdeal) (hPre_routed := hPre_routed)
    ∧ quiescent_Merge (hMerge := hMerge)
    ∧ quiescent_MergeIdeal (hMergeIdeal := hMergeIdeal)
    ∧ quiescent_MergeReferenceIdeal (hMergeReferenceIdeal := hMergeReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_routed := hPre_routed)
    ∧ preserves_Merge_MergeIdeal
    ∧ algebraic_MergeIdeal_MergeReferenceIdeal (hMergeIdeal := hMergeIdeal) (hMergeReferenceIdeal := hMergeReferenceIdeal)
    ∧ preserves_Projection_ProjectionIdeal
    ∧ algebraic_ProjectionIdeal_ProjectionReferenceIdeal (hProjectionIdeal := hProjectionIdeal) (hProjectionReferenceIdeal := hProjectionReferenceIdeal)
-- ==== Pre_finite.lean ====
abbrev S32768x1024 : Shape := ⟨2, ![32768, 1024]⟩
abbrev S512x32768 : Shape := ⟨2, ![512, 32768]⟩
abbrev S2048x1024 : Shape := ⟨2, ![2048, 1024]⟩
abbrev S512x2048 : Shape := ⟨2, ![512, 2048]⟩
abbrev S_ : Shape := ⟨0, ![]⟩

class Facts : Prop where
  bcast_S_S32768x1024 : S_.BroadcastsInDim S32768x1024 (![] : Fin 0 → Fin S32768x1024.rank)
  bcast_S_S2048x1024 : S_.BroadcastsInDim S2048x1024 (![] : Fin 0 → Fin S2048x1024.rank)

variable [Facts]

def fn {F : FTy → Type} [FloatOps F] (main_arg0 : FVec F S32768x1024 .bf16) (main_arg1 : FVec F S32768x1024 .bf16) (main_arg2 : FVec F S512x32768 .bf16) (main_arg3 : FVec F S2048x1024 .bf16) (main_arg4 : FVec F S512x2048 .bf16) : IVec S32768x1024 1 × IVec S32768x1024 1 × IVec S2048x1024 1 :=
  let main_cst : FVec F S_ .bf16 := constant S_ .bf16 0xFF80#16
  let main_v0 : FVec F S32768x1024 .bf16 := broadcastInDim S32768x1024 ![] bcast_S_S32768x1024 main_cst
  let main_v1 : IVec S32768x1024 1 := cmpf .ogt main_arg0 main_v0
  let main_cst_0 : FVec F S_ .bf16 := constant S_ .bf16 0x7F80#16
  let main_v2 : FVec F S32768x1024 .bf16 := broadcastInDim S32768x1024 ![] bcast_S_S32768x1024 main_cst_0
  let main_v3 : IVec S32768x1024 1 := cmpf .olt main_arg0 main_v2
  let main_v4 : IVec S32768x1024 1 := andi main_v1 main_v3
  let main_cst_1 : FVec F S_ .bf16 := constant S_ .bf16 0xFF80#16
  let main_v5 : FVec F S32768x1024 .bf16 := broadcastInDim S32768x1024 ![] bcast_S_S32768x1024 main_cst_1
  let main_v6 : IVec S32768x1024 1 := cmpf .ogt main_arg1 main_v5
  let main_cst_2 : FVec F S_ .bf16 := constant S_ .bf16 0x7F80#16
  let main_v7 : FVec F S32768x1024 .bf16 := broadcastInDim S32768x1024 ![] bcast_S_S32768x1024 main_cst_2
  let main_v8 : IVec S32768x1024 1 := cmpf .olt main_arg1 main_v7
  let main_v9 : IVec S32768x1024 1 := andi main_v6 main_v8
  let main_cst_3 : FVec F S_ .bf16 := constant S_ .bf16 0xFF80#16
  let main_v10 : FVec F S2048x1024 .bf16 := broadcastInDim S2048x1024 ![] bcast_S_S2048x1024 main_cst_3
  let main_v11 : IVec S2048x1024 1 := cmpf .ogt main_arg3 main_v10
  let main_cst_4 : FVec F S_ .bf16 := constant S_ .bf16 0x7F80#16
  let main_v12 : FVec F S2048x1024 .bf16 := broadcastInDim S2048x1024 ![] bcast_S_S2048x1024 main_cst_4
  let main_v13 : IVec S2048x1024 1 := cmpf .olt main_arg3 main_v12
  let main_v14 : IVec S2048x1024 1 := andi main_v11 main_v13
  (main_v4, main_v9, main_v14)
-- ==== Pre_routed.lean ====
abbrev S344 : Shape := ⟨1, ![344]⟩
abbrev S1 : Shape := ⟨1, ![1]⟩
abbrev S176128x1024 : Shape := ⟨2, ![176128, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S344 : S_.BroadcastsInDim S344 (![] : Fin 0 → Fin S344.rank)
  bcast_S_S1 : S_.BroadcastsInDim S1 (![] : Fin 0 → Fin S1.rank)

variable [Facts]

def fn {F : FTy → Type} [FloatOps F] (main_arg0 : IVec S344 32) (main_arg1 : IVec S1 32) (main_arg2 : FVec F S176128x1024 .bf16) (main_arg3 : FVec F S32x1024x2048 .f32) (main_arg4 : FVec F S32x2048 .f32) (main_arg5 : FVec F S32x1024x1024 .f32) (main_arg6 : FVec F S32x1024 .f32) : IVec S344 1 × IVec S1 1 :=
  let main_c : IVec S_ 32 := constantI S_ 32 0#32
  let main_v0 : IVec S344 32 := broadcastInDim S344 ![] bcast_S_S344 main_c
  let main_v1 : IVec S344 1 := cmpi .sge main_arg0 main_v0
  let main_c_0 : IVec S_ 32 := constantI S_ 32 32#32
  let main_v2 : IVec S344 32 := broadcastInDim S344 ![] bcast_S_S344 main_c_0
  let main_v3 : IVec S344 1 := cmpi .slt main_arg0 main_v2
  let main_v4 : IVec S344 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 344#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Kernel.lean ====
abbrev S32768x1024 : Shape := ⟨2, ![32768, 1024]⟩
abbrev S512x32768 : Shape := ⟨2, ![512, 32768]⟩
abbrev S2048x1024 : Shape := ⟨2, ![2048, 1024]⟩
abbrev S512x2048 : Shape := ⟨2, ![512, 2048]⟩
abbrev S256x256 : Shape := ⟨2, ![256, 256]⟩
abbrev S4096x256 : Shape := ⟨2, ![4096, 256]⟩
abbrev S128x4096 : Shape := ⟨2, ![128, 4096]⟩
abbrev S128x256 : Shape := ⟨2, ![128, 256]⟩
abbrev S2x4096x256 : Shape := ⟨3, ![2, 4096, 256]⟩
abbrev S2x256x256 : Shape := ⟨3, ![2, 256, 256]⟩
abbrev S2x1x256 : Shape := ⟨3, ![2, 1, 256]⟩
abbrev S256x128 : Shape := ⟨2, ![256, 128]⟩
abbrev S4096x128 : Shape := ⟨2, ![4096, 128]⟩
abbrev S1x4096x256 : Shape := ⟨3, ![1, 4096, 256]⟩
abbrev S1x256x256 : Shape := ⟨3, ![1, 256, 256]⟩
abbrev S256 : Shape := ⟨1, ![256]⟩
abbrev S1x256 : Shape := ⟨2, ![1, 256]⟩
abbrev S1x1x256 : Shape := ⟨3, ![1, 1, 256]⟩
abbrev S64x4096 : Shape := ⟨2, ![64, 4096]⟩
abbrev S64x256 : Shape := ⟨2, ![64, 256]⟩

abbrev nBuf : Space → Nat
  | .hbm => 6
  | .vmem => 18
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S512x32768, .bf16⟩
  | .hbm, ⟨3, _⟩ => ⟨S2048x1024, .bf16⟩
  | .hbm, ⟨4, _⟩ => ⟨S512x2048, .bf16⟩
  | .hbm, ⟨5, _⟩ => ⟨S512x32768, .bf16⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S128x4096, .bf16⟩
  | .local _ .vmem, ⟨5, _⟩ => ⟨S128x4096, .bf16⟩
  | .local _ .vmem, ⟨6, _⟩ => ⟨S256x256, .bf16⟩
  | .local _ .vmem, ⟨7, _⟩ => ⟨S256x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S2x4096x256, .f32⟩
  | .local _ .vmem, ⟨13, _⟩ => ⟨S2x256x256, .f32⟩
  | .local _ .vmem, ⟨14, _⟩ => ⟨S2x1x256, .f32⟩
  | .local _ .vmem, ⟨15, _⟩ => ⟨S2x4096x256, .f32⟩
  | .local _ .vmem, ⟨16, _⟩ => ⟨S2x256x256, .f32⟩
  | .local _ .vmem, ⟨17, _⟩ => ⟨S2x1x256, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![513], ![false]⟩

def k0_cond2 (i : grid0.Coords) : BitVec 1 :=
  let arg0 : BitVec 32 := BitVec.ofNat 32 (i 0).val
  let c2_i32 : BitVec 32 := 2#32
  let v3 : BitVec 32 := Scalar.remsi arg0 c2_i32
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def k0_cond3 (i : grid0.Coords) : BitVec 1 :=
  let arg0 : BitVec 32 := BitVec.ofNat 32 (i 0).val
  let c2_i32_3 : BitVec 32 := 2#32
  let v7 : BitVec 32 := Scalar.remsi arg0 c2_i32_3
  let c1_i32 : BitVec 32 := 1#32
  let v8 : BitVec 1 := Scalar.cmpi .eq v7 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c511_i32 : BitVec 32 := 511#32
  let v0 : BitVec 32 := Scalar.minsi arg0 c511_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.divsi v0 c16_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c16_i32 c0_i32_6
  let v25 : BitVec 32 := Scalar.extui v24
  let c0_i32_7 : BitVec 32 := 0#32
  let v26 : BitVec 1 := Scalar.cmpi .slt c16_i32 c0_i32_7
  let v27 : BitVec 32 := Scalar.extui v26
  let v28 : BitVec 32 := Scalar.subi v25 v27
  let v29 : BitVec 1 := Scalar.cmpi .ne v23 v28
  let v30 : BitVec 32 := Scalar.remsi v0 c16_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c4_i32 : BitVec 32 := 4#32
  let c0_i32_10 : BitVec 32 := 0#32
  let v35 : BitVec 1 := Scalar.cmpi .eq c4_i32 c0_i32_10
  let c1_i32_11 : BitVec 32 := 1#32
  let v36 : BitVec 32 := Scalar.select v35 c1_i32_11 c4_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c16_i32_15 : BitVec 32 := 16#32
  let c0_i32_16 : BitVec 32 := 0#32
  let v45 : BitVec 1 := Scalar.cmpi .eq c16_i32_15 c0_i32_16
  let c1_i32_17 : BitVec 32 := 1#32
  let v46 : BitVec 32 := Scalar.select v45 c1_i32_17 c16_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c16_i32_21 : BitVec 32 := 16#32
  let v55 : BitVec 32 := Scalar.muli v17 c16_i32_21
  let v56 : BitVec 32 := Scalar.addi v55 v54
  let c0_i32_22 : BitVec 32 := 0#32
  ![v56.toNat, v44.toNat]

def cc0_transform_1 (i : grid0.Coords) : Fin 2 → Nat :=
  let arg0 : BitVec 32 := BitVec.ofNat 32 (i 0).val
  let c511_i32 : BitVec 32 := 511#32
  let v0 : BitVec 32 := Scalar.minsi arg0 c511_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.divsi v0 c16_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c16_i32 c0_i32_6
  let v25 : BitVec 32 := Scalar.extui v24
  let c0_i32_7 : BitVec 32 := 0#32
  let v26 : BitVec 1 := Scalar.cmpi .slt c16_i32 c0_i32_7
  let v27 : BitVec 32 := Scalar.extui v26
  let v28 : BitVec 32 := Scalar.subi v25 v27
  let v29 : BitVec 1 := Scalar.cmpi .ne v23 v28
  let v30 : BitVec 32 := Scalar.remsi v0 c16_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c4_i32 : BitVec 32 := 4#32
  let c0_i32_10 : BitVec 32 := 0#32
  let v35 : BitVec 1 := Scalar.cmpi .eq c4_i32 c0_i32_10
  let c1_i32_11 : BitVec 32 := 1#32
  let v36 : BitVec 32 := Scalar.select v35 c1_i32_11 c4_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c16_i32_15 : BitVec 32 := 16#32
  let c0_i32_16 : BitVec 32 := 0#32
  let v45 : BitVec 1 := Scalar.cmpi .eq c16_i32_15 c0_i32_16
  let c1_i32_17 : BitVec 32 := 1#32
  let v46 : BitVec 32 := Scalar.select v45 c1_i32_17 c16_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  ![v17.toNat, v44.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32 : BitVec 32 := 16#32
  let v19 : BitVec 32 := Scalar.divsi v1 c16_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c16_i32 c0_i32_8
  let v26 : BitVec 32 := Scalar.extui v25
  let c0_i32_9 : BitVec 32 := 0#32
  let v27 : BitVec 1 := Scalar.cmpi .slt c16_i32 c0_i32_9
  let v28 : BitVec 32 := Scalar.extui v27
  let v29 : BitVec 32 := Scalar.subi v26 v28
  let v30 : BitVec 1 := Scalar.cmpi .ne v24 v29
  let v31 : BitVec 32 := Scalar.remsi v1 c16_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let c0_i32_12 : BitVec 32 := 0#32
  let v36 : BitVec 1 := Scalar.cmpi .eq c4_i32 c0_i32_12
  let c1_i32_13 : BitVec 32 := 1#32
  let v37 : BitVec 32 := Scalar.select v36 c1_i32_13 c4_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c16_i32_17 : BitVec 32 := 16#32
  let c0_i32_18 : BitVec 32 := 0#32
  let v46 : BitVec 1 := Scalar.cmpi .eq c16_i32_17 c0_i32_18
  let c1_i32_19 : BitVec 32 := 1#32
  let v47 : BitVec 32 := Scalar.select v46 c1_i32_19 c16_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v45.toNat, v18.toNat]

def cc0_transform_3 (i : grid0.Coords) : Fin 2 → Nat :=
  let arg0 : BitVec 32 := BitVec.ofNat 32 (i 0).val
  let c511_i32 : BitVec 32 := 511#32
  let v0 : BitVec 32 := Scalar.minsi arg0 c511_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.divsi v0 c16_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c16_i32 c0_i32_6
  let v25 : BitVec 32 := Scalar.extui v24
  let c0_i32_7 : BitVec 32 := 0#32
  let v26 : BitVec 1 := Scalar.cmpi .slt c16_i32 c0_i32_7
  let v27 : BitVec 32 := Scalar.extui v26
  let v28 : BitVec 32 := Scalar.subi v25 v27
  let v29 : BitVec 1 := Scalar.cmpi .ne v23 v28
  let v30 : BitVec 32 := Scalar.remsi v0 c16_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c4_i32 : BitVec 32 := 4#32
  let c0_i32_10 : BitVec 32 := 0#32
  let v35 : BitVec 1 := Scalar.cmpi .eq c4_i32 c0_i32_10
  let c1_i32_11 : BitVec 32 := 1#32
  let v36 : BitVec 32 := Scalar.select v35 c1_i32_11 c4_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c16_i32_15 : BitVec 32 := 16#32
  let c0_i32_16 : BitVec 32 := 0#32
  let v45 : BitVec 1 := Scalar.cmpi .eq c16_i32_15 c0_i32_16
  let c1_i32_17 : BitVec 32 := 1#32
  let v46 : BitVec 32 := Scalar.select v45 c1_i32_17 c16_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  ![v17.toNat, v44.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32 : BitVec 32 := 16#32
  let v19 : BitVec 32 := Scalar.divsi v1 c16_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c16_i32 c0_i32_8
  let v26 : BitVec 32 := Scalar.extui v25
  let c0_i32_9 : BitVec 32 := 0#32
  let v27 : BitVec 1 := Scalar.cmpi .slt c16_i32 c0_i32_9
  let v28 : BitVec 32 := Scalar.extui v27
  let v29 : BitVec 32 := Scalar.subi v26 v28
  let v30 : BitVec 1 := Scalar.cmpi .ne v24 v29
  let v31 : BitVec 32 := Scalar.remsi v1 c16_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let c0_i32_12 : BitVec 32 := 0#32
  let v36 : BitVec 1 := Scalar.cmpi .eq c4_i32 c0_i32_12
  let c1_i32_13 : BitVec 32 := 1#32
  let v37 : BitVec 32 := Scalar.select v36 c1_i32_13 c4_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c16_i32_17 : BitVec 32 := 16#32
  let c0_i32_18 : BitVec 32 := 0#32
  let v46 : BitVec 1 := Scalar.cmpi .eq c16_i32_17 c0_i32_18
  let c1_i32_19 : BitVec 32 := 1#32
  let v47 : BitVec 32 := Scalar.select v46 c1_i32_19 c16_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v45.toNat, v18.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32 : BitVec 32 := 16#32
  let v19 : BitVec 32 := Scalar.divsi v1 c16_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c16_i32 c0_i32_8
  let v26 : BitVec 32 := Scalar.extui v25
  let c0_i32_9 : BitVec 32 := 0#32
  let v27 : BitVec 1 := Scalar.cmpi .slt c16_i32 c0_i32_9
  let v28 : BitVec 32 := Scalar.extui v27
  let v29 : BitVec 32 := Scalar.subi v26 v28
  let v30 : BitVec 1 := Scalar.cmpi .ne v24 v29
  let v31 : BitVec 32 := Scalar.remsi v1 c16_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let c0_i32_12 : BitVec 32 := 0#32
  let v36 : BitVec 1 := Scalar.cmpi .eq c4_i32 c0_i32_12
  let c1_i32_13 : BitVec 32 := 1#32
  let v37 : BitVec 32 := Scalar.select v36 c1_i32_13 c4_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c16_i32_17 : BitVec 32 := 16#32
  let c0_i32_18 : BitVec 32 := 0#32
  let v46 : BitVec 1 := Scalar.cmpi .eq c16_i32_17 c0_i32_18
  let c1_i32_19 : BitVec 32 := 1#32
  let v47 : BitVec 32 := Scalar.select v46 c1_i32_19 c16_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c16_i32_23 : BitVec 32 := 16#32
  let v56 : BitVec 32 := Scalar.muli v18 c16_i32_23
  let v57 : BitVec 32 := Scalar.addi v56 v55
  let c0_i32_24 : BitVec 32 := 0#32
  ![v45.toNat, v57.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32768x1024 : Shape := ⟨2, ![32768, 1024]⟩
abbrev S512x32768 : Shape := ⟨2, ![512, 32768]⟩
abbrev S2048x1024 : Shape := ⟨2, ![2048, 1024]⟩
abbrev S512x2048 : Shape := ⟨2, ![512, 2048]⟩
abbrev S8x4096x8x128 : Shape := ⟨4, ![8, 4096, 8, 128]⟩
abbrev S8x256x8x128 : Shape := ⟨4, ![8, 256, 8, 128]⟩
abbrev S8x4352x8x128 : Shape := ⟨4, ![8, 4352, 8, 128]⟩
abbrev S32768x512 : Shape := ⟨2, ![32768, 512]⟩
abbrev S8x4096x8x64 : Shape := ⟨4, ![8, 4096, 8, 64]⟩
abbrev S2048x512 : Shape := ⟨2, ![2048, 512]⟩
abbrev S8x256x8x64 : Shape := ⟨4, ![8, 256, 8, 64]⟩
abbrev S8x4352x8x64 : Shape := ⟨4, ![8, 4352, 8, 64]⟩
abbrev S8x8x4096x4352 : Shape := ⟨4, ![8, 8, 4096, 4352]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S512x32768, .bf16⟩
  | .hbm, ⟨3, _⟩ => ⟨S2048x1024, .bf16⟩
  | .hbm, ⟨4, _⟩ => ⟨S512x2048, .bf16⟩
  | .hbm, ⟨5, _⟩ => ⟨S32768x1024, .f32⟩
  | .hbm, ⟨6, _⟩ => ⟨S8x4096x8x128, .f32⟩
  | .hbm, ⟨7, _⟩ => ⟨S32768x1024, .f32⟩
  | .hbm, ⟨8, _⟩ => ⟨S8x4096x8x128, .f32⟩
  | .hbm, ⟨9, _⟩ => ⟨S2048x1024, .f32⟩
  | .hbm, ⟨10, _⟩ => ⟨S8x256x8x128, .f32⟩
  | .hbm, ⟨11, _⟩ => ⟨S8x4352x8x128, .f32⟩
  | .hbm, ⟨12, _⟩ => ⟨S512x32768, .f32⟩
  | .hbm, ⟨13, _⟩ => ⟨S32768x512, .f32⟩
  | .hbm, ⟨14, _⟩ => ⟨S8x4096x8x64, .f32⟩
  | .hbm, ⟨15, _⟩ => ⟨S512x2048, .f32⟩
  | .hbm, ⟨16, _⟩ => ⟨S2048x512, .f32⟩
  | .hbm, ⟨17, _⟩ => ⟨S8x256x8x64, .f32⟩
  | .hbm, ⟨18, _⟩ => ⟨S8x4352x8x64, .f32⟩
  | .hbm, ⟨19, _⟩ => ⟨S8x8x4096x4352, .f32⟩
  | .hbm, ⟨20, _⟩ => ⟨S_, .f32⟩
  | .hbm, ⟨21, _⟩ => ⟨S_, .f32⟩
  | .hbm, ⟨22, _⟩ => ⟨S8x8x4096x4352, .f32⟩
  | .hbm, ⟨23, _⟩ => ⟨S8x8x4096x4352, .f32⟩
  | .hbm, ⟨24, _⟩ => ⟨S_, .f32⟩
  | .hbm, ⟨25, _⟩ => ⟨S8x8x4096, .f32⟩
  | .hbm, ⟨26, _⟩ => ⟨S_, .f32⟩
  | .hbm, ⟨27, _⟩ => ⟨S8x8x4096, .f32⟩
  | .hbm, ⟨28, _⟩ => ⟨S8x8x4096, .f32⟩
  | .hbm, ⟨29, _⟩ => ⟨S8x8x4096x1, .f32⟩
  | .hbm, ⟨30, _⟩ => ⟨S8x8x4096x4352, .f32⟩
  | .hbm, ⟨31, _⟩ => ⟨S8x8x4096x4352, .f32⟩
  | .hbm, ⟨32, _⟩ => ⟨S8x8x4096x4352, .f32⟩
  | .hbm, ⟨33, _⟩ => ⟨S_, .f32⟩
  | .hbm, ⟨34, _⟩ => ⟨S8x8x4096, .f32⟩
  | .hbm, ⟨35, _⟩ => ⟨S8x8x4096x1, .f32⟩
  | .hbm, ⟨36, _⟩ => ⟨S8x8x4096x4352, .f32⟩
  | .hbm, ⟨37, _⟩ => ⟨S8x8x4096x4352, .f32⟩
  | .hbm, ⟨38, _⟩ => ⟨S8x8x64x4096, .f32⟩
  | .hbm, ⟨39, _⟩ => ⟨S8x4096x8x64, .f32⟩
  | .hbm, ⟨40, _⟩ => ⟨S32768x512, .f32⟩
  | .hbm, ⟨41, _⟩ => ⟨S512x32768, .f32⟩
  | .hbm, ⟨42, _⟩ => ⟨S512x32768, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Experts.lean ====
abbrev S344 : Shape := ⟨1, ![344]⟩
abbrev S1 : Shape := ⟨1, ![1]⟩
abbrev S176128x1024 : Shape := ⟨2, ![176128, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x1024 : Shape := ⟨3, ![32, 1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S512x1024 : Shape := ⟨2, ![512, 1024]⟩
abbrev S1x1024x2048 : Shape := ⟨3, ![1, 1024, 2048]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x1024x256 : Shape := ⟨3, ![1, 1024, 256]⟩
abbrev S1024x256 : Shape := ⟨2, ![1024, 256]⟩
abbrev S1024x128 : Shape := ⟨2, ![1024, 128]⟩
abbrev S1x1024 : Shape := ⟨2, ![1, 1024]⟩

abbrev nBuf : Space → Nat
  | .hbm => 35
  | .vmem => 18
  | .smem => 2
  | _ => 0

abbrev bufTy : (tb : Table) → Fin (tcTables nBuf tb) → BufTy
  | .hbm, ⟨0, _⟩ => ⟨S176128x1024, .bf16⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024, .f32⟩
  | .hbm, ⟨6, _⟩ => ⟨S32x1x1024, .f32⟩
  | .hbm, ⟨7, _⟩ => ⟨S32x1024, .f32⟩
  | .hbm, ⟨8, _⟩ => ⟨S32x1x1024, .f32⟩
  | .hbm, ⟨9, _⟩ => ⟨S32x1x1024, .f32⟩
  | .hbm, ⟨10, _⟩ => ⟨S256, .i32⟩
  | .hbm, ⟨11, _⟩ => ⟨S_, .i32⟩
  | .hbm, ⟨12, _⟩ => ⟨S256, .i32⟩
  | .hbm, ⟨13, _⟩ => ⟨S256, .i1⟩
  | .hbm, ⟨14, _⟩ => ⟨S_, .i32⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S256x1, .i32⟩
  | .hbm, ⟨29, _⟩ => ⟨S1x256, .i32⟩
  | .hbm, ⟨30, _⟩ => ⟨S256x256, .i32⟩
  | .hbm, ⟨31, _⟩ => ⟨S256x256, .i32⟩
  | .hbm, ⟨32, _⟩ => ⟨S256x256, .i1⟩
  | .hbm, ⟨33, _⟩ => ⟨S256x256, .bf16⟩
  | .hbm, ⟨34, _⟩ => ⟨S176128x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S256x256, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .smem, ⟨0, _⟩ => ⟨S344, .i32⟩
  | .local _ .smem, ⟨1, _⟩ => ⟨S1, .i32⟩
  | _, _ => ⟨S176128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![344], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S344.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S344) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S344.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S344) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S344.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S344) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S344.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S344) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S344.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S344) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsReferenceIdeal.lean ====
abbrev S344 : Shape := ⟨1, ![344]⟩
abbrev S1 : Shape := ⟨1, ![1]⟩
abbrev S176128x1024 : Shape := ⟨2, ![176128, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S344x512x1024 : Shape := ⟨3, ![344, 512, 1024]⟩
abbrev S_ : Shape := ⟨0, ![]⟩
abbrev S344x1 : Shape := ⟨2, ![344, 1]⟩
abbrev S344x1024x2048 : Shape := ⟨3, ![344, 1024, 2048]⟩
abbrev S344x512x2048 : Shape := ⟨3, ![344, 512, 2048]⟩
abbrev S344x2048 : Shape := ⟨2, ![344, 2048]⟩
abbrev S344x1x2048 : Shape := ⟨3, ![344, 1, 2048]⟩
abbrev S344x1024x1024 : Shape := ⟨3, ![344, 1024, 1024]⟩
abbrev S344x1024 : Shape := ⟨2, ![344, 1024]⟩
abbrev S344x1x1024 : Shape := ⟨3, ![344, 1, 1024]⟩
abbrev S344x1x1 : Shape := ⟨3, ![344, 1, 1]⟩

abbrev nBuf : Space → Nat
  | .hbm => 94
  | .vmem => 0
  | .smem => 0
  | _ => 0

abbrev bufTy : (tb : Table) → Fin (tcTables nBuf tb) → BufTy
  | .hbm, ⟨0, _⟩ => ⟨S344, .i32⟩
  | .hbm, ⟨1, _⟩ => ⟨S1, .i32⟩
  | .hbm, ⟨2, _⟩ => ⟨S176128x1024, .bf16⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S176128x1024, .f32⟩
  | .hbm, ⟨8, _⟩ => ⟨S344x512x1024, .f32⟩
  | .hbm, ⟨9, _⟩ => ⟨S_, .i32⟩
  | .hbm, ⟨10, _⟩ => ⟨S344, .i32⟩
  | .hbm, ⟨11, _⟩ => ⟨S344, .i1⟩
  | .hbm, ⟨12, _⟩ => ⟨S_, .i32⟩
  | .hbm, ⟨13, _⟩ => ⟨S344, .i32⟩
  | .hbm, ⟨14, _⟩ => ⟨S344, .i32⟩
  | .hbm, ⟨15, _⟩ => ⟨S344, .i32⟩
  | .hbm, ⟨16, _⟩ => ⟨S344x1, .i32⟩
  | .hbm, ⟨17, _⟩ => ⟨S344x1024x2048, .f32⟩
  | .hbm, ⟨18, _⟩ => ⟨S344x512x2048, .f32⟩
  | .hbm, ⟨19, _⟩ => ⟨S_, .i32⟩
  | .hbm, ⟨20, _⟩ => ⟨S344, .i32⟩
  | .hbm, ⟨21, _⟩ => ⟨S344, .i1⟩
  | .hbm, ⟨22, _⟩ => ⟨S_, .i32⟩
  | .hbm, ⟨23, _⟩ => ⟨S344, .i32⟩
  | .hbm, ⟨24, _⟩ => ⟨S344, .i32⟩
  | .hbm, ⟨25, _⟩ => ⟨S344, .i32⟩
  | .hbm, ⟨26, _⟩ => ⟨S344x1, .i32⟩
  | .hbm, ⟨27, _⟩ => ⟨S344x2048, .f32⟩
  | .hbm, ⟨28, _⟩ => ⟨S344x1x2048, .f32⟩
  | .hbm, ⟨29, _⟩ => ⟨S344x512x2048, .f32⟩
  | .hbm, ⟨30, _⟩ => ⟨S344x512x2048, .f32⟩
  | .hbm, ⟨31, _⟩ => ⟨S344x512x1024, .f32⟩
  | .hbm, ⟨32, _⟩ => ⟨S344x512x1024, .f32⟩
  | .hbm, ⟨33, _⟩ => ⟨S_, .f32⟩
  | .hbm, ⟨34, _⟩ => ⟨S344x512x1024, .f32⟩
  | .hbm, ⟨35, _⟩ => ⟨S344x512x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S344x512x1024, .f32⟩
  | .hbm, ⟨40, _⟩ => ⟨S344x512x1024, .f32⟩
  | .hbm, ⟨41, _⟩ => ⟨S_, .f32⟩
  | .hbm, ⟨42, _⟩ => ⟨S344x512x1024, .f32⟩
  | .hbm, ⟨43, _⟩ => ⟨S344x512x1024, .f32⟩
  | .hbm, ⟨44, _⟩ => ⟨S_, .f32⟩
  | .hbm, ⟨45, _⟩ => ⟨S344x512x1024, .f32⟩
  | .hbm, ⟨46, _⟩ => ⟨S344x512x1024, .f32⟩
  | .hbm, ⟨47, _⟩ => ⟨S344x512x1024, .f32⟩
  | .hbm, ⟨48, _⟩ => ⟨S344x512x1024, .f32⟩
  | .hbm, ⟨49, _⟩ => ⟨S_, .f32⟩
  | .hbm, ⟨50, _⟩ => ⟨S344x512x1024, .f32⟩
  | .hbm, ⟨51, _⟩ => ⟨S344x512x1024, .f32⟩
  | .hbm, ⟨52, _⟩ => ⟨S_, .f32⟩
  | .hbm, ⟨53, _⟩ => ⟨S344x512x1024, .f32⟩
  | .hbm, ⟨54, _⟩ => ⟨S344x512x1024, .f32⟩
  | .hbm, ⟨55, _⟩ => ⟨S344x512x1024, .f32⟩
  | .hbm, ⟨56, _⟩ => ⟨S_, .f32⟩
  | .hbm, ⟨57, _⟩ => ⟨S344x512x1024, .f32⟩
  | .hbm, ⟨58, _⟩ => ⟨S344x512x1024, .f32⟩
  | .hbm, ⟨59, _⟩ => ⟨S344x512x1024, .f32⟩
  | .hbm, ⟨60, _⟩ => ⟨S_, .i32⟩
  | .hbm, ⟨61, _⟩ => ⟨S344, .i32⟩
  | .hbm, ⟨62, _⟩ => ⟨S344, .i1⟩
  | .hbm, ⟨63, _⟩ => ⟨S_, .i32⟩
  | .hbm, ⟨64, _⟩ => ⟨S344, .i32⟩
  | .hbm, ⟨65, _⟩ => ⟨S344, .i32⟩
  | .hbm, ⟨66, _⟩ => ⟨S344, .i32⟩
  | .hbm, ⟨67, _⟩ => ⟨S344x1, .i32⟩
  | .hbm, ⟨68, _⟩ => ⟨S344x1024x1024, .f32⟩
  | .hbm, ⟨69, _⟩ => ⟨S344x512x1024, .f32⟩
  | .hbm, ⟨70, _⟩ => ⟨S_, .i32⟩
  | .hbm, ⟨71, _⟩ => ⟨S344, .i32⟩
  | .hbm, ⟨72, _⟩ => ⟨S344, .i1⟩
  | .hbm, ⟨73, _⟩ => ⟨S_, .i32⟩
  | .hbm, ⟨74, _⟩ => ⟨S344, .i32⟩
  | .hbm, ⟨75, _⟩ => ⟨S344, .i32⟩
  | .hbm, ⟨76, _⟩ => ⟨S344, .i32⟩
  | .hbm, ⟨77, _⟩ => ⟨S344x1, .i32⟩
  | .hbm, ⟨78, _⟩ => ⟨S344x1024, .f32⟩
  | .hbm, ⟨79, _⟩ => ⟨S344x1x1024, .f32⟩
  | .hbm, ⟨80, _⟩ => ⟨S344x512x1024, .f32⟩
  | .hbm, ⟨81, _⟩ => ⟨S344x512x1024, .f32⟩
  | .hbm, ⟨82, _⟩ => ⟨S344, .i32⟩
  | .hbm, ⟨83, _⟩ => ⟨S344x1x1, .i32⟩
  | .hbm, ⟨84, _⟩ => ⟨S_, .i32⟩
  | .hbm, ⟨85, _⟩ => ⟨S344x1x1, .i32⟩
  | .hbm, ⟨86, _⟩ => ⟨S344x1x1, .i1⟩
  | .hbm, ⟨87, _⟩ => ⟨S_, .f32⟩
  | .hbm, ⟨88, _⟩ => ⟨S_, .f32⟩
  | .hbm, ⟨89, _⟩ => ⟨S344x512x1024, .i1⟩
  | .hbm, ⟨90, _⟩ => ⟨S344x512x1024, .f32⟩
  | .hbm, ⟨91, _⟩ => ⟨S344x512x1024, .f32⟩
  | .hbm, ⟨92, _⟩ => ⟨S176128x1024, .f32⟩
  | .hbm, ⟨93, _⟩ => ⟨S176128x1024, .bf16⟩
  | _, _ => ⟨S344, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Merge.lean ====
abbrev S512x32768 : Shape := ⟨2, ![512, 32768]⟩
abbrev S32768x1024 : Shape := ⟨2, ![32768, 1024]⟩
abbrev S16x1x6144 : Shape := ⟨3, ![16, 1, 6144]⟩
abbrev S512x1024 : Shape := ⟨2, ![512, 1024]⟩
abbrev S1024x1024 : Shape := ⟨2, ![1024, 1024]⟩
abbrev S1x1024 : Shape := ⟨2, ![1, 1024]⟩
abbrev S32x1024 : Shape := ⟨2, ![32, 1024]⟩
abbrev S32x1 : Shape := ⟨2, ![32, 1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32 : Shape := ⟨1, ![32]⟩
abbrev S1x32 : Shape := ⟨2, ![1, 32]⟩
abbrev S32x32 : Shape := ⟨2, ![32, 32]⟩
abbrev S4x32768 : Shape := ⟨2, ![4, 32768]⟩
abbrev S1024x128 : Shape := ⟨2, ![1024, 128]⟩
abbrev S512x256 : Shape := ⟨2, ![512, 256]⟩
abbrev S256x1024 : Shape := ⟨2, ![256, 1024]⟩
abbrev S1x1x1024 : Shape := ⟨3, ![1, 1, 1024]⟩
abbrev S4x256 : Shape := ⟨2, ![4, 256]⟩
abbrev S8x128 : Shape := ⟨2, ![8, 128]⟩
abbrev S32x128 : Shape := ⟨2, ![32, 128]⟩
abbrev S32x256 : Shape := ⟨2, ![32, 256]⟩
abbrev S128 : Shape := ⟨1, ![128]⟩
abbrev S1x128 : Shape := ⟨2, ![1, 128]⟩
abbrev S5x128 : Shape := ⟨2, ![5, 128]⟩

abbrev nBuf : Space → Nat
  | .hbm => 33
  | .vmem => 37
  | .smem => 0
  | _ => 0

abbrev bufTy : (tb : Table) → Fin (tcTables nBuf tb) → BufTy
  | .hbm, ⟨0, _⟩ => ⟨S512x32768, .bf16⟩
  | .hbm, ⟨1, _⟩ => ⟨S512x32768, .bf16⟩
  | .hbm, ⟨2, _⟩ => ⟨S32768x1024, .bf16⟩
  | .hbm, ⟨3, _⟩ => ⟨S32768x1024, .bf16⟩
  | .hbm, ⟨4, _⟩ => ⟨S32768x1024, .f32⟩
  | .hbm, ⟨5, _⟩ => ⟨S16x1x6144, .f32⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S32x1024, .f32⟩
  | .hbm, ⟨11, _⟩ => ⟨S32x1, .f32⟩
  | .hbm, ⟨12, _⟩ => ⟨S256, .i32⟩
  | .hbm, ⟨13, _⟩ => ⟨S256x1, .i32⟩
  | .hbm, ⟨14, _⟩ => ⟨S256, .i32⟩
  | .hbm, ⟨15, _⟩ => ⟨S1x256, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S256x256, .bf16⟩
  | .hbm, ⟨20, _⟩ => ⟨S32, .i32⟩
  | .hbm, ⟨21, _⟩ => ⟨S1x32, .i32⟩
  | .hbm, ⟨22, _⟩ => ⟨S32, .i32⟩
  | .hbm, ⟨23, _⟩ => ⟨S32x1, .i32⟩
  | .hbm, ⟨24, _⟩ => ⟨S32x32, .i32⟩
  | .hbm, ⟨25, _⟩ => ⟨S32x32, .i32⟩
  | .hbm, ⟨26, _⟩ => ⟨S32x32, .i1⟩
  | .hbm, ⟨27, _⟩ => ⟨S32x32, .bf16⟩
  | .hbm, ⟨28, _⟩ => ⟨S32768x1024, .f32⟩
  | .hbm, ⟨29, _⟩ => ⟨S32768x1024, .bf16⟩
  | .hbm, ⟨30, _⟩ => ⟨S4x32768, .i32⟩
  | .hbm, ⟨31, _⟩ => ⟨S4x32768, .f32⟩
  | .hbm, ⟨32, _⟩ => ⟨S1024x128, .i32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S32x1024, .f32⟩
  | .local _ .vmem, ⟨21, _⟩ => ⟨S32x1, .f32⟩
  | .local _ .vmem, ⟨22, _⟩ => ⟨S256x256, .bf16⟩
  | .local _ .vmem, ⟨23, _⟩ => ⟨S32x32, .bf16⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S4x256, .i32⟩
  | .local _ .vmem, ⟨29, _⟩ => ⟨S4x256, .i32⟩
  | .local _ .vmem, ⟨30, _⟩ => ⟨S4x256, .f32⟩
  | .local _ .vmem, ⟨31, _⟩ => ⟨S4x256, .f32⟩
  | .local _ .vmem, ⟨32, _⟩ => ⟨S8x128, .i32⟩
  | .local _ .vmem, ⟨33, _⟩ => ⟨S8x128, .i32⟩
  | .local _ .vmem, ⟨34, _⟩ => ⟨S32x128, .f32⟩
  | .local _ .vmem, ⟨35, _⟩ => ⟨S32x256, .f32⟩
  | .local _ .vmem, ⟨36, _⟩ => ⟨S32x256, .f32⟩
  | _, _ => ⟨S512x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v16_3 : Ref sig .tc := ⟨.hbm, 31, rfl⟩
abbrev main_v16_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨1, ![129], ![false]⟩

def k0_cond2 (i : grid0.Coords) : BitVec 1 :=
  let arg0 : BitVec 32 := BitVec.ofNat 32 (i 0).val
  let c2_i32 : BitVec 32 := 2#32
  let v3 : BitVec 32 := Scalar.remsi arg0 c2_i32
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def k0_cond3 (i : grid0.Coords) : BitVec 1 :=
  let arg0 : BitVec 32 := BitVec.ofNat 32 (i 0).val
  let c2_i32_3 : BitVec 32 := 2#32
  let v7 : BitVec 32 := Scalar.remsi arg0 c2_i32_3
  let c1_i32 : BitVec 32 := 1#32
  let v8 : BitVec 1 := Scalar.cmpi .eq v7 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c2_i32 : BitVec 32 := 2#32
  let c0_i32_5 : BitVec 32 := 0#32
  ![v17.toNat, c0_i32_4.toNat, c2_i32.toNat]

def cc0_transform_6 (i : grid0.Coords) : Fin 3 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_7 (i : grid0.Coords) : Fin 3 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_19 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_20 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x32 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x256 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x128 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== MergeReferenceIdeal.lean ====
abbrev S512x32768 : Shape := ⟨2, ![512, 32768]⟩
abbrev S32768x1024 : Shape := ⟨2, ![32768, 1024]⟩
abbrev S16x1x6144 : Shape := ⟨3, ![16, 1, 6144]⟩
abbrev S512x1024 : Shape := ⟨2, ![512, 1024]⟩
abbrev S1024x1024 : Shape := ⟨2, ![1024, 1024]⟩
abbrev S1x1024 : Shape := ⟨2, ![1, 1024]⟩
abbrev S32x1024 : Shape := ⟨2, ![32, 1024]⟩
abbrev S32x1 : Shape := ⟨2, ![32, 1]⟩
abbrev S8x1x6144 : Shape := ⟨3, ![8, 1, 6144]⟩
abbrev S8x6144 : Shape := ⟨2, ![8, 6144]⟩
abbrev S8x6x1024 : Shape := ⟨3, ![8, 6, 1024]⟩
abbrev S8x1x1024 : Shape := ⟨3, ![8, 1, 1024]⟩
abbrev S8x1024 : Shape := ⟨2, ![8, 1024]⟩
abbrev S32768x512 : Shape := ⟨2, ![32768, 512]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S512x32768, .bf16⟩
  | .hbm, ⟨1, _⟩ => ⟨S512x32768, .bf16⟩
  | .hbm, ⟨2, _⟩ => ⟨S32768x1024, .bf16⟩
  | .hbm, ⟨3, _⟩ => ⟨S32768x1024, .bf16⟩
  | .hbm, ⟨4, _⟩ => ⟨S32768x1024, .f32⟩
  | .hbm, ⟨5, _⟩ => ⟨S16x1x6144, .f32⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S32x1024, .f32⟩
  | .hbm, ⟨11, _⟩ => ⟨S32x1, .f32⟩
  | .hbm, ⟨12, _⟩ => ⟨S8x1x6144, .f32⟩
  | .hbm, ⟨13, _⟩ => ⟨S8x6144, .f32⟩
  | .hbm, ⟨14, _⟩ => ⟨S8x6x1024, .f32⟩
  | .hbm, ⟨15, _⟩ => ⟨S8x1x1024, .f32⟩
  | .hbm, ⟨16, _⟩ => ⟨S8x1024, .f32⟩
  | .hbm, ⟨17, _⟩ => ⟨S8x1x1024, .f32⟩
  | .hbm, ⟨18, _⟩ => ⟨S8x1x1024, .f32⟩
  | .hbm, ⟨19, _⟩ => ⟨S8x1024, .f32⟩
  | .hbm, ⟨20, _⟩ => ⟨S8x1x1024, .f32⟩
  | .hbm, ⟨21, _⟩ => ⟨S8x1x1024, .f32⟩
  | .hbm, ⟨22, _⟩ => ⟨S8x1024, .f32⟩
  | .hbm, ⟨23, _⟩ => ⟨S8x1x1024, .f32⟩
  | .hbm, ⟨24, _⟩ => ⟨S32768x1024, .f32⟩
  | .hbm, ⟨25, _⟩ => ⟨S512x32768, .f32⟩
  | .hbm, ⟨26, _⟩ => ⟨S32768x512, .f32⟩
  | .hbm, ⟨27, _⟩ => ⟨S512x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S512x32768, .f32⟩
  | .hbm, ⟨32, _⟩ => ⟨S32768x512, .f32⟩
  | .hbm, ⟨33, _⟩ => ⟨S512x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S8x4096x1024, .f32⟩
  | .hbm, ⟨38, _⟩ => ⟨S1024x1024, .f32⟩
  | .hbm, ⟨39, _⟩ => ⟨S32768x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1, .f32⟩
  | .hbm, ⟨55, _⟩ => ⟨S8x4096x1024, .f32⟩
  | .hbm, ⟨56, _⟩ => ⟨S8x4096x1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | .hbm, ⟨60, _⟩ => ⟨S_, .f32⟩
  | .hbm, ⟨61, _⟩ => ⟨S8x1x1024, .f32⟩
  | .hbm, ⟨62, _⟩ => ⟨S8x1x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S32768x1024, .f32⟩
  | .hbm, ⟨68, _⟩ => ⟨S32768x1024, .f32⟩
  | .hbm, ⟨69, _⟩ => ⟨S32768x1024, .bf16⟩
  | _, _ => ⟨S512x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst : Ref sig .tc := ⟨.hbm, 45, rfl⟩
abbrev main_v33 : Ref sig .tc := ⟨.hbm, 46, rfl⟩
abbrev main_v34 : Ref sig .tc := ⟨.hbm, 47, rfl⟩
abbrev main_cst_0 : Ref sig .tc := ⟨.hbm, 48, rfl⟩
abbrev main_v35 : Ref sig .tc := ⟨.hbm, 49, rfl⟩
abbrev main_v36 : Ref sig .tc := ⟨.hbm, 50, rfl⟩
abbrev main_cst_1 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_2 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== Projection.lean ====
abbrev S32768x1024 : Shape := ⟨2, ![32768, 1024]⟩
abbrev S16x1x6144 : Shape := ⟨3, ![16, 1, 6144]⟩
abbrev S1x1024 : Shape := ⟨2, ![1, 1024]⟩
abbrev S1024x3456 : Shape := ⟨2, ![1024, 3456]⟩
abbrev S4096x128 : Shape := ⟨2, ![4096, 128]⟩
abbrev S1x256 : Shape := ⟨2, ![1, 256]⟩
abbrev S256x1024 : Shape := ⟨2, ![256, 1024]⟩
abbrev S512x256 : Shape := ⟨2, ![512, 256]⟩
abbrev S128x1024 : Shape := ⟨2, ![128, 1024]⟩
abbrev S1x128 : Shape := ⟨2, ![1, 128]⟩
abbrev S1x384 : Shape := ⟨2, ![1, 384]⟩
abbrev S384x1024 : Shape := ⟨2, ![384, 1024]⟩
abbrev S1x512 : Shape := ⟨2, ![1, 512]⟩
abbrev S1024 : Shape := ⟨1, ![1024]⟩
abbrev S_ : Shape := ⟨0, ![]⟩
abbrev S1024x1 : Shape := ⟨2, ![1024, 1]⟩
abbrev S128 : Shape := ⟨1, ![128]⟩
abbrev S1024x128 : Shape := ⟨2, ![1024, 128]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S256x512 : Shape := ⟨2, ![256, 512]⟩
abbrev S512x32768 : Shape := ⟨2, ![512, 32768]⟩
abbrev S32768x128 : Shape := ⟨2, ![32768, 128]⟩
abbrev S128x32768 : Shape := ⟨2, ![128, 32768]⟩
abbrev S32768x512 : Shape := ⟨2, ![32768, 512]⟩
abbrev S512x1024 : Shape := ⟨2, ![512, 1024]⟩
abbrev S1x1x1024 : Shape := ⟨3, ![1, 1, 1024]⟩
abbrev S512x512 : Shape := ⟨2, ![512, 512]⟩
abbrev S512x3456 : Shape := ⟨2, ![512, 3456]⟩
abbrev S128x128 : Shape := ⟨2, ![128, 128]⟩
abbrev S256x128 : Shape := ⟨2, ![256, 128]⟩
abbrev S512x384 : Shape := ⟨2, ![512, 384]⟩

abbrev nBuf : Space → Nat
  | .hbm => 86
  | .vmem => 50
  | .smem => 0
  | _ => 0

abbrev bufTy : (tb : Table) → Fin (tcTables nBuf tb) → BufTy
  | .hbm, ⟨0, _⟩ => ⟨S32768x1024, .f32⟩
  | .hbm, ⟨1, _⟩ => ⟨S16x1x6144, .f32⟩
  | .hbm, ⟨2, _⟩ => ⟨S1x1024, .f32⟩
  | .hbm, ⟨3, _⟩ => ⟨S1024x3456, .bf16⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S1x256, .f32⟩
  | .hbm, ⟨11, _⟩ => ⟨S256x1024, .bf16⟩
  | .hbm, ⟨12, _⟩ => ⟨S512x256, .bf16⟩
  | .hbm, ⟨13, _⟩ => ⟨S128x1024, .bf16⟩
  | .hbm, ⟨14, _⟩ => ⟨S1x1024, .f32⟩
  | .hbm, ⟨15, _⟩ => ⟨S1x128, .f32⟩
  | .hbm, ⟨16, _⟩ => ⟨S1x384, .f32⟩
  | .hbm, ⟨17, _⟩ => ⟨S384x1024, .bf16⟩
  | .hbm, ⟨18, _⟩ => ⟨S1x1024, .f32⟩
  | .hbm, ⟨19, _⟩ => ⟨S1x512, .f32⟩
  | .hbm, ⟨20, _⟩ => ⟨S1024, .i32⟩
  | .hbm, ⟨21, _⟩ => ⟨S_, .i32⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S128, .i32⟩
  | .hbm, ⟨41, _⟩ => ⟨S1x128, .i32⟩
  | .hbm, ⟨42, _⟩ => ⟨S1024x128, .i32⟩
  | .hbm, ⟨43, _⟩ => ⟨S1024x128, .i32⟩
  | .hbm, ⟨44, _⟩ => ⟨S1024x128, .i1⟩
  | .hbm, ⟨45, _⟩ => ⟨S1024x128, .bf16⟩
  | .hbm, ⟨46, _⟩ => ⟨S128x1024, .bf16⟩
  | .hbm, ⟨47, _⟩ => ⟨S128x1024, .bf16⟩
  | .hbm, ⟨48, _⟩ => ⟨S256x1024, .bf16⟩
  | .hbm, ⟨49, _⟩ => ⟨S512, .i32⟩
  | .hbm, ⟨50, _⟩ => ⟨S_, .i32⟩
  | .hbm, ⟨51, _⟩ => ⟨S_, .i32⟩
  | .hbm, ⟨52, _⟩ => ⟨S512, .i32⟩
  | .hbm, ⟨53, _⟩ => ⟨S512, .i32⟩
  | .hbm, ⟨54, _⟩ => ⟨S512, .i32⟩
  | .hbm, ⟨55, _⟩ => ⟨S_, .i32⟩
  | .hbm, ⟨56, _⟩ => ⟨S512, .i32⟩
  | .hbm, ⟨57, _⟩ => ⟨S512, .i1⟩
  | .hbm, ⟨58, _⟩ => ⟨S512, .i32⟩
  | .hbm, ⟨59, _⟩ => ⟨S512, .i32⟩
  | .hbm, ⟨60, _⟩ => ⟨S_, .i32⟩
  | .hbm, ⟨61, _⟩ => ⟨S512, .i32⟩
  | .hbm, ⟨62, _⟩ => ⟨S512, .i1⟩
  | .hbm, ⟨63, _⟩ => ⟨S512, .i1⟩
  | .hbm, ⟨64, _⟩ => ⟨S_, .i32⟩
  | .hbm, ⟨65, _⟩ => ⟨S512, .i32⟩
  | .hbm, ⟨66, _⟩ => ⟨S512, .i32⟩
  | .hbm, ⟨67, _⟩ => ⟨S512, .i32⟩
  | .hbm, ⟨68, _⟩ => ⟨S512x1, .i32⟩
  | .hbm, ⟨69, _⟩ => ⟨S128, .i32⟩
  | .hbm, ⟨70, _⟩ => ⟨S1x128, .i32⟩
  | .hbm, ⟨71, _⟩ => ⟨S512x128, .i32⟩
  | .hbm, ⟨72, _⟩ => ⟨S512x128, .i32⟩
  | .hbm, ⟨73, _⟩ => ⟨S512x128, .i1⟩
  | .hbm, ⟨74, _⟩ => ⟨S512x128, .bf16⟩
  | .hbm, ⟨75, _⟩ => ⟨S128x512, .bf16⟩
  | .hbm, ⟨76, _⟩ => ⟨S128x512, .bf16⟩
  | .hbm, ⟨77, _⟩ => ⟨S256x512, .bf16⟩
  | .hbm, ⟨78, _⟩ => ⟨S32768x1024, .bf16⟩
  | .hbm, ⟨79, _⟩ => ⟨S512x32768, .bf16⟩
  | .hbm, ⟨80, _⟩ => ⟨S32768x128, .bf16⟩
  | .hbm, ⟨81, _⟩ => ⟨S128x32768, .bf16⟩
  | .hbm, ⟨82, _⟩ => ⟨S32768x1024, .bf16⟩
  | .hbm, ⟨83, _⟩ => ⟨S32768x512, .bf16⟩
  | .hbm, ⟨84, _⟩ => ⟨S32768x1024, .bf16⟩
  | .hbm, ⟨85, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3456, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S1x256, .f32⟩
  | .local _ .vmem, ⟨21, _⟩ => ⟨S256x1024, .bf16⟩
  | .local _ .vmem, ⟨22, _⟩ => ⟨S512x256, .bf16⟩
  | .local _ .vmem, ⟨23, _⟩ => ⟨S128x1024, .bf16⟩
  | .local _ .vmem, ⟨24, _⟩ => ⟨S1x1024, .f32⟩
  | .local _ .vmem, ⟨25, _⟩ => ⟨S1x128, .f32⟩
  | .local _ .vmem, ⟨26, _⟩ => ⟨S1024x128, .bf16⟩
  | .local _ .vmem, ⟨27, _⟩ => ⟨S256x1024, .bf16⟩
  | .local _ .vmem, ⟨28, _⟩ => ⟨S512x128, .bf16⟩
  | .local _ .vmem, ⟨29, _⟩ => ⟨S256x512, .bf16⟩
  | .local _ .vmem, ⟨30, _⟩ => ⟨S1x384, .f32⟩
  | .local _ .vmem, ⟨31, _⟩ => ⟨S384x1024, .bf16⟩
  | .local _ .vmem, ⟨32, _⟩ => ⟨S1x1024, .f32⟩
  | .local _ .vmem, ⟨33, _⟩ => ⟨S1x512, .f32⟩
  | .local _ .vmem, ⟨34, _⟩ => ⟨S512x1024, .bf16⟩
  | .local _ .vmem, ⟨35, _⟩ => ⟨S512x1024, .bf16⟩
  | .local _ .vmem, ⟨36, _⟩ => ⟨S512x512, .bf16⟩
  | .local _ .vmem, ⟨37, _⟩ => ⟨S512x512, .bf16⟩
  | .local _ .vmem, ⟨38, _⟩ => ⟨S512x128, .bf16⟩
  | .local _ .vmem, ⟨39, _⟩ => ⟨S512x128, .bf16⟩
  | .local _ .vmem, ⟨40, _⟩ => ⟨S128x512, .bf16⟩
  | .local _ .vmem, ⟨41, _⟩ => ⟨S128x512, .bf16⟩
  | .local _ .vmem, ⟨42, _⟩ => ⟨S512x1024, .bf16⟩
  | .local _ .vmem, ⟨43, _⟩ => ⟨S512x1024, .bf16⟩
  | .local _ .vmem, ⟨44, _⟩ => ⟨S512x512, .bf16⟩
  | .local _ .vmem, ⟨45, _⟩ => ⟨S512x512, .bf16⟩
  | .local _ .vmem, ⟨46, _⟩ => ⟨S512x1024, .bf16⟩
  | .local _ .vmem, ⟨47, _⟩ => ⟨S512x1024, .bf16⟩
  | .local _ .vmem, ⟨48, _⟩ => ⟨S512x1024, .bf16⟩
  | .local _ .vmem, ⟨49, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_c_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24_0 : Ref sig .tc := ⟨.hbm, 78, rfl⟩
abbrev main_v24_1 : Ref sig .tc := ⟨.hbm, 79, rfl⟩
abbrev main_v24_2 : Ref sig .tc := ⟨.hbm, 80, rfl⟩
abbrev main_v24_3 : Ref sig .tc := ⟨.hbm, 81, rfl⟩
abbrev main_v24_4 : Ref sig .tc := ⟨.hbm, 82, rfl⟩
abbrev main_v24_5 : Ref sig .tc := ⟨.hbm, 83, rfl⟩
abbrev main_v24_6 : Ref sig .tc := ⟨.hbm, 84, rfl⟩
abbrev main_v24_7 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg24_0 : Ref sig .tc := ⟨.vmem, 33, rfl⟩
abbrev cc0_stg25_0 : Ref sig .tc := ⟨.vmem, 34, rfl⟩
abbrev cc0_stg25_1 : Ref sig .tc := ⟨.vmem, 35, rfl⟩
abbrev cc0_stg26_0 : Ref sig .tc := ⟨.vmem, 36, rfl⟩
abbrev cc0_stg26_1 : Ref sig .tc := ⟨.vmem, 37, rfl⟩
abbrev cc0_stg27_0 : Ref sig .tc := ⟨.vmem, 38, rfl⟩
abbrev cc0_stg27_1 : Ref sig .tc := ⟨.vmem, 39, rfl⟩
abbrev cc0_stg28_0 : Ref sig .tc := ⟨.vmem, 40, rfl⟩
abbrev cc0_stg28_1 : Ref sig .tc := ⟨.vmem, 41, rfl⟩
abbrev cc0_stg29_0 : Ref sig .tc := ⟨.vmem, 42, rfl⟩
abbrev cc0_stg29_1 : Ref sig .tc := ⟨.vmem, 43, rfl⟩
abbrev cc0_stg30_0 : Ref sig .tc := ⟨.vmem, 44, rfl⟩
abbrev cc0_stg30_1 : Ref sig .tc := ⟨.vmem, 45, rfl⟩
abbrev cc0_stg31_0 : Ref sig .tc := ⟨.vmem, 46, rfl⟩
abbrev cc0_stg31_1 : Ref sig .tc := ⟨.vmem, 47, rfl⟩
abbrev cc0_stg32_0 : Ref sig .tc := ⟨.vmem, 48, rfl⟩
abbrev cc0_stg32_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem23_0 : DmaSem sig := 32
abbrev cc0_sem24_0 : DmaSem sig := 33
abbrev cc0_sem25_0 : DmaSem sig := 34
abbrev cc0_sem25_1 : DmaSem sig := 35
abbrev cc0_sem26_0 : DmaSem sig := 36
abbrev cc0_sem26_1 : DmaSem sig := 37
abbrev cc0_sem27_0 : DmaSem sig := 38
abbrev cc0_sem27_1 : DmaSem sig := 39
abbrev cc0_sem28_0 : DmaSem sig := 40
abbrev cc0_sem28_1 : DmaSem sig := 41
abbrev cc0_sem29_0 : DmaSem sig := 42
abbrev cc0_sem29_1 : DmaSem sig := 43
abbrev cc0_sem30_0 : DmaSem sig := 44
abbrev cc0_sem30_1 : DmaSem sig := 45
abbrev cc0_sem31_0 : DmaSem sig := 46
abbrev cc0_sem31_1 : DmaSem sig := 47
abbrev cc0_sem32_0 : DmaSem sig := 48
abbrev cc0_sem32_1 : DmaSem sig := 49

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x512 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x384 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S384x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S512x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x128 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S128x512 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x1024 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S512x512 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S512x1024 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S512x1024 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]
-- ==== ProjectionReferenceIdeal.lean ====
abbrev S32768x1024 : Shape := ⟨2, ![32768, 1024]⟩
abbrev S16x1x6144 : Shape := ⟨3, ![16, 1, 6144]⟩
abbrev S1x1024 : Shape := ⟨2, ![1, 1024]⟩
abbrev S1024x3456 : Shape := ⟨2, ![1024, 3456]⟩
abbrev S4096x128 : Shape := ⟨2, ![4096, 128]⟩
abbrev S1x256 : Shape := ⟨2, ![1, 256]⟩
abbrev S256x1024 : Shape := ⟨2, ![256, 1024]⟩
abbrev S512x256 : Shape := ⟨2, ![512, 256]⟩
abbrev S128x1024 : Shape := ⟨2, ![128, 1024]⟩
abbrev S1x128 : Shape := ⟨2, ![1, 128]⟩
abbrev S1x384 : Shape := ⟨2, ![1, 384]⟩
abbrev S384x1024 : Shape := ⟨2, ![384, 1024]⟩
abbrev S1x512 : Shape := ⟨2, ![1, 512]⟩
abbrev S8x1x6144 : Shape := ⟨3, ![8, 1, 6144]⟩
abbrev S8x6144 : Shape := ⟨2, ![8, 6144]⟩
abbrev S8x6x1024 : Shape := ⟨3, ![8, 6, 1024]⟩
abbrev S8x1x1024 : Shape := ⟨3, ![8, 1, 1024]⟩
abbrev S8x1024 : Shape := ⟨2, ![8, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x256 : Shape := ⟨2, ![1024, 256]⟩
abbrev S32768x256 : Shape := ⟨2, ![32768, 256]⟩
abbrev S32768 : Shape := ⟨1, ![32768]⟩
abbrev S32768x1 : Shape := ⟨2, ![32768, 1]⟩
abbrev S256x512 : Shape := ⟨2, ![256, 512]⟩
abbrev S32768x512 : Shape := ⟨2, ![32768, 512]⟩
abbrev S1024x128 : Shape := ⟨2, ![1024, 128]⟩
abbrev S32768x128 : Shape := ⟨2, ![32768, 128]⟩
abbrev S1024x1024 : Shape := ⟨2, ![1024, 1024]⟩
abbrev S512x32768 : Shape := ⟨2, ![512, 32768]⟩
abbrev S128x32768 : Shape := ⟨2, ![128, 32768]⟩

abbrev nBuf : Space → Nat
  | .hbm => 104
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x1x6144, .f32⟩
  | .hbm, ⟨2, _⟩ => ⟨S1x1024, .f32⟩
  | .hbm, ⟨3, _⟩ => ⟨S1024x3456, .bf16⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S1x256, .f32⟩
  | .hbm, ⟨11, _⟩ => ⟨S256x1024, .bf16⟩
  | .hbm, ⟨12, _⟩ => ⟨S512x256, .bf16⟩
  | .hbm, ⟨13, _⟩ => ⟨S128x1024, .bf16⟩
  | .hbm, ⟨14, _⟩ => ⟨S1x1024, .f32⟩
  | .hbm, ⟨15, _⟩ => ⟨S1x128, .f32⟩
  | .hbm, ⟨16, _⟩ => ⟨S1x384, .f32⟩
  | .hbm, ⟨17, _⟩ => ⟨S384x1024, .bf16⟩
  | .hbm, ⟨18, _⟩ => ⟨S1x1024, .f32⟩
  | .hbm, ⟨19, _⟩ => ⟨S1x512, .f32⟩
  | .hbm, ⟨20, _⟩ => ⟨S8x1x6144, .f32⟩
  | .hbm, ⟨21, _⟩ => ⟨S8x6144, .f32⟩
  | .hbm, ⟨22, _⟩ => ⟨S8x6x1024, .f32⟩
  | .hbm, ⟨23, _⟩ => ⟨S8x1x1024, .f32⟩
  | .hbm, ⟨24, _⟩ => ⟨S8x1024, .f32⟩
  | .hbm, ⟨25, _⟩ => ⟨S8x1x1024, .f32⟩
  | .hbm, ⟨26, _⟩ => ⟨S8x1x1024, .f32⟩
  | .hbm, ⟨27, _⟩ => ⟨S8x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S8x4096x1, .f32⟩
  | .hbm, ⟨41, _⟩ => ⟨S8x4096x1024, .f32⟩
  | .hbm, ⟨42, _⟩ => ⟨S8x4096x1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | .hbm, ⟨46, _⟩ => ⟨S_, .f32⟩
  | .hbm, ⟨47, _⟩ => ⟨S8x1x1024, .f32⟩
  | .hbm, ⟨48, _⟩ => ⟨S8x1x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S32768x1024, .f32⟩
  | .hbm, ⟨54, _⟩ => ⟨S1024x3456, .f32⟩
  | .hbm, ⟨55, _⟩ => ⟨S1024x256, .f32⟩
  | .hbm, ⟨56, _⟩ => ⟨S32768x256, .f32⟩
  | .hbm, ⟨57, _⟩ => ⟨S32768x256, .f32⟩
  | .hbm, ⟨58, _⟩ => ⟨S_, .f32⟩
  | .hbm, ⟨59, _⟩ => ⟨S32768, .f32⟩
  | .hbm, ⟨60, _⟩ => ⟨S32768x1, .f32⟩
  | .hbm, ⟨61, _⟩ => ⟨S_, .f32⟩
  | .hbm, ⟨62, _⟩ => ⟨S32768x1, .f32⟩
  | .hbm, ⟨63, _⟩ => ⟨S32768x1, .f32⟩
  | .hbm, ⟨64, _⟩ => ⟨S_, .f32⟩
  | .hbm, ⟨65, _⟩ => ⟨S32768x1, .f32⟩
  | .hbm, ⟨66, _⟩ => ⟨S32768x1, .f32⟩
  | .hbm, ⟨67, _⟩ => ⟨S32768x1, .f32⟩
  | .hbm, ⟨68, _⟩ => ⟨S32768x256, .f32⟩
  | .hbm, ⟨69, _⟩ => ⟨S32768x256, .f32⟩
  | .hbm, ⟨70, _⟩ => ⟨S32768x256, .f32⟩
  | .hbm, ⟨71, _⟩ => ⟨S32768x256, .f32⟩
  | .hbm, ⟨72, _⟩ => ⟨S512x256, .f32⟩
  | .hbm, ⟨73, _⟩ => ⟨S256x512, .f32⟩
  | .hbm, ⟨74, _⟩ => ⟨S32768x512, .f32⟩
  | .hbm, ⟨75, _⟩ => ⟨S128x1024, .f32⟩
  | .hbm, ⟨76, _⟩ => ⟨S1024x128, .f32⟩
  | .hbm, ⟨77, _⟩ => ⟨S32768x128, .f32⟩
  | .hbm, ⟨78, _⟩ => ⟨S1024x1024, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S_, .f32⟩
  | .hbm, ⟨83, _⟩ => ⟨S32768x1024, .f32⟩
  | .hbm, ⟨84, _⟩ => ⟨S32768x1024, .f32⟩
  | .hbm, ⟨85, _⟩ => ⟨S_, .f32⟩
  | .hbm, ⟨86, _⟩ => ⟨S32768x1024, .f32⟩
  | .hbm, ⟨87, _⟩ => ⟨S32768x1024, .f32⟩
  | .hbm, ⟨88, _⟩ => ⟨S1024x1024, .f32⟩
  | .hbm, ⟨89, _⟩ => ⟨S32768x1024, .f32⟩
  | .hbm, ⟨90, _⟩ => ⟨S32768x1024, .f32⟩
  | .hbm, ⟨91, _⟩ => ⟨S32768x1024, .f32⟩
  | .hbm, ⟨92, _⟩ => ⟨S_, .f32⟩
  | .hbm, ⟨93, _⟩ => ⟨S32768x1024, .f32⟩
  | .hbm, ⟨94, _⟩ => ⟨S32768x1024, .f32⟩
  | .hbm, ⟨95, _⟩ => ⟨S_, .f32⟩
  | .hbm, ⟨96, _⟩ => ⟨S32768x1024, .f32⟩
  | .hbm, ⟨97, _⟩ => ⟨S32768x1024, .f32⟩
  | .hbm, ⟨98, _⟩ => ⟨S512x32768, .f32⟩
  | .hbm, ⟨99, _⟩ => ⟨S512x32768, .bf16⟩
  | .hbm, ⟨100, _⟩ => ⟨S128x32768, .f32⟩
  | .hbm, ⟨101, _⟩ => ⟨S128x32768, .bf16⟩
  | .hbm, ⟨102, _⟩ => ⟨S32768x1024, .bf16⟩
  | .hbm, ⟨103, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_cst_0 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_6 : Ref sig .tc := ⟨.hbm, 82, rfl⟩
abbrev main_v55 : Ref sig .tc := ⟨.hbm, 83, rfl⟩
abbrev main_v56 : Ref sig .tc := ⟨.hbm, 84, rfl⟩
abbrev main_cst_7 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_8 : Ref sig .tc := ⟨.hbm, 92, rfl⟩
abbrev main_v63 : Ref sig .tc := ⟨.hbm, 93, rfl⟩
abbrev main_v64 : Ref sig .tc := ⟨.hbm, 94, rfl⟩
abbrev main_cst_9 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]
-- ==== Proof.Softmax.lean ====
/- The softmax of one query over extended reals: the kernel's form (unnormalised sum, then one division) and the reference's
   form (normalised weights, then the sum) are one value when the scores are real. No program is mentioned here. -/
module

public import Idealize.ShloMosaic.PureOps.Ideal
public import Idealize.ShloMosaic.PureOps.Ideal.Laws

@[expose] public section

noncomputable section

namespace Cert.Softmax

open Idealize.ShloMosaic

/-- A finite sum of reals, read as an extended real, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Multiplying by a nonnegative real distributes over a finite sum of extended reals, infinite terms included. -/
theorem sum_mul_coe {ι : Type*} (s : Finset ι) (f : ι → EReal) {x : ℝ} (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha,
      EReal.right_distrib_of_nonneg_of_ne_top (EReal.coe_nonneg.mpr hx) (EReal.coe_ne_top x), ih]

/-- The fold of `max` from any start below `⊤` over extended reals none of which is `⊤` is not `⊤`. -/
theorem fold_max_ne_top {ι : Type*} (s : Finset ι) (b : EReal) (hb : b ≠ ⊤) (f : ι → EReal) (hf : ∀ i, f i ≠ ⊤) :
    s.fold max b f ≠ ⊤ := by
  classical
  induction s using Finset.induction_on with
  | empty => simpa using hb
  | insert a s ha ih =>
    rw [Finset.fold_insert ha]
    rcases max_choice (f a) (s.fold max b f) with h | h <;> rw [h]
    · exact hf a
    · exact ih

/-- The fold of `max` is at least each of its terms. -/
theorem le_fold_max {ι : Type*} (s : Finset ι) (b : EReal) (f : ι → EReal) {i : ι} (hi : i ∈ s) : f i ≤ s.fold max b f := by
  classical
  induction s using Finset.induction_on with
  | empty => exact absurd hi (Finset.notMem_empty i)
  | insert a s ha ih =>
    rw [Finset.fold_insert ha]
    rcases Finset.mem_insert.mp hi with rfl | h
    · exact le_max_left _ _
    · exact (ih h).trans (le_max_right _ _)

/-- The maximum of a nonempty finite family of reals is a real, whatever start below `⊤` the fold takes. -/
theorem fold_max_real {ι : Type*} [Fintype ι] [Nonempty ι] (b : EReal) (hb : b ≠ ⊤) (f : ι → EReal) (hf : ∀ i, ∃ r : ℝ, f i = r) :
    ∃ r : ℝ, (Finset.univ : Finset ι).fold max b f = r := by
  have ht : (Finset.univ : Finset ι).fold max b f ≠ ⊤ :=
    fold_max_ne_top _ b hb f fun i => by obtain ⟨r, hr⟩ := hf i; rw [hr]; exact EReal.coe_ne_top r
  have hbot : (Finset.univ : Finset ι).fold max b f ≠ ⊥ := by
    obtain ⟨i⟩ := ‹Nonempty ι›
    obtain ⟨r, hr⟩ := hf i
    intro h
    have := le_fold_max Finset.univ b f (Finset.mem_univ i)
    rw [h, hr, le_bot_iff] at this
    exact EReal.coe_ne_bot r this
  exact ⟨_, (EReal.coe_toReal ht hbot).symm⟩

/-- The larger of two reals is a real. -/
theorem max_real {x y : EReal} (hx : ∃ r : ℝ, x = r) (hy : ∃ r : ℝ, y = r) : ∃ r : ℝ, max x y = r := by
  rcases max_choice x y with h | h <;> rw [h]
  · exact hx
  · exact hy

/-- A finite sum of products of reals is a real. -/
theorem sum_mul_real {ι : Type*} [Fintype ι] (f g : ι → EReal) (hf : ∀ i, ∃ r : ℝ, f i = r) (hg : ∀ i, ∃ r : ℝ, g i = r) :
    ∃ r : ℝ, ∑ i, f i * g i = r := by
  choose a ha using hf
  choose b hb using hg
  refine ⟨∑ i, a i * b i, ?_⟩
  rw [coe_sum]
  exact Finset.sum_congr rfl fun i _ => by rw [ha, hb, EReal.coe_mul]

/-! ## One query's attention over two groups of keys -/

variable {ι κ : Type*} [Fintype ι] [Fintype κ]

/-- The kernel's form: exponentials of base two of the scores `s` and `c` less `m`, times the values `v` and `w`, summed group by
    group, and the sum divided once by the sum of the exponentials. -/
def late (s : ι → EReal) (c : κ → EReal) (m : EReal) (v : ι → EReal) (w : κ → EReal) : EReal :=
  Ideal.div ((∑ i, v i * Ideal.exp2 (s i - m)) + ∑ j, w j * Ideal.exp2 (c j - m))
    ((∑ i, Ideal.exp2 (s i - m)) + ∑ j, Ideal.exp2 (c j - m))

/-- The sum of the exponentials of base two of real scores. -/
def total (s : ι → ℝ) (c : κ → ℝ) : ℝ := (∑ i, (2 : ℝ) ^ s i) + ∑ j, (2 : ℝ) ^ c j

/-- The attention itself: each value times its softmax weight at base two, a real, summed over both groups of keys. -/
def attend (s : ι → ℝ) (c : κ → ℝ) (v : ι → EReal) (w : κ → EReal) : EReal :=
  (∑ i, v i * (((2 : ℝ) ^ s i / total s c : ℝ) : EReal)) + ∑ j, w j * (((2 : ℝ) ^ c j / total s c : ℝ) : EReal)

theorem total_pos [Nonempty ι] (s : ι → ℝ) (c : κ → ℝ) : 0 < total s c :=
  add_pos_of_pos_of_nonneg (Finset.sum_pos (fun i _ => Real.rpow_pos_of_pos two_pos _) Finset.univ_nonempty)
    (Finset.sum_nonneg fun j _ => (Real.rpow_pos_of_pos two_pos _).le)

/-- A real less a real, raised as a power of two, is the quotient of the two powers. -/
theorem exp2_sub (x m : ℝ) : Ideal.exp2 ((x : EReal) - (m : EReal)) = (((2 : ℝ) ^ x * ((2 : ℝ) ^ m)⁻¹ : ℝ) : EReal) := by
  rw [← EReal.coe_sub, Ideal.exp2_coe]
  congr 1
  show (2 : ℝ) ^ (x - m) = _
  rw [Real.rpow_sub two_pos, div_eq_mul_inv]

/-- The kernel's form is the attention, whatever real `m` is: the factor `2 ^ -m` cancels. -/
theorem late_eq [Nonempty ι] (s : ι → ℝ) (c : κ → ℝ) (m : ℝ) (v : ι → EReal) (w : κ → EReal) :
    late (fun i => (s i : EReal)) (fun j => (c j : EReal)) m v w = attend s c v w := by
  have hm : (0 : ℝ) < (2 : ℝ) ^ m := Real.rpow_pos_of_pos two_pos m
  have hT := total_pos s c
  unfold late attend
  simp only [exp2_sub]
  have hden : ((∑ i, (((2 : ℝ) ^ s i * ((2 : ℝ) ^ m)⁻¹ : ℝ) : EReal)) + ∑ j, (((2 : ℝ) ^ c j * ((2 : ℝ) ^ m)⁻¹ : ℝ) : EReal))
      = ((total s c * ((2 : ℝ) ^ m)⁻¹ : ℝ) : EReal) := by
    rw [← coe_sum, ← coe_sum, ← EReal.coe_add, ← Finset.sum_mul, ← Finset.sum_mul, ← add_mul, total]
  have hne : total s c * ((2 : ℝ) ^ m)⁻¹ ≠ 0 := (mul_pos hT (inv_pos.mpr hm)).ne'
  have hnn : (0 : ℝ) ≤ 1 / (total s c * ((2 : ℝ) ^ m)⁻¹) := (div_pos one_pos (mul_pos hT (inv_pos.mpr hm))).le
  rw [hden, Ideal.div_coe hne,
    EReal.right_distrib_of_nonneg_of_ne_top (EReal.coe_nonneg.mpr hnn) (EReal.coe_ne_top _), sum_mul_coe _ _ hnn, sum_mul_coe _ _ hnn]
  have hw : ∀ x : ℝ, ((2 : ℝ) ^ x * ((2 : ℝ) ^ m)⁻¹) * (1 / (total s c * ((2 : ℝ) ^ m)⁻¹)) = (2 : ℝ) ^ x / total s c := fun x => by
    field_simp
  congr 1 <;> refine Finset.sum_congr rfl fun i _ => ?_ <;> rw [mul_assoc, ← EReal.coe_mul, hw]

/-- `exp (x · log 2 - M)` is `2 ^ x` times `exp (-M)`. -/
theorem exp_sub (x M : ℝ) :
    Ideal.exp ((x : EReal) * ((Real.log 2 : ℝ) : EReal) - (M : EReal)) = (((2 : ℝ) ^ x * Real.exp (-M) : ℝ) : EReal) := by
  rw [← EReal.coe_mul, ← EReal.coe_sub, Ideal.exp_coe, Real.rpow_def_of_pos two_pos, ← Real.exp_add]
  congr 2
  ring

/-- The reference's form — the exponentials of the scores times `log 2`, less a real `M`, each divided by their sum, times the
    values — over one list of `n + k` keys is the attention over its first `n` and its last `k`. -/
theorem early_eq {n k : ℕ} [Nonempty (Fin n)] (s : Fin n → ℝ) (c : Fin k → ℝ) (M : ℝ) (v : Fin n → EReal) (w : Fin k → EReal)
    (S V : Fin (n + k) → EReal) (hs : ∀ i, S (Fin.castAdd k i) = s i) (hc : ∀ j, S (Fin.natAdd n j) = c j)
    (hv : ∀ i, V (Fin.castAdd k i) = v i) (hw : ∀ j, V (Fin.natAdd n j) = w j) :
    ∑ x, V x * Ideal.div (Ideal.exp (S x * ((Real.log 2 : ℝ) : EReal) - (M : EReal)))
        (0 + ∑ y, Ideal.exp (S y * ((Real.log 2 : ℝ) : EReal) - (M : EReal)))
      = attend s c v w := by
  have hT := total_pos s c
  have hden : (0 + ∑ y, Ideal.exp (S y * ((Real.log 2 : ℝ) : EReal) - (M : EReal))) = ((total s c * Real.exp (-M) : ℝ) : EReal) := by
    rw [zero_add, Fin.sum_univ_add]
    simp only [hs, hc, exp_sub]
    rw [← coe_sum, ← coe_sum, ← EReal.coe_add, ← Finset.sum_mul, ← Finset.sum_mul, ← add_mul, total]
  have hne : total s c * Real.exp (-M) ≠ 0 := (mul_pos hT (Real.exp_pos _)).ne'
  have hdiv : ∀ x : ℝ, ((2 : ℝ) ^ x * Real.exp (-M)) * (1 / (total s c * Real.exp (-M))) = (2 : ℝ) ^ x / total s c := fun x => by
    have := (Real.exp_pos (-M)).ne'
    field_simp
  rw [hden, Fin.sum_univ_add]
  simp only [hs, hc, hv, hw, exp_sub, Ideal.div_coe hne]
  unfold attend
  congr 1 <;> refine Finset.sum_congr rfl fun i _ => ?_ <;> rw [← EReal.coe_mul, hdiv]

end Cert.Softmax

end
-- ==== Proof.Spec.lean ====
/- The attention of one frame of the layer as a function of the call's five arrays, the value both programs are shown to compute. -/
module

public import proofs.«01_k».proof.Proof.Softmax
public import Idealize.ShloMosaic.Lib.ValueIdx

@[expose] public section

noncomputable section

namespace Cert.Spec

open Idealize.ShloMosaic Idealize.ShloMosaic.ValueIdx

/-- The bit pattern of minus infinity is the least extended real. -/
theorem neg_inf_bits : Ideal.ofBits .f32 0xFF800000#32 = ⊥ := by simp [Ideal.ofBits, Ideal.ieee]

/-- Every entry of the array is a real. -/
def Finite {s : Shape} (x : s.Idx → EReal) : Prop := ∀ i, ∃ r : ℝ, x i = r

/-- The score of query row `t` against key row `a` at head `h`: the inner product over the head's 128 lanes. -/
def score {n : ℕ} (q : (⟨2, ![32768, 1024]⟩ : Shape).Idx → EReal) (k : (⟨2, ![n, 1024]⟩ : Shape).Idx → EReal)
    (t : Fin 32768) (h : Fin 8) (a : Fin n) : EReal :=
  ∑ d : Fin 128, q (ix2 t ⟨h.val * 128 + d.val, by omega⟩) * k (ix2 a ⟨h.val * 128 + d.val, by omega⟩)

/-- The same score as a real number. -/
def scoreR {n : ℕ} (q : (⟨2, ![32768, 1024]⟩ : Shape).Idx → EReal) (k : (⟨2, ![n, 1024]⟩ : Shape).Idx → EReal)
    (t : Fin 32768) (h : Fin 8) (a : Fin n) : ℝ := (score q k t h a).toReal

/-- Of finite arrays the score is the real number. -/
theorem score_eq {n : ℕ} {q : (⟨2, ![32768, 1024]⟩ : Shape).Idx → EReal} {k : (⟨2, ![n, 1024]⟩ : Shape).Idx → EReal}
    (hq : Finite q) (hk : Finite k) (t : Fin 32768) (h : Fin 8) (a : Fin n) : score q k t h a = (scoreR q k t h a : EReal) := by
  obtain ⟨r, hr⟩ := Softmax.sum_mul_real (fun d : Fin 128 => q (ix2 t ⟨h.val * 128 + d.val, by omega⟩))
    (fun d : Fin 128 => k (ix2 a ⟨h.val * 128 + d.val, by omega⟩)) (fun _ => hq _) (fun _ => hk _)
  have hs : score q k t h a = (r : EReal) := hr
  rw [scoreR, hs, EReal.toReal_coe]

/-- The row of latent token `a` of frame `b`. -/
abbrev latRow (b : Fin 8) (a : Fin 4096) : Fin 32768 := ⟨b.val * 4096 + a.val, by omega⟩

/-- The row of context token `j` of frame `b`. -/
abbrev ctxRow (b : Fin 8) (j : Fin 256) : Fin 2048 := ⟨b.val * 256 + j.val, by omega⟩

/-- Value lane `r` (of 512, 64 a head) of query row `t`: the attention of the row over its frame's latent and context tokens at the
    lane's head. -/
def attn (q k : (⟨2, ![32768, 1024]⟩ : Shape).Idx → EReal) (v : (⟨2, ![512, 32768]⟩ : Shape).Idx → EReal)
    (kc : (⟨2, ![2048, 1024]⟩ : Shape).Idx → EReal) (vc : (⟨2, ![512, 2048]⟩ : Shape).Idx → EReal)
    (r : Fin 512) (t : Fin 32768) : EReal :=
  Softmax.attend
    (fun a : Fin 4096 => scoreR q k t ⟨r.val / 64, by omega⟩ (latRow ⟨t.val / 4096, by omega⟩ a))
    (fun j : Fin 256 => scoreR q kc t ⟨r.val / 64, by omega⟩ (ctxRow ⟨t.val / 4096, by omega⟩ j))
    (fun a : Fin 4096 => v (ix2 r (latRow ⟨t.val / 4096, by omega⟩ a)))
    (fun j : Fin 256 => vc (ix2 r (ctxRow ⟨t.val / 4096, by omega⟩ j)))

end Cert.Spec

end
-- ==== Proof.Reference.lean ====
/- The reference read at an index: each entry of its result is the attention of `Spec`. -/
module

public import proofs.«01_k».proof.Proof.Spec
public import proofs.«01_k».proof.Proof.Gen.ReferenceIdeal.Read

@[expose] public section

noncomputable section

namespace Cert.RefValue

open Cert.ReferenceIdeal Cert.ReferenceIdeal.Gen Cert.ReferenceIdeal.Read Idealize.ShloMosaic Idealize.ShloMosaic.ValueIdx
open Cert.Spec

/-- The bit pattern of the literal `2.0` is the real 2. -/
theorem two_bits : Ideal.ofBits .f32 0x40000000#32 = ((2 : ℝ) : EReal) := by
  simp [Ideal.ofBits, Ideal.ieee]
  rw [← EReal.coe_mul]
  norm_num

/-- The scale of the scores is the natural logarithm of 2. -/
theorem scale_eq (i : S8x8x4096x4352.Idx) : val_main_v16 (F := Ideal) i = ((Real.log 2 : ℝ) : EReal) := by
  rw [val_main_v16_apply, val_main_v15_apply]
  show Ideal.log (Ideal.ofBits .f32 0x40000000#32) = _
  rw [two_bits, Ideal.log_coe, if_neg (by norm_num)]

variable (q k : (⟨S32768x1024, .bf16⟩ : BufTy).Contents (Elt Ideal)) (v : (⟨S512x32768, .bf16⟩ : BufTy).Contents (Elt Ideal))
  (kc : (⟨S2048x1024, .bf16⟩ : BufTy).Contents (Elt Ideal)) (vc : (⟨S512x2048, .bf16⟩ : BufTy).Contents (Elt Ideal))

/-- The reshaped query at frame, token, head and lane. -/
theorem query_at (b : Fin 8) (n : Fin 4096) (h : Fin 8) (d : Fin 128) :
    val_main_v1 (F := Ideal) q (ix4 b n h d) = q (ix2 (latRow b n) ⟨h.val * 128 + d.val, by omega⟩) := by
  rw [val_main_v1_apply, val_main_v0_apply]
  show q _ = _
  congr 1; funext a; refine Fin.ext ?_
  match a with
  | ⟨0, _⟩ => show (((b.val * 4096 + n.val) * 8 + h.val) * 128 + d.val) / 1024 = b.val * 4096 + n.val; omega
  | ⟨1, _⟩ => show (((b.val * 4096 + n.val) * 8 + h.val) * 128 + d.val) % 1024 = h.val * 128 + d.val; omega

/-- The joined keys at a latent token. -/
theorem key_lat (b : Fin 8) (n : Fin 4096) (h : Fin 8) (d : Fin 128) :
    val_main_v6 (F := Ideal) k kc (ix4 b (Fin.castAdd 256 n) h d) = k (ix2 (latRow b n) ⟨h.val * 128 + d.val, by omega⟩) := by
  unfold val_main_v6
  refine (concatenate_pair_apply_left (1 : Fin S8x4352x8x128.rank) (val_main_v3 (F := Ideal) k) (val_main_v5 (F := Ideal) kc) concatenates_S8x4096x8x128_S8x256x8x128_S8x4352x8x128_d1 _ rfl (ix4 b n h d)
    (fun a => match a with | ⟨0, _⟩ => rfl | ⟨1, _⟩ => rfl | ⟨2, _⟩ => rfl | ⟨3, _⟩ => rfl)).trans ?_
  rw [val_main_v3_apply, val_main_v2_apply]
  show k _ = _
  congr 1; funext a; refine Fin.ext ?_
  match a with
  | ⟨0, _⟩ => show (((b.val * 4096 + n.val) * 8 + h.val) * 128 + d.val) / 1024 = b.val * 4096 + n.val; omega
  | ⟨1, _⟩ => show (((b.val * 4096 + n.val) * 8 + h.val) * 128 + d.val) % 1024 = h.val * 128 + d.val; omega

/-- The joined keys at a context token. -/
theorem key_ctx (b : Fin 8) (j : Fin 256) (h : Fin 8) (d : Fin 128) :
    val_main_v6 (F := Ideal) k kc (ix4 b (Fin.natAdd 4096 j) h d) = kc (ix2 (ctxRow b j) ⟨h.val * 128 + d.val, by omega⟩) := by
  unfold val_main_v6
  refine (concatenate_pair_apply_right (1 : Fin S8x4352x8x128.rank) (val_main_v3 (F := Ideal) k) (val_main_v5 (F := Ideal) kc) concatenates_S8x4096x8x128_S8x256x8x128_S8x4352x8x128_d1 _ rfl rfl (ix4 b j h d)
    (fun a => match a with
      | ⟨0, _⟩ => fun _ => rfl | ⟨1, _⟩ => fun hne => absurd rfl hne | ⟨2, _⟩ => fun _ => rfl | ⟨3, _⟩ => fun _ => rfl)
    (Nat.add_comm _ _)).trans ?_
  rw [val_main_v5_apply, val_main_v4_apply]
  show kc _ = _
  congr 1; funext a; refine Fin.ext ?_
  match a with
  | ⟨0, _⟩ => show (((b.val * 256 + j.val) * 8 + h.val) * 128 + d.val) / 1024 = b.val * 256 + j.val; omega
  | ⟨1, _⟩ => show (((b.val * 256 + j.val) * 8 + h.val) * 128 + d.val) % 1024 = h.val * 128 + d.val; omega

/-- The joined values at a latent token. -/
theorem value_lat (b : Fin 8) (n : Fin 4096) (h : Fin 8) (d : Fin 64) :
    val_main_v13 (F := Ideal) v vc (ix4 b (Fin.castAdd 256 n) h d) = v (ix2 ⟨h.val * 64 + d.val, by omega⟩ (latRow b n)) := by
  unfold val_main_v13
  refine (concatenate_pair_apply_left (1 : Fin S8x4352x8x64.rank) (val_main_v9 (F := Ideal) v) (val_main_v12 (F := Ideal) vc) concatenates_S8x4096x8x64_S8x256x8x64_S8x4352x8x64_d1 _ rfl (ix4 b n h d)
    (fun a => match a with | ⟨0, _⟩ => rfl | ⟨1, _⟩ => rfl | ⟨2, _⟩ => rfl | ⟨3, _⟩ => rfl)).trans ?_
  rw [val_main_v9_apply, val_main_v8_apply, val_main_v7_apply]
  show v _ = _
  congr 1; funext a; refine Fin.ext ?_
  match a with
  | ⟨0, _⟩ => show (((b.val * 4096 + n.val) * 8 + h.val) * 64 + d.val) % 512 = h.val * 64 + d.val; omega
  | ⟨1, _⟩ => show (((b.val * 4096 + n.val) * 8 + h.val) * 64 + d.val) / 512 = b.val * 4096 + n.val; omega

/-- The joined values at a context token. -/
theorem value_ctx (b : Fin 8) (j : Fin 256) (h : Fin 8) (d : Fin 64) :
    val_main_v13 (F := Ideal) v vc (ix4 b (Fin.natAdd 4096 j) h d) = vc (ix2 ⟨h.val * 64 + d.val, by omega⟩ (ctxRow b j)) := by
  unfold val_main_v13
  refine (concatenate_pair_apply_right (1 : Fin S8x4352x8x64.rank) (val_main_v9 (F := Ideal) v) (val_main_v12 (F := Ideal) vc) concatenates_S8x4096x8x64_S8x256x8x64_S8x4352x8x64_d1 _ rfl rfl (ix4 b j h d)
    (fun a => match a with
      | ⟨0, _⟩ => fun _ => rfl | ⟨1, _⟩ => fun hne => absurd rfl hne | ⟨2, _⟩ => fun _ => rfl | ⟨3, _⟩ => fun _ => rfl)
    (Nat.add_comm _ _)).trans ?_
  rw [val_main_v12_apply, val_main_v11_apply, val_main_v10_apply]
  show vc _ = _
  congr 1; funext a; refine Fin.ext ?_
  match a with
  | ⟨0, _⟩ => show (((b.val * 256 + j.val) * 8 + h.val) * 64 + d.val) % 512 = h.val * 64 + d.val; omega
  | ⟨1, _⟩ => show (((b.val * 256 + j.val) * 8 + h.val) * 64 + d.val) / 512 = b.val * 256 + j.val; omega

/-- The reference's scores, before the scale. -/
abbrev raw (b h : Fin 8) (n : Fin 4096) (x : Fin 4352) : EReal := val_main_v14 (F := Ideal) q k kc (ix4 b h n x)

theorem raw_apply (b h : Fin 8) (n : Fin 4096) (x : Fin 4352) :
    raw q k kc b h n x = ∑ d : Fin 128, val_main_v1 (F := Ideal) q (ix4 b n h d) * val_main_v6 (F := Ideal) k kc (ix4 b x h d) := by
  rw [raw, val_main_v14_apply]
  refine Finset.sum_congr rfl fun d _ => ?_
  congr 2 <;> funext a <;> match a with | ⟨0, _⟩ => rfl | ⟨1, _⟩ => rfl | ⟨2, _⟩ => rfl | ⟨3, _⟩ => rfl

theorem raw_lat (b h : Fin 8) (n : Fin 4096) (a : Fin 4096) :
    raw q k kc b h n (Fin.castAdd 256 a) = score q k (latRow b n) h (latRow b a) := by
  rw [raw_apply]
  exact Finset.sum_congr rfl fun d _ => by rw [query_at, key_lat]

theorem raw_ctx (b h : Fin 8) (n : Fin 4096) (j : Fin 256) :
    raw q k kc b h n (Fin.natAdd 4096 j) = score q kc (latRow b n) h (ctxRow b j) := by
  rw [raw_apply]
  exact Finset.sum_congr rfl fun d _ => by rw [query_at, key_ctx]

variable {q k kc}

/-- Of finite queries and keys every raw score is a real. -/
theorem raw_real (hq : Finite q) (hk : Finite k) (hkc : Finite kc) (b h : Fin 8) (n : Fin 4096) (x : Fin 4352) :
    ∃ r : ℝ, raw q k kc b h n x = r := by
  induction x using Fin.addCases (m := 4096) (n := 256) with
  | left a => exact ⟨_, (raw_lat q k kc b h n a).trans (score_eq hq hk _ _ _)⟩
  | right j => exact ⟨_, (raw_ctx q k kc b h n j).trans (score_eq hq hkc _ _ _)⟩

/-- The maximum the reference subtracts is a real. -/
theorem max_real (hq : Finite q) (hk : Finite k) (hkc : Finite kc) (i : S8x8x4096.Idx) :
    ∃ r : ℝ, val_main_v20 (F := Ideal) q k kc i = r := by
  have e : val_main_v20 (F := Ideal) q k kc i = val_main_v18 (F := Ideal) q k kc i := by
    rw [val_main_v20_apply, val_main_v19_apply]
    show max (Ideal.ofBits .f32 0xFF800000#32) _ = _
    rw [neg_inf_bits]
    exact max_eq_right bot_le
  rw [e]
  unfold val_main_v18
  rw [Host.reduce_eq_fold_single (FloatOps.maximumf (F := Ideal) (φ := .f32)) _ _ _ (by decide) h_S_]
  haveI : Nonempty (Fin (S8x8x4096x4352.size 3)) := ⟨⟨0, by decide⟩⟩
  refine Softmax.fold_max_real (ι := Fin (S8x8x4096x4352.size 3)) _ ?_ _ fun x => ?_
  · show Ideal.ofBits .f32 0xFF800000#32 ≠ ⊤
    rw [neg_inf_bits]; exact bot_ne_top
  · show ∃ r : ℝ, val_main_v17 (F := Ideal) q k kc _ = r
    generalize Shape.Reduces.lift _ i x = p
    rw [val_main_v17_apply, scale_eq]
    obtain ⟨r, hr⟩ := raw_real hq hk hkc (p 0) (p 1) (p 2) (p 3)
    have hp : val_main_v14 (F := Ideal) q k kc p = (r : EReal) := (congrArg _ (eq_ix4 p)).trans hr
    refine ⟨r * Real.log 2, ?_⟩
    rw [hp]
    exact (EReal.coe_mul _ _).symm

/-- The reference's exponential at one key. -/
theorem exp_at (b h : Fin 8) (n : Fin 4096) (x : Fin 4352) :
    val_main_v24 (F := Ideal) q k kc (ix4 b h n x)
      = Ideal.exp (raw q k kc b h n x * ((Real.log 2 : ℝ) : EReal) - val_main_v20 (F := Ideal) q k kc (ix3 b h n)) := by
  rw [val_main_v24_apply, val_main_v23_apply, val_main_v17_apply, val_main_v22_apply, val_main_v21_apply, scale_eq]
  have e : idx_main_v21 (idx_main_v22 (ix4 b h n x)) = ix3 b h n := by
    funext a; match a with | ⟨0, _⟩ => rfl | ⟨1, _⟩ => rfl | ⟨2, _⟩ => rfl
  rw [e]
  rfl

/-- The reference's result at an index is the attention. -/
theorem value (hq : Finite q) (hk : Finite k) (hkc : Finite kc) (r : Fin 512) (t : Fin 32768) :
    val_main_v33 (F := Ideal) q k v kc vc (ix2 r t) = attn q k v kc vc r t := by
  rw [val_main_v33_apply, val_main_v32_apply, val_main_v31_apply, val_main_v30_apply, val_main_v29_apply]
  obtain ⟨b, hb⟩ : ∃ b : Fin 8, b.val = t.val / 4096 := ⟨⟨t.val / 4096, by omega⟩, rfl⟩
  obtain ⟨n, hn⟩ : ∃ n : Fin 4096, n.val = t.val % 4096 := ⟨⟨t.val % 4096, by omega⟩, rfl⟩
  obtain ⟨h, hh⟩ : ∃ h : Fin 8, h.val = r.val / 64 := ⟨⟨r.val / 64, by omega⟩, rfl⟩
  obtain ⟨d, hd⟩ : ∃ d : Fin 64, d.val = r.val % 64 := ⟨⟨r.val % 64, by omega⟩, rfl⟩
  have hrow : latRow b n = t := Fin.ext (by show b.val * 4096 + n.val = t.val; omega)
  have hlane : (⟨h.val * 64 + d.val, by omega⟩ : Fin 512) = r := Fin.ext (by show h.val * 64 + d.val = r.val; omega)
  have hb' : (⟨t.val / 4096, by omega⟩ : Fin 8) = b := Fin.ext hb.symm
  have hh' : (⟨r.val / 64, by omega⟩ : Fin 8) = h := Fin.ext hh.symm
  have hidx : idx_main_v30 (idx_main_v31 (idx_main_v32 (ix2 r t))) = ix4 b h d n := by
    funext a; refine Fin.ext ?_
    match a with
    | ⟨0, _⟩ => show (t.val * 512 + r.val) / 2097152 = b.val; omega
    | ⟨1, _⟩ => show (t.val * 512 + r.val) / 64 % 8 = h.val; omega
    | ⟨2, _⟩ => show (t.val * 512 + r.val) % 64 = d.val; omega
    | ⟨3, _⟩ => show (t.val * 512 + r.val) / 512 % 4096 = n.val; omega
  rw [hidx]
  obtain ⟨M, hM⟩ := max_real hq hk hkc (ix3 b h n)
  have hw : ∀ x : Fin 4352, val_main_v28 (F := Ideal) q k kc (ix4 b h n x)
      = Ideal.div (Ideal.exp (raw q k kc b h n x * ((Real.log 2 : ℝ) : EReal) - (M : EReal)))
          (0 + ∑ y : Fin 4352, Ideal.exp (raw q k kc b h n y * ((Real.log 2 : ℝ) : EReal) - (M : EReal))) := fun x => by
    rw [val_main_v28_apply, val_main_v27_apply, val_main_v26_apply, val_main_v25_apply, exp_at, hM]
    show Ideal.div _ (Ideal.ofBits .f32 0x00000000#32 + _) = _
    rw [Ideal.ofBits_zero_f32]
    have e : ∀ y : Fin 4352, idx_main_v25 (idx_main_v26 (idx_main_v27 (ix4 b h n x))) y = ix4 b h n y := fun y => by
      funext a; match a with | ⟨0, _⟩ => rfl | ⟨1, _⟩ => rfl | ⟨2, _⟩ => rfl | ⟨3, _⟩ => rfl
    simp only [e, exp_at, hM]
  have hl : ∀ x : Fin 4352, lidx_main_v29 (ix4 b h d n) x = ix4 b x h d := fun x => by
    funext a; match a with | ⟨0, _⟩ => rfl | ⟨1, _⟩ => rfl | ⟨2, _⟩ => rfl | ⟨3, _⟩ => rfl
  have hr : ∀ x : Fin 4352, ridx_main_v29 (ix4 b h d n) x = ix4 b h n x := fun x => by
    funext a; match a with | ⟨0, _⟩ => rfl | ⟨1, _⟩ => rfl | ⟨2, _⟩ => rfl | ⟨3, _⟩ => rfl
  simp only [hl, hr, hw]
  unfold attn
  rw [hb', hh']
  exact Softmax.early_eq (n := 4096) (k := 256) _ _ M _ _ (raw q k kc b h n) (fun x => val_main_v13 (F := Ideal) v vc (ix4 b x h d))
    (fun a => by rw [raw_lat, hrow]; exact score_eq hq hk _ _ _)
    (fun j => by rw [raw_ctx, hrow]; exact score_eq hq hkc _ _ _)
    (fun a => by rw [value_lat, hlane]) (fun j => by rw [value_ctx, hlane])

end Cert.RefValue

end
-- ==== Proof.Payload.lean ====
/- What the kernel's stored values are at an index, on the extended reals: the scores, their maxima, and a head's weighted values. -/
module

public import proofs.«01_k».proof.Proof.Gen.KernelIdeal
public import proofs.«01_k».proof.Proof.Gen.KernelIdeal.Skeleton
public import proofs.«01_k».proof.Proof.Spec
public import Idealize.ShloMosaic.Lib.Pointwise

@[expose] public section

set_option maxRecDepth 16384

noncomputable section

namespace Cert.Payload

open Cert.KernelIdeal Cert.KernelIdeal.Gen Idealize.ShloMosaic

/-- A latent score is the inner product of the key's row and the query's row. -/
theorem lat_scores (q : Vec Ideal S256x128 .bf16) (k : Vec Ideal S4096x128 .bf16) (a : Fin 4096) (t : Fin 256) :
    k0_pay8 q k (ix2 a t) = ∑ d : Fin 128, k (ix2 a d) * q (ix2 t d) := by
  pointwise [k0_pay8]

/-- A context score is the inner product of the key's row and the query's row. -/
theorem ctx_scores (q k : Vec Ideal S256x128 .bf16) (a : Fin 256) (t : Fin 256) :
    k0_pay9 q k (ix2 a t) = ∑ d : Fin 128, k (ix2 a d) * q (ix2 t d) := by
  pointwise [k0_pay9]

/-- The stored latent scores. -/
theorem lat_stored (q : Vec Ideal S256x128 .bf16) (k : Vec Ideal S4096x128 .bf16) (a : Fin 4096) (t : Fin 256) :
    k0_pay10 q k (ix3 0 a t) = ∑ d : Fin 128, k (ix2 a d) * q (ix2 t d) := by
  rw [← lat_scores]
  pointwise [k0_pay10]

/-- The stored context scores. -/
theorem ctx_stored (q k : Vec Ideal S256x128 .bf16) (a : Fin 256) (t : Fin 256) :
    k0_pay11 q k (ix3 0 a t) = ∑ d : Fin 128, k (ix2 a d) * q (ix2 t d) := by
  rw [← ctx_scores]
  pointwise [k0_pay11]

/-- A head's weighted values over its weights' sum, in the kernel's order of operations. -/
theorem head_first (m : Vec Ideal S1x1x256 .f32) (s : Vec Ideal S1x4096x256 .f32) (c : Vec Ideal S1x256x256 .f32)
    (v : Vec Ideal S64x4096 .bf16) (w : Vec Ideal S64x256 .bf16) (r : Fin 64) (t : Fin 256) :
    k0_pay17 (k0_pay14 m s) (k0_pay15 c) (k0_pay16 m) v w (ix2 r t)
      = Softmax.late (fun a : Fin 4096 => s (ix3 0 a t)) (fun j : Fin 256 => c (ix3 0 j t)) (m (ix3 0 0 t))
          (fun a => v (ix2 r a)) (fun j => w (ix2 r j)) := by
  pointwise [k0_pay17, k0_pay14, k0_pay13, k0_pay15, k0_pay16]
  rfl

/-- The second head's block is the first head's block `x` above its own, which the same operations compute. -/
theorem head_second (x : FVec Ideal S64x256 .f32) (m : Vec Ideal S1x1x256 .f32) (s : Vec Ideal S1x4096x256 .f32)
    (c : Vec Ideal S1x256x256 .f32) (v : Vec Ideal S64x4096 .bf16) (w : Vec Ideal S64x256 .bf16) (r : Fin 128) (t : Fin 256) :
    k0_pay5 x m s c v w (ix2 r t)
      = if h : r.val < 64 then x (ix2 ⟨r.val, h⟩ t)
        else k0_pay17 (k0_pay14 m s) (k0_pay15 c) (k0_pay16 m) v w (ix2 ⟨r.val - 64, by omega⟩ t) := by
  have e : k0_pay5 x m s c v w = truncf .bf16 (concatenate S128x256 0 [⟨S64x256, x⟩,
      ⟨S64x256, k0_pay17 (k0_pay14 m s) (k0_pay15 c) (k0_pay16 m) v w⟩] concatenates_S64x256_S64x256_S128x256_d0) bitsLt_bf16_f32 := rfl
  rw [e]
  generalize k0_pay17 (k0_pay14 m s) (k0_pay15 c) (k0_pay16 m) v w = y
  pointwise

/-- A column's maximum over reals, from below every number, is a real. -/
theorem fold_real {n : ℕ} [Nonempty (Fin n)] (f : Fin n → EReal) (hf : ∀ a, ∃ r : ℝ, f a = r) :
    ∃ r : ℝ, Finset.fold max (Ideal.ofBits FTy.f32 0xFF800000#32) f Finset.univ = r :=
  Softmax.fold_max_real _ (by rw [Spec.neg_inf_bits]; exact bot_ne_top) f hf

/-- Of real scores the stored maximum of the first head is a real. -/
theorem max_first (q : Vec Ideal S256x128 .bf16) (k : Vec Ideal S4096x128 .bf16) (kc : Vec Ideal S256x128 .bf16) (t : Fin 256)
    (hs : ∀ a : Fin 4096, ∃ r : ℝ, k0_pay8 q k (ix2 a t) = r) (hc : ∀ j : Fin 256, ∃ r : ℝ, k0_pay9 q kc (ix2 j t) = r) :
    ∃ r : ℝ, k0_pay12 q k kc (ix3 0 0 t) = r := by
  pointwise [k0_pay12]
  exact Softmax.max_real (fold_real _ hs) (fold_real _ hc)

/-- Of real scores the stored maximum of the second head is a real. -/
theorem max_second (q : Vec Ideal S256x128 .bf16) (k : Vec Ideal S4096x128 .bf16) (kc : Vec Ideal S256x128 .bf16) (t : Fin 256)
    (hs : ∀ a : Fin 4096, ∃ r : ℝ, k0_pay8 q k (ix2 a t) = r) (hc : ∀ j : Fin 256, ∃ r : ℝ, k0_pay9 q kc (ix2 j t) = r) :
    ∃ r : ℝ, k0_pay4 (k0_pay22 q k kc) (ix3 0 0 t) = r := by
  have e : k0_pay4 (k0_pay22 q k kc) = k0_pay12 q k kc := rfl
  rw [e]
  exact max_first q k kc t hs hc

end Cert.Payload

end
-- ==== Proof.Stored.lean ====
/- A grid point's stores read as whole arrays: the two heads' scores and maxima in one scratch set, and the two heads' weighted values in
   the output block, as functions of the blocks and of the scratch set the point loads. -/
module

public import proofs.«01_k».proof.Proof.Payload
public import Idealize.ShloMosaic.Lib.Pipeline.ValueKit

@[expose] public section

set_option maxRecDepth 16384

noncomputable section

namespace Cert.Stored

open Cert.KernelIdeal Cert.KernelIdeal.Gen Cert.Payload Idealize.ShloMosaic

/-- Score of key row `a` against query row `n` at head `h` of a block of two heads of 128 lanes. -/
def blockScore {l : ℕ} (q : (⟨2, ![256, 256]⟩ : Shape).Idx → EReal) (k : (⟨2, ![l, 256]⟩ : Shape).Idx → EReal)
    (h : Fin 2) (a : Fin l) (n : Fin 256) : EReal :=
  ∑ d : Fin 128, k (ix2 a ⟨h.val * 128 + d.val, by omega⟩) * q (ix2 n ⟨h.val * 128 + d.val, by omega⟩)

/-- Of finite blocks every score is a real. -/
theorem blockScore_real {l : ℕ} {q : (⟨2, ![256, 256]⟩ : Shape).Idx → EReal} {k : (⟨2, ![l, 256]⟩ : Shape).Idx → EReal}
    (hq : Spec.Finite q) (hk : Spec.Finite k) (h : Fin 2) (a : Fin l) (n : Fin 256) : ∃ r : ℝ, blockScore q k h a n = r :=
  Softmax.sum_mul_real _ _ (fun _ => hk _) (fun _ => hq _)

/-- Two stores, one under each index of a leading axis of two, read at an index: the first store's array at 0, the second's at 1. -/
theorem two_stores {l : ℕ} (inb0 : ∀ a, (![0, 0, 0] : Fin 3 → ℕ) a + (![1, l, 256] : Fin 3 → ℕ) a ≤ (![2, l, 256] : Fin 3 → ℕ) a)
    (inb1 : ∀ a, (![1, 0, 0] : Fin 3 → ℕ) a + (![1, l, 256] : Fin 3 → ℕ) a ≤ (![2, l, 256] : Fin 3 → ℕ) a)
    (p0 p1 : (⟨3, ![1, l, 256]⟩ : Shape).Idx → EReal) (P : Fin 2 → EReal) (a : Fin l) (n : Fin 256)
    (h0 : p0 (ix3 0 a n) = P 0) (h1 : p1 (ix3 0 a n) = P 1) (h : Fin 2) :
    View.canon
      [(⟨Rect.unit ![1, 0, 0] ![1, l, 256] inb1, p1⟩ : View.Piece (Elt Ideal) ⟨3, ![2, l, 256]⟩ .f32),
        ⟨Rect.unit ![0, 0, 0] ![1, l, 256] inb0, p0⟩] (ix3 h a n) = P h := by
  match h with
  | ⟨0, hlt⟩ =>
    refine (View.canon_cons_of_not_mem _ _ ?_).trans ?_
    · rw [Rect.mem_set_unit]
      intro hm
      exact Nat.not_succ_le_zero 0 (hm 0).1
    · have e : (ix3 (⟨0, hlt⟩ : Fin 2) a n : (⟨3, ![2, l, 256]⟩ : Shape).Idx)
          = (Rect.unit ![0, 0, 0] ![1, l, 256] inb0).emb (ix3 (0 : Fin 1) a n) := by
        funext x; refine Fin.ext ?_
        match x with
        | ⟨0, _⟩ => rfl
        | ⟨1, _⟩ => show a.val = 0 + 1 * a.val; omega
        | ⟨2, _⟩ => show n.val = 0 + 1 * n.val; omega
      rw [e]
      exact (View.canon_cons_emb _ _ _ _).trans h0
  | ⟨1, hlt⟩ =>
    have e : (ix3 (⟨1, hlt⟩ : Fin 2) a n : (⟨3, ![2, l, 256]⟩ : Shape).Idx)
        = (Rect.unit ![1, 0, 0] ![1, l, 256] inb1).emb (ix3 (0 : Fin 1) a n) := by
      funext x; refine Fin.ext ?_
      match x with
      | ⟨0, _⟩ => rfl
      | ⟨1, _⟩ => show a.val = 0 + 1 * a.val; omega
      | ⟨2, _⟩ => show n.val = 0 + 1 * n.val; omega
    rw [e]
    exact (View.canon_cons_emb _ _ _ _).trans h1

/-- The first head's columns of a query block. -/
abbrev q0 (q : Vec Ideal S256x256 .bf16) : Vec Ideal S256x128 .bf16 :=
  View.ld q (Rect.unit ![0, 0] ![256, 128] inb_S256x256_S256x128_0_0)
/-- The second head's columns of a query block. -/
abbrev q1 (q : Vec Ideal S256x256 .bf16) : Vec Ideal S256x128 .bf16 :=
  View.ld q (Rect.unit ![0, 128] ![256, 128] inb_S256x256_S256x128_0_128)
/-- The first head's columns of a block of latent keys. -/
abbrev k0 (k : Vec Ideal S4096x256 .bf16) : Vec Ideal S4096x128 .bf16 :=
  View.ld k (Rect.unit ![0, 0] ![4096, 128] inb_S4096x256_S4096x128_0_0)
/-- The second head's columns of a block of latent keys. -/
abbrev k1 (k : Vec Ideal S4096x256 .bf16) : Vec Ideal S4096x128 .bf16 :=
  View.ld k (Rect.unit ![0, 128] ![4096, 128] inb_S4096x256_S4096x128_0_128)

/-- The first head's latent scores. -/
theorem lat0 (q : Vec Ideal S256x256 .bf16) (k : Vec Ideal S4096x256 .bf16) (a : Fin 4096) (n : Fin 256) :
    k0_pay8 (q0 q) (k0 k) (ix2 a n) = blockScore q k 0 a n := by
  rw [lat_scores]
  pointwise [q0, k0]
  unfold blockScore
  refine Finset.sum_congr rfl fun d _ => ?_
  congr 1 <;> blk_ext

/-- The second head's latent scores. -/
theorem lat1 (q : Vec Ideal S256x256 .bf16) (k : Vec Ideal S4096x256 .bf16) (a : Fin 4096) (n : Fin 256) :
    k0_pay8 (q1 q) (k1 k) (ix2 a n) = blockScore q k 1 a n := by
  rw [lat_scores]
  pointwise [q1, k1]
  unfold blockScore
  refine Finset.sum_congr rfl fun d _ => ?_
  congr 1 <;> blk_ext

/-- The first head's context scores. -/
theorem ctx0 (q k : Vec Ideal S256x256 .bf16) (a n : Fin 256) : k0_pay9 (q0 q) (q0 k) (ix2 a n) = blockScore q k 0 a n := by
  rw [ctx_scores]
  pointwise [q0]
  unfold blockScore
  refine Finset.sum_congr rfl fun d _ => ?_
  congr 1 <;> blk_ext

/-- The second head's context scores. -/
theorem ctx1 (q k : Vec Ideal S256x256 .bf16) (a n : Fin 256) : k0_pay9 (q1 q) (q1 k) (ix2 a n) = blockScore q k 1 a n := by
  rw [ctx_scores]
  pointwise [q1]
  unfold blockScore
  refine Finset.sum_congr rfl fun d _ => ?_
  congr 1 <;> blk_ext

/-- The latent scores after the point's two stores. -/
theorem lat_at (q : Vec Ideal S256x256 .bf16) (k : Vec Ideal S4096x256 .bf16) (h : Fin 2) (a : Fin 4096) (n : Fin 256) :
    View.canon
      [(⟨Rect.unit ![1, 0, 0] ![1, 4096, 256] inb_S2x4096x256_S1x4096x256_1_0_0, k0_pay20 (q1 q) (k1 k)⟩
          : View.Piece (Elt Ideal) S2x4096x256 .f32),
        ⟨Rect.unit ![0, 0, 0] ![1, 4096, 256] inb_S2x4096x256_S1x4096x256_0_0_0, k0_pay10 (q0 q) (k0 k)⟩]
      (ix3 h a n) = blockScore q k h a n :=
  two_stores _ _ _ _ (fun h => blockScore q k h a n) a n
    ((lat_stored _ _ _ _).trans ((lat_scores _ _ _ _).symm.trans (lat0 q k a n)))
    ((lat_stored _ _ _ _).trans ((lat_scores _ _ _ _).symm.trans (lat1 q k a n))) h

/-- The context scores after the point's two stores. -/
theorem ctx_at (q k : Vec Ideal S256x256 .bf16) (h : Fin 2) (a n : Fin 256) :
    View.canon
      [(⟨Rect.unit ![1, 0, 0] ![1, 256, 256] inb_S2x256x256_S1x256x256_1_0_0, k0_pay21 (q1 q) (q1 k)⟩
          : View.Piece (Elt Ideal) S2x256x256 .f32),
        ⟨Rect.unit ![0, 0, 0] ![1, 256, 256] inb_S2x256x256_S1x256x256_0_0_0, k0_pay11 (q0 q) (q0 k)⟩]
      (ix3 h a n) = blockScore q k h a n :=
  two_stores _ _ _ _ (fun h => blockScore q k h a n) a n
    ((ctx_stored _ _ _ _).trans ((ctx_scores _ _ _ _).symm.trans (ctx0 q k a n)))
    ((ctx_stored _ _ _ _).trans ((ctx_scores _ _ _ _).symm.trans (ctx1 q k a n))) h

/-- Of finite blocks the maxima after the point's two stores are reals. -/
theorem max_at {q : Vec Ideal S256x256 .bf16} {k : Vec Ideal S4096x256 .bf16} {c : Vec Ideal S256x256 .bf16}
    (hq : Spec.Finite q) (hk : Spec.Finite k) (hc : Spec.Finite c) (h : Fin 2) (n : Fin 256) :
    ∃ r : ℝ, View.canon
      [(⟨Rect.unit ![1, 0, 0] ![1, 1, 256] inb_S2x1x256_S1x1x256_1_0_0, k0_pay4 (k0_pay22 (q1 q) (k1 k) (q1 c))⟩
          : View.Piece (Elt Ideal) S2x1x256 .f32),
        ⟨Rect.unit ![0, 0, 0] ![1, 1, 256] inb_S2x1x256_S1x1x256_0_0_0, k0_pay12 (q0 q) (k0 k) (q0 c)⟩]
      (ix3 h 0 n) = r := by
  obtain ⟨r0, h0⟩ := max_first (q0 q) (k0 k) (q0 c) n (fun a => by rw [lat0]; exact blockScore_real hq hk 0 a n)
    (fun j => by rw [ctx0]; exact blockScore_real hq hc 0 j n)
  obtain ⟨r1, h1⟩ := max_second (q1 q) (k1 k) (q1 c) n (fun a => by rw [lat1]; exact blockScore_real hq hk 1 a n)
    (fun j => by rw [ctx1]; exact blockScore_real hq hc 1 j n)
  exact ⟨![r0, r1] h, two_stores _ _ _ _ (fun h => ((![r0, r1] h : ℝ) : EReal)) 0 n h0 h1 h⟩

/-- The output block of a point whose scratch set holds maxima `m`, latent scores `s` and context scores `c`, and whose value blocks are
    `v` and `w`: row `r`'s head is `r / 64`. -/
theorem out_at (m : Vec Ideal S2x1x256 .f32) (s : Vec Ideal S2x4096x256 .f32) (c : Vec Ideal S2x256x256 .f32)
    (v : Vec Ideal S128x4096 .bf16) (w : Vec Ideal S128x256 .bf16) (r : Fin 128) (n : Fin 256) :
    k0_pay5
      (k0_pay17
        (k0_pay14 (View.ld m (Rect.unit ![0, 0, 0] ![1, 1, 256] inb_S2x1x256_S1x1x256_0_0_0))
          (View.ld s (Rect.unit ![0, 0, 0] ![1, 4096, 256] inb_S2x4096x256_S1x4096x256_0_0_0)))
        (k0_pay15 (View.ld c (Rect.unit ![0, 0, 0] ![1, 256, 256] inb_S2x256x256_S1x256x256_0_0_0)))
        (k0_pay16 (View.ld m (Rect.unit ![0, 0, 0] ![1, 1, 256] inb_S2x1x256_S1x1x256_0_0_0)))
        (View.ld v (Rect.unit ![0, 0] ![64, 4096] inb_S128x4096_S64x4096_0_0))
        (View.ld w (Rect.unit ![0, 0] ![64, 256] inb_S128x256_S64x256_0_0)))
      (View.ld m (Rect.unit ![1, 0, 0] ![1, 1, 256] inb_S2x1x256_S1x1x256_1_0_0))
      (View.ld s (Rect.unit ![1, 0, 0] ![1, 4096, 256] inb_S2x4096x256_S1x4096x256_1_0_0))
      (View.ld c (Rect.unit ![1, 0, 0] ![1, 256, 256] inb_S2x256x256_S1x256x256_1_0_0))
      (View.ld v (Rect.unit ![64, 0] ![64, 4096] inb_S128x4096_S64x4096_64_0))
      (View.ld w (Rect.unit ![64, 0] ![64, 256] inb_S128x256_S64x256_64_0)) (ix2 r n)
    = Softmax.late (fun a : Fin 4096 => s (ix3 ⟨r.val / 64, by omega⟩ a n)) (fun j : Fin 256 => c (ix3 ⟨r.val / 64, by omega⟩ j n))
        (m (ix3 ⟨r.val / 64, by omega⟩ 0 n)) (fun a => v (ix2 r a)) (fun j => w (ix2 r j)) := by
  rw [head_second]
  have hr := r.isLt
  by_cases h : r.val < 64
  · have e : (⟨r.val / 64, by omega⟩ : Fin 2) = 0 := Fin.ext (by show r.val / 64 = 0; omega)
    rw [dif_pos h, head_first, e]
    congr 1
    · funext a; pointwise
    · funext a; pointwise
    · pointwise
    · funext a; pointwise
    · funext a; pointwise
  · have e : (⟨r.val / 64, by omega⟩ : Fin 2) = 1 := Fin.ext (by show r.val / 64 = 1; omega)
    have e2 : (⟨64 + (r.val - 64), by omega⟩ : Fin 128) = r := Fin.ext (by show 64 + (r.val - 64) = r.val; omega)
    rw [dif_neg h, head_first, e]
    congr 1
    · funext a; pointwise
    · funext a; pointwise
    · pointwise
    · funext a; pointwise; rw [e2]
    · funext a; pointwise; rw [e2]

end Cert.Stored

end
-- ==== Proof.Point.lean ====
/- The grid's points: an even point leaves its item's scores in the first scratch set, an odd point in the second, and every point but the
   first writes the attention of the item the point before scored. -/
module

public import proofs.«01_k».proof.Proof.Stored
public import proofs.«01_k».proof.Proof.Gen.KernelIdeal.Frame
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Point

open Cert.KernelIdeal Cert.KernelIdeal.Gen Cert.Stored Idealize.ShloMosaic Idealize.ShloMosaic.TcCoe Idealize.SL.Sem

variable (m : (ℓ : Loc nD τ sig) → Buf (Elt Ideal) ℓ)

/-- The block of queries a point loads. -/
abbrev qBlk (c : Dev nD) (t : Fin cfg0.N) : Vec Ideal S256x256 .bf16 := iblk m c 0 t
/-- The block of latent keys a point loads. -/
abbrev kBlk (c : Dev nD) (t : Fin cfg0.N) : Vec Ideal S4096x256 .bf16 := iblk m c 1 t
/-- The block of latent values a point loads. -/
abbrev vBlk (c : Dev nD) (t : Fin cfg0.N) : Vec Ideal S128x4096 .bf16 := iblk m c 2 t
/-- The block of context keys a point loads. -/
abbrev kcBlk (c : Dev nD) (t : Fin cfg0.N) : Vec Ideal S256x256 .bf16 := iblk m c 3 t
/-- The block of context values a point loads. -/
abbrev vcBlk (c : Dev nD) (t : Fin cfg0.N) : Vec Ideal S128x256 .bf16 := iblk m c 4 t

/-- A scratch set holding the scores of a query block against a latent and a context key block: the scores at every index, and real
    maxima when the blocks are finite. -/
structure Holds (s : Vec Ideal S2x4096x256 .f32) (x : Vec Ideal S2x256x256 .f32) (mx : Vec Ideal S2x1x256 .f32)
    (q : Vec Ideal S256x256 .bf16) (k : Vec Ideal S4096x256 .bf16) (kc : Vec Ideal S256x256 .bf16) : Prop where
  lat : ∀ h a n, s (ix3 h a n) = blockScore q k h a n
  ctx : ∀ h a n, x (ix3 h a n) = blockScore q kc h a n
  max : Spec.Finite q → Spec.Finite k → Spec.Finite kc → ∀ h n, ∃ r : ℝ, mx (ix3 h 0 n) = r

/-- An even point leaves its item's scores in the first scratch set. -/
theorem even (c : Dev nD) (t : Fin cfg0.N) (h1 : t.val % 2 = 0) :
    Holds (outsAt0 m c t.val t.isLt).2.1 (outsAt0 m c t.val t.isLt).2.2.1 (outsAt0 m c t.val t.isLt).2.2.2.1
      (qBlk m c t) (kBlk m c t) (kcBlk m c t) := by
  have h2 : ¬t.val % 2 = 1 := by omega
  by_cases h0 : t.val % 513 = 0
  · rw [outsAt0_A m c t h0 h1 h2]
    refine ⟨fun h a n => ?_, fun h a n => ?_, fun hq hk hc h n => ?_⟩
    · frame_out; exact lat_at _ _ h a n
    · frame_out; exact ctx_at _ _ h a n
    · frame_out; exact max_at hq hk hc h n
  · rw [outsAt0_C m c t h0 h1 h2]
    refine ⟨fun h a n => ?_, fun h a n => ?_, fun hq hk hc h n => ?_⟩
    · frame_out; exact lat_at _ _ h a n
    · frame_out; exact ctx_at _ _ h a n
    · frame_out; exact max_at hq hk hc h n

/-- An odd point leaves its item's scores in the second scratch set. -/
theorem odd (c : Dev nD) (t : Fin cfg0.N) (h2 : t.val % 2 = 1) :
    Holds (outsAt0 m c t.val t.isLt).2.2.2.2.1 (outsAt0 m c t.val t.isLt).2.2.2.2.2.1 (outsAt0 m c t.val t.isLt).2.2.2.2.2.2
      (qBlk m c t) (kBlk m c t) (kcBlk m c t) := by
  have h1 : ¬t.val % 2 = 0 := by omega
  have hN : cfg0.N = 513 := N_0
  have h0 : ¬t.val % 513 = 0 := fun h => by have := t.isLt; omega
  rw [outsAt0_B m c t h0 h1 h2]
  refine ⟨fun h a n => ?_, fun h a n => ?_, fun hq hk hc h n => ?_⟩
  · frame_out; exact lat_at _ _ h a n
  · frame_out; exact ctx_at _ _ h a n
  · frame_out; exact max_at hq hk hc h n

/-- A point after the first writes, of the item the point before scored, the two heads' weighted values. -/
theorem finished (c : Dev nD) (t u : Fin cfg0.N) (hu : u.val + 1 = t.val)
    (hq : Spec.Finite (qBlk m c u)) (hk : Spec.Finite (kBlk m c u)) (hc : Spec.Finite (kcBlk m c u)) (r : Fin 128) (n : Fin 256) :
    ∃ x : ℝ, (outsAt0 m c t.val t.isLt).1 (ix2 r n)
      = Softmax.late (fun a => blockScore (qBlk m c u) (kBlk m c u) ⟨r.val / 64, by omega⟩ a n)
          (fun j => blockScore (qBlk m c u) (kcBlk m c u) ⟨r.val / 64, by omega⟩ j n) x
          (fun a => vBlk m c t (ix2 r a)) (fun j => vcBlk m c t (ix2 r j)) := by
  have hN : cfg0.N = 513 := N_0
  have h0 : ¬t.val % 513 = 0 := fun h => by have := t.isLt; omega
  obtain ⟨u, hlt⟩ := u
  obtain rfl : u = t.val - 1 := by dsimp only at hu; omega
  by_cases h1 : t.val % 2 = 0
  · have h2 : ¬t.val % 2 = 1 := by omega
    have H := odd m c ⟨t.val - 1, hlt⟩ (by dsimp only at hu ⊢; omega)
    obtain ⟨x, hx⟩ := H.max hq hk hc ⟨r.val / 64, by omega⟩ n
    refine ⟨x, ?_⟩
    simp only [← H.lat, ← H.ctx, ← hx]
    rw [outsAt0_C m c t h0 h1 h2]
    frame_out
    simp only [read_unread_whole]
    exact out_at _ _ _ _ _ r n
  · have h2 : t.val % 2 = 1 := by omega
    have H := even m c ⟨t.val - 1, hlt⟩ (by dsimp only at hu ⊢; omega)
    obtain ⟨x, hx⟩ := H.max hq hk hc ⟨r.val / 64, by omega⟩ n
    refine ⟨x, ?_⟩
    simp only [← H.lat, ← H.ctx, ← hx]
    rw [outsAt0_B m c t h0 h1 h2]
    frame_out
    simp only [read_unread_whole]
    exact out_at _ _ _ _ _ r n

end Cert.Point

end
-- ==== Proof.Blocks.lean ====
/- Which block of each array a grid point loads or writes, as arithmetic on the point's number. -/
module

public import proofs.«01_k».proof.Proof.Gen.KernelIdeal.Frame
public import Idealize.ShloMosaic.Lib.Pipeline.ValueKit

@[expose] public section

set_option maxRecDepth 16384

noncomputable section

namespace Cert.Blocks

open Cert.KernelIdeal Cert.KernelIdeal.Gen Idealize.ShloMosaic Idealize.ShloMosaic.TcCoe Idealize.SL.Sem

/-- The block of queries of point `t`: the rows of the scored item's frame and query block, the columns of its head pair. -/
theorem q_index : ∀ t : Fin cfg0.N, win0_0.index t = ![(min t.val 511) / 64 * 16 + (min t.val 511) % 16, (min t.val 511) / 16 % 4] := by
  decide +kernel
/-- The block of latent keys of point `t`. -/
theorem k_index : ∀ t : Fin cfg0.N, win0_1.index t = ![(min t.val 511) / 64, (min t.val 511) / 16 % 4] := by
  decide +kernel
/-- The block of context keys of point `t`. -/
theorem kc_index : ∀ t : Fin cfg0.N, win0_3.index t = ![(min t.val 511) / 64, (min t.val 511) / 16 % 4] := by
  decide +kernel
/-- The block of latent values of point `t`: those of the finished item. -/
theorem v_index : ∀ t : Fin cfg0.N, win0_2.index t = ![(t.val - 1) / 16 % 4, (t.val - 1) / 64] := by
  decide +kernel
/-- The block of context values of point `t`. -/
theorem vc_index : ∀ t : Fin cfg0.N, win0_4.index t = ![(t.val - 1) / 16 % 4, (t.val - 1) / 64] := by
  decide +kernel
/-- The output block of point `t`: that of the finished item. -/
theorem o_index : ∀ t : Fin cfg0.N, win0_5.index t = ![(t.val - 1) / 16 % 4, (t.val - 1) / 64 * 16 + (t.val - 1) % 16] := by
  decide +kernel
/-- The first point writes no block back. -/
theorem flush_pos : ∀ t : Fin cfg0.N, (cfg0.win 5).flush t = true → t.val ≠ 0 := by
  decide +kernel

/-- The blocks written back cover the output array. -/
theorem covers : (cfg0.win 5).Covers := by decide +kernel

end Cert.Blocks

end
-- ==== Proof.Result.lean ====
/- The kernel's result array: its blocks are written once each, and each block is the attention of its frame, head pair and query rows. -/
module

public import proofs.«01_k».proof.Proof.Point
public import proofs.«01_k».proof.Proof.Blocks

@[expose] public section

set_option maxRecDepth 16384

noncomputable section

namespace Cert.Result

open Cert.KernelIdeal Cert.KernelIdeal.Gen Cert.Stored Cert.Point Cert.Blocks Idealize.ShloMosaic Idealize.ShloMosaic.TcCoe Idealize.SL.Sem

variable (m : (ℓ : Loc nD τ sig) → Buf (Elt Ideal) ℓ)

/-- The queries at launch. -/
abbrev qArr (c : Dev nD) : Vec Ideal S32768x1024 .bf16 := m ((c : Thread nD τ).loc main_arg0)
/-- The latent keys at launch. -/
abbrev kArr (c : Dev nD) : Vec Ideal S32768x1024 .bf16 := m ((c : Thread nD τ).loc main_arg1)
/-- The latent values at launch. -/
abbrev vArr (c : Dev nD) : Vec Ideal S512x32768 .bf16 := m ((c : Thread nD τ).loc main_arg2)
/-- The context keys at launch. -/
abbrev kcArr (c : Dev nD) : Vec Ideal S2048x1024 .bf16 := m ((c : Thread nD τ).loc main_arg3)
/-- The context values at launch. -/
abbrev vcArr (c : Dev nD) : Vec Ideal S512x2048 .bf16 := m ((c : Thread nD τ).loc main_arg4)

/-- Two spellings of one index by equal coordinates. -/
theorem at_congr {n0 n1 : ℕ} (x : (⟨2, ![n0, n1]⟩ : Shape).Idx → EReal) {a a' : Fin n0} {b b' : Fin n1} (ha : a.val = a'.val)
    (hb : b.val = b'.val) : x (ix2 a b) = x (ValueIdx.ix2 a' b') := by
  obtain rfl := Fin.ext ha
  obtain rfl := Fin.ext hb
  refine congrArg x (funext fun i => ?_)
  match i with | ⟨0, _⟩ => rfl | ⟨1, _⟩ => rfl

/-- The grid has 513 points. -/
theorem point_lt (t : Fin cfg0.N) : t.val < 513 := lt_of_lt_of_eq t.isLt N_0

/-- The query block of point `t` at an index. -/
theorem q_at (c : Dev nD) (t : Fin cfg0.N) (n : Fin 256) (d : Fin 256) :
    qBlk m c t (ix2 n d) = qArr m c (ix2
      ⟨((min t.val 511) / 64 * 16 + (min t.val 511) % 16) * 256 + n.val, by have := point_lt t; omega⟩
      ⟨(min t.val 511) / 16 % 4 * 256 + d.val, by omega⟩) := by
  have := point_lt t
  blk_ext [qBlk, iblk, V, q_index t]

/-- The latent key block of point `t` at an index. -/
theorem k_at (c : Dev nD) (t : Fin cfg0.N) (a : Fin 4096) (d : Fin 256) :
    kBlk m c t (ix2 a d) = kArr m c (ix2
      ⟨(min t.val 511) / 64 * 4096 + a.val, by have := point_lt t; omega⟩ ⟨(min t.val 511) / 16 % 4 * 256 + d.val, by omega⟩) := by
  have := point_lt t
  blk_ext [kBlk, iblk, V, k_index t]

/-- The context key block of point `t` at an index. -/
theorem kc_at (c : Dev nD) (t : Fin cfg0.N) (j : Fin 256) (d : Fin 256) :
    kcBlk m c t (ix2 j d) = kcArr m c (ix2
      ⟨(min t.val 511) / 64 * 256 + j.val, by have := point_lt t; omega⟩ ⟨(min t.val 511) / 16 % 4 * 256 + d.val, by omega⟩) := by
  have := point_lt t
  blk_ext [kcBlk, iblk, V, kc_index t]

/-- The latent value block of point `t` at an index. -/
theorem v_at (c : Dev nD) (t : Fin cfg0.N) (r : Fin 128) (a : Fin 4096) :
    vBlk m c t (ix2 r a) = vArr m c (ix2
      ⟨(t.val - 1) / 16 % 4 * 128 + r.val, by omega⟩ ⟨(t.val - 1) / 64 * 4096 + a.val, by have := point_lt t; omega⟩) := by
  have := point_lt t
  blk_ext [vBlk, iblk, V, v_index t]

/-- The context value block of point `t` at an index. -/
theorem vc_at (c : Dev nD) (t : Fin cfg0.N) (r : Fin 128) (j : Fin 256) :
    vcBlk m c t (ix2 r j) = vcArr m c (ix2
      ⟨(t.val - 1) / 16 % 4 * 128 + r.val, by omega⟩ ⟨(t.val - 1) / 64 * 256 + j.val, by have := point_lt t; omega⟩) := by
  have := point_lt t
  blk_ext [vcBlk, iblk, V, vc_index t]

variable {m}

/-- The blocks of finite queries, latent keys and context keys are finite. -/
theorem finite_blocks {c : Dev nD} (hq : Spec.Finite (qArr m c)) (hk : Spec.Finite (kArr m c)) (hc : Spec.Finite (kcArr m c))
    (t : Fin cfg0.N) : Spec.Finite (qBlk m c t) ∧ Spec.Finite (kBlk m c t) ∧ Spec.Finite (kcBlk m c t) := by
  refine ⟨fun i => ?_, fun i => ?_, fun i => ?_⟩
  · idx_vars i; rw [q_at]; exact hq _
  · idx_vars i; rw [k_at]; exact hk _
  · idx_vars i; rw [kc_at]; exact hc _

/-- The score of a block is the score of the arrays at the block's place. -/
theorem lat_score {c : Dev nD} (u : Fin cfg0.N) (hu : u.val < 512) (r : Fin 128) (n : Fin 256) (a : Fin 4096)
    (R : Fin 512) (hR : R.val = u.val / 16 % 4 * 128 + r.val) (T : Fin 32768) (hT : T.val = (u.val / 64 * 16 + u.val % 16) * 256 + n.val) :
    blockScore (qBlk m c u) (kBlk m c u) ⟨r.val / 64, by omega⟩ a n
      = Spec.score (qArr m c) (kArr m c) T ⟨R.val / 64, by omega⟩ (Spec.latRow ⟨T.val / 4096, by omega⟩ a) := by
  unfold blockScore Spec.score
  refine Finset.sum_congr rfl fun d _ => ?_
  rw [q_at, k_at, mul_comm]
  have hm : min u.val 511 = u.val := by omega
  have hn := n.isLt
  have hr := r.isLt
  congr 1
  · refine at_congr _ ?_ ?_
    · dsimp only; omega
    · dsimp only; omega
  · refine at_congr _ ?_ ?_
    · dsimp only; omega
    · dsimp only; omega

/-- The same for the context. -/
theorem ctx_score {c : Dev nD} (u : Fin cfg0.N) (hu : u.val < 512) (r : Fin 128) (n : Fin 256) (j : Fin 256)
    (R : Fin 512) (hR : R.val = u.val / 16 % 4 * 128 + r.val) (T : Fin 32768) (hT : T.val = (u.val / 64 * 16 + u.val % 16) * 256 + n.val) :
    blockScore (qBlk m c u) (kcBlk m c u) ⟨r.val / 64, by omega⟩ j n
      = Spec.score (qArr m c) (kcArr m c) T ⟨R.val / 64, by omega⟩ (Spec.ctxRow ⟨T.val / 4096, by omega⟩ j) := by
  unfold blockScore Spec.score
  refine Finset.sum_congr rfl fun d _ => ?_
  rw [q_at, kc_at, mul_comm]
  have hm : min u.val 511 = u.val := by omega
  have hn := n.isLt
  have hr := r.isLt
  congr 1
  · refine at_congr _ ?_ ?_
    · dsimp only; omega
    · dsimp only; omega
  · refine at_congr _ ?_ ?_
    · dsimp only; omega
    · dsimp only; omega

/-- Of finite queries and keys a block written back is the attention at the block's place. -/
theorem block_at {c : Dev nD} (hq : Spec.Finite (qArr m c)) (hk : Spec.Finite (kArr m c)) (hc : Spec.Finite (kcArr m c))
    (t : Fin cfg0.N) (ht : t.val ≠ 0) (r : Fin 128) (n : Fin 256)
    (R : Fin 512) (hR : R.val = (t.val - 1) / 16 % 4 * 128 + r.val)
    (T : Fin 32768) (hT : T.val = ((t.val - 1) / 64 * 16 + (t.val - 1) % 16) * 256 + n.val) :
    (outsAt0 m c t.val t.isLt).1 (ix2 r n) = Spec.attn (qArr m c) (kArr m c) (vArr m c) (kcArr m c) (vcArr m c) R T := by
  have hlt := point_lt t
  obtain ⟨u, hu⟩ : ∃ u : Fin cfg0.N, u.val + 1 = t.val := ⟨⟨t.val - 1, by have := t.isLt; omega⟩, by dsimp only; omega⟩
  have e : t.val - 1 = u.val := by omega
  rw [e] at hR hT
  obtain ⟨fq, fk, fc⟩ := finite_blocks hq hk hc u
  obtain ⟨x, hx⟩ := finished m c t u hu fq fk fc r n
  rw [hx]
  unfold Spec.attn
  rw [← Softmax.late_eq _ _ x]
  congr 1
  · funext a
    rw [lat_score u (by omega) r n a R hR T hT]
    exact Spec.score_eq hq hk _ _ _
  · funext j
    rw [ctx_score u (by omega) r n j R hR T hT]
    exact Spec.score_eq hq hc _ _ _
  · funext a
    have hn := n.isLt
    rw [v_at]
    exact at_congr _ (by dsimp only; omega) (by dsimp only; omega)
  · funext j
    have hn := n.isLt
    rw [vc_at]
    exact at_congr _ (by dsimp only; omega) (by dsimp only; omega)

/-- Of finite queries and keys the kernel's result array is the attention at every index. -/
theorem result {c : Dev nD} (hq : Spec.Finite (qArr m c)) (hk : Spec.Finite (kArr m c)) (hc : Spec.Finite (kcArr m c)) :
    (dats m 0 c).arrAt 5 cfg0.N
      = fun i => Spec.attn (qArr m c) (kArr m c) (vArr m c) (kcArr m c) (vcArr m c) (i 0) (i 1) := by
  refine (dats m 0 c).arrAt_eq_of_covers 5 _ covers fun t hf y => ?_
  blk_simp
  rw [after0_5]
  rw [show y = ix2 (n0 := 128) (n1 := 256) (y 0) (y 1) from eq_ix2 (n0 := 128) (n1 := 256) y]
  refine block_at hq hk hc t (flush_pos t hf) (y 0) (y 1) _ ?_ _ ?_
  · blk_simp [o_index t]
  · blk_simp [o_index t]

end Cert.Result

end
-- ==== Proof.Precondition.lean ====
/- The precondition `finite`: what its all-ones masks say of the arguments at the ideal instance. -/
module

public import proofs.«01_k».proof.Proof.Spec
public import proofs.«01_k».proof.Pre_finite
public import Idealize.ShloMosaic.PureOps.Ideal
public import Idealize.ShloMosaic.Lib.Pointwise

@[expose] public section

noncomputable section

namespace Cert.Finite

open Idealize.ShloMosaic

/-- The side conditions the precondition's operations take. -/
theorem facts : Cert.Pre_finite.Facts where
  bcast_S_S32768x1024 := by decide
  bcast_S_S2048x1024 := by decide

attribute [local instance] facts

/-- The word of minus infinity is `⊥`. -/
theorem bot_bits : Ideal.ofBits .bf16 0xFF80#16 = ⊥ := by simp [Ideal.ofBits, Ideal.ieee]

/-- The word of infinity is `⊤`. -/
theorem top_bits : Ideal.ofBits .bf16 0x7F80#16 = ⊤ := by simp [Ideal.ofBits, Ideal.ieee]

/-- An element whose mask is one lies strictly between the two infinities: it is real. -/
theorem real_of_between {x : EReal}
    (h : IntOp.andi (BitVec.ofBool (decide (Ideal.ofBits .bf16 0xFF80#16 < x))) (BitVec.ofBool (decide (x < Ideal.ofBits .bf16 0x7F80#16))) = 1#1) :
    ∃ r : ℝ, x = r := by
  rw [bot_bits, top_bits] at h
  have hb : x ≠ ⊥ := by rintro rfl; simp [IntOp.andi] at h
  have ht : x ≠ ⊤ := by rintro rfl; simp [IntOp.andi] at h
  exact ⟨x.toReal, (EReal.coe_toReal ht hb).symm⟩

variable (q k : FVec Ideal Cert.Pre_finite.S32768x1024 .bf16) (v : FVec Ideal Cert.Pre_finite.S512x32768 .bf16)
  (kc : FVec Ideal Cert.Pre_finite.S2048x1024 .bf16) (vc : FVec Ideal Cert.Pre_finite.S512x2048 .bf16)

/-- All ones in the first mask: the queries are finite. -/
theorem queries (h : (Cert.Pre_finite.fn (F := Ideal) q k v kc vc).1 = fun _ => 1#1) : Spec.Finite q := by
  intro i
  have e := congrFun h i
  pointwise [Cert.Pre_finite.fn] at e
  exact real_of_between e

/-- All ones in the second mask: the latent keys are finite. -/
theorem keys (h : (Cert.Pre_finite.fn (F := Ideal) q k v kc vc).2.1 = fun _ => 1#1) : Spec.Finite k := by
  intro i
  have e := congrFun h i
  pointwise [Cert.Pre_finite.fn] at e
  exact real_of_between e

/-- All ones in the third mask: the context keys are finite. -/
theorem context (h : (Cert.Pre_finite.fn (F := Ideal) q k v kc vc).2.2 = fun _ => 1#1) : Spec.Finite kc := by
  intro i
  have e := congrFun h i
  pointwise [Cert.Pre_finite.fn] at e
  exact real_of_between e

end Cert.Finite

end
-- ==== Proof.Transfer.lean ====
/- The experts' program and its idealization are one program at the ideal instance: a run of the one is a run of the other. -/
module

public import proofs.«01_k».proof.Defs
public import proofs.«01_k».proof.Proof.Gen.Experts
public import proofs.«01_k».proof.Proof.Gen.ExpertsIdeal
public import Idealize.ShloMosaic.Lib.Tactic

@[expose] public section

set_option maxRecDepth 65536

noncomputable section

namespace Cert.Transfer

open Idealize.ShloMosaic Idealize.SL.Sem Idealize.ShloMosaic.Tactic

attribute [local instance] Cert.Experts.Gen.facts Cert.ExpertsIdeal.Gen.facts

/-- A run of the idealization is the run of the program at the ideal instance. -/
theorem run_eq (m : (ℓ : Loc Cert.ExpertsIdeal.nD Cert.ExpertsIdeal.τ Cert.ExpertsIdeal.sig) → Buf (Elt Ideal) ℓ) (g : Dev Cert.ExpertsIdeal.nD → PrngReg) :
    θ_run (Cert.ExpertsIdeal.defs (F := Ideal)) (onTc (τ := Cert.ExpertsIdeal.τ) (Cert.ExpertsIdeal.main (F := Ideal))) ⟨m, fun _ => 0, g⟩
      = θ_run (Cert.Experts.defs (F := Ideal)) (onTc (τ := Cert.Experts.τ) (Cert.Experts.main (F := Ideal))) ⟨m, fun _ => 0, g⟩ := by
  sl_kernel_rfl

end Cert.Transfer

end
-- ==== Proof.Region.lean ====
/- The experts' call as its launch finds it: what the host operations leave in the arrays, the tables read off the
   launch memory, the windows' blocks, and what a run of the pipeline says of the arguments. -/
module

public import proofs.«01_k».proof.Proof.Gen.Experts.Launch
public import proofs.«01_k».proof.Proof.Gen.Experts.Skeleton
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Experts.Region

open Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the pipeline -/

/-- The host operations before the pipeline, stretch by stretch: the biases' halves, the column choice, the matrix. -/
abbrev stretches : List (List (HloOp τ sig (Elt F))) := [hostOps0, hostOps0_1, hostOps0_2]

/-- What a buffer of core `c` holds when the pipeline starts. -/
abbrev V (c : Dev nD) (b : Ref sig .tc) : Buf (Elt F) ((c : Thread nD τ).loc b) :=
  StableHlo.after (stretches (F := F)).flatten (fun b => m (c, b)) b

/-- The program is its host operations, then the pipeline. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches ⟨hostOps0_sub, hostOps0_1_sub, hostOps0_2_sub⟩
    (by simp only [List.Forall]; repeat' constructor) main_chain

/-- The buffers the host operations write, in order. -/
abbrev written : List (Ref sig .tc) :=
  [main_v0, main_v1, main_v2, main_v3, main_v4, main_v5, main_c, main_v6, main_v7, main_c_0, main_v8, main_v9, main_c_1, main_v10,
    main_v11, main_c_2, main_v12, main_v13, main_c_3, main_v14, main_v15, main_v16, main_v17, main_v18, main_v19, main_v20,
    main_v21, main_v22, main_v23]

/-- A buffer that no host operation writes is what it was at the launch. -/
theorem untouched (c : Dev nD) {b : Ref sig .tc} (h : ∀ y ∈ written, b ≠ y) : V m c b = m ((c : Thread nD τ).loc b) := by
  refine StableHlo.after_of_forall_not_mem (b := Proc.devRef .tc b) _ _ (List.forall_iff_forall_mem.mp ?_)
  simp only [stretches, hostOps0, hostOps0_1, hostOps0_2, List.flatten_cons, List.flatten_nil, List.append_nil, List.cons_append,
    List.nil_append, List.Forall, StableHlo.nullary_writes, StableHlo.unary_writes, StableHlo.binary_writes,
    StableHlo.TRef.ternary, StableHlo.ternary_writes, Finset.mem_singleton]
  repeat' apply And.intro
  all_goals exact StableHlo.devRef_ne_of_ne (h _ (by simp))

/-! ## The tables -/

/-- The tables' contents when the pipeline starts: each block's expert, and how many blocks are used. -/
def tables : pre0.Contents (Elt F) := fun j => V m (0 : Dev nD) (pre0.ref j)

/-- There is one core: its tables are those. -/
theorem tables_core (c : Dev nD) (j : Fin 2) : V m c (pre0.ref j) = tables m j := by
  obtain rfl : c = 0 := Subsingleton.elim _ _
  rfl

/-- Every window that the tables place lies inside its array. -/
abbrev Placed : Prop := ok0 (F := F) (tables m)

/-- The tables as contents that the pipeline admits, -/
abbrev adm (hO : Placed m) : (pcfg0 (F := F)).Adm := ⟨tables m, hO⟩

/-- and the pipeline at them. -/
abbrev cfg (hO : Placed m) : Pipeline.Cfg sig Λ₀ := cfg0 (adm m hO)

/-- The tables as the body is handed them: whole buffers. -/
abbrev experts : Memref sig .tc .smem S344 .i32 := Memref.whole main_arg0
abbrev used : Memref sig .tc .smem S1 .i32 := Memref.whole main_arg1

/-- A table held for reading. -/
abbrev heldTable (c : Dev nD) {S : Shape} {e : EltTy} (M : Memref sig .tc .smem S e)
    (f : Buf (Elt F) (M.view.loc (c : Thread nD τ))) : sProp 𝕄 :=
  M.view.loc (c : Thread nD τ) ↦{fullShare.right} f

/-- What the pipeline lends the body of the tables is the two of them. -/
theorem lent_tables (c : Dev nD) :
    (Pipeline.ΦT pre0 (tables m) c : sProp 𝕄) = iprop(heldTable c experts (tables m 0) ∗ heldTable c used (tables m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array. -/
def block (hO : Placed m) (c : Dev nD) (w : Fin (cfg m hO).W) (t : Fin (cfg m hO).N) :
    (((cfg m hO).win w).xblock ((cfg m hO).grid.coords t)).Idx → Elt F ((cfg m hO).win w).elt :=
  (((cfg m hO).win w).blk t).view.read (Elt F) (V m c (Pipeline.arrRef spec0 w))

/-- An input's staging buffer holds its block at every point, whether it was fetched there or kept from before, for any
    proof data over these arrays whose body leaves the inputs as they are. -/
theorem before_input (hO : Placed m) {c : Dev nD} (dat : Dat τ (Elt F) Unit ℕ (UR sig nD τ) ℕ (cfg m hO) c)
    (hA : ∀ w, dat.A w = V m c (Pipeline.arrRef spec0 w)) (w : Fin (cfg m hO).W) (hin : ((cfg m hO).win w).isOut = false)
    (hlive : ∀ i, (cfg m hO).idle w i = false)
    (hclip : ∀ t t' : Fin (cfg m hO).N, ((cfg m hO).win w).index t = ((cfg m hO).win w).index t' →
      ((cfg m hO).win w).clip ((cfg m hO).grid.coords t) = ((cfg m hO).win w).clip ((cfg m hO).grid.coords t'))
    (hcut : ∀ t, ((cfg m hO).win w).cut ((cfg m hO).grid.coords t) (dat.after w t) = block m hO c w t)
    (t : Fin (cfg m hO).N) (d) :
    dat.before w t d = dat.fetched w t d :=
  dat.before_in_eq_fetched w hin hlive hclip (fun t => by rw [hcut]; unfold Dat.blockOf block; rw [hA]) t d

/-! ## The frame from a run -/

/-- A run that ends in the library's postcondition leaves every argument as it was. -/
theorem unchanged_of (hO : Placed m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun _ h c => ?_) h
  have kept (b : Ref sig .tc) (hr : b ∈ Pipeline.restRefs sig spec0) (hw : ∀ y ∈ written, b ≠ y) := ((h c).2 b hr).trans (untouched m c hw)
  refine ⟨kept main_arg0 (by decide) (by decide), kept main_arg1 (by decide) (by decide), ?_, ?_, kept main_arg4 (by decide) (by decide),
    ?_, kept main_arg6 (by decide) (by decide)⟩
  · exact ((h c).1 0).trans (((dats 0 c).arrAt_in 0 rfl _).trans ((hA c 0).trans (untouched m c (b := main_arg2) (by decide))))
  · exact ((h c).1 1).trans (((dats 0 c).arrAt_in 1 rfl _).trans ((hA c 1).trans (untouched m c (b := main_arg3) (by decide))))
  · exact ((h c).1 4).trans (((dats 0 c).arrAt_in 4 rfl _).trans ((hA c 4).trans (untouched m c (b := main_arg5) (by decide))))

end Cert.Experts.Region

end
-- ==== Proof.Body.lean ====
/- One point of the experts' call: what the body does to its buffers. -/
module

public import proofs.«01_k».proof.Proof.Region
public import Idealize.ShloMosaic.Lib.Pipeline.ValueKit
public import Idealize.ShloMosaic.Lib.Pointwise

@[expose] public section

set_option maxRecDepth 16384

noncomputable section

namespace Cert.Experts.Body

open Cert.Experts.Gen Cert.Experts.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The words the body decides on -/

section Words

variable {c : Dev nD} (i : grid0.Coords) (be : Buf (Elt F) (experts.view.loc (c : Thread nD τ))) (nu : Buf (Elt F) (used.view.loc (c : Thread nD τ)))

/-- How many blocks are used, as the body loads it; -/
def usedWord : BitVec 32 :=
  View.readAt (Elt F) used.view (Rect.unit (s := S1) ![0] S1.size inb_S1_S1_0).toLoadRect nu (Shape.Idx.first (numel1_S1 ▸ Nat.one_pos))

/-- the expert of the block at hand; -/
def expertWord : BitVec 32 :=
  View.readAt (Elt F) experts.view (Rect.unit (s := S344) (k0_off1 i) S1.size (k0_off1_inb i)).toLoadRect be (Shape.Idx.first (numel1_S1 ▸ Nat.one_pos))

/-- and the expert of the block before it. -/
def priorWord : BitVec 32 :=
  View.readAt (Elt F) experts.view (Rect.unit (s := S344) (k0_off2 i) S1.size (k0_off2_inb i)).toLoadRect be (Shape.Idx.first (numel1_S1 ▸ Nat.one_pos))

/-- One where the expert's weights are to be split anew: the block is used, and is the first or of another expert than the one before. -/
def splitBit : BitVec 1 :=
  Scalar.cmpi .ne (Scalar.extui (Scalar.andi (Scalar.cmpi .slt (BitVec.ofNat 32 (i 0).val) (usedWord (F := F) nu))
    (Scalar.ori (Scalar.cmpi .eq (BitVec.ofNat 32 (i 0).val) 0#32) (Scalar.cmpi .ne (expertWord i be) (priorWord i be))))) 0#32

/-- The last condition is the negation of the one before. -/
theorem cond3_iff (v : BitVec 32) : k0_cond3 i v = 1#1 ↔ ¬k0_cond2 i v = 1#1 := by
  unfold k0_cond3 k0_cond2
  dsimp only
  generalize Scalar.cmpi .slt (BitVec.ofNat 32 (i 0).val) v = b
  revert b
  decide

end Words

/-! ## Splitting the weights -/

/-- The columns `[256 b, 256 b + 256)` of an expert's first weights. -/
def columns (wgu : Vec F S1x1024x2048 .f32) (b : Fin 8) : Vec F S1x1024x256 .f32 :=
  fun z => wgu (ix3 (z 0) (z 1) ⟨256 * b.val + (z 2).val, by have h : (z 2).val < 256 := (z 2).isLt; have := b.isLt; omega⟩)

/-- The gate half of an expert's first weights: column `j` out of the first half of the chunk that holds it, permuted. -/
def gateHalf (wgu : Vec F S1x1024x2048 .f32) (pm : Vec F S256x256 .bf16) : Vec F S1024x1024 .bf16 :=
  fun y => k0_pay9 (columns wgu ⟨(y 1).val / 128, Nat.div_lt_of_lt_mul (y 1).isLt⟩) pm (ix2 (y 0) ⟨(y 1).val % 128, Nat.mod_lt _ (by decide)⟩)

/-- The linear half, out of the second half of the chunk. -/
def linearHalf (wgu : Vec F S1x1024x2048 .f32) (pm : Vec F S256x256 .bf16) : Vec F S1024x1024 .bf16 :=
  fun y => k0_pay10 (columns wgu ⟨(y 1).val / 128, Nat.div_lt_of_lt_mul (y 1).isLt⟩) pm (ix2 (y 0) ⟨(y 1).val % 128, Nat.mod_lt _ (by decide)⟩)

/-- A load of a chunk's columns is that chunk. -/
theorem load_columns {v : View sig .tc .vmem S1x1024x2048 .f32} {f : v.ty.Contents (Elt F)} {wgu : Vec F S1x1024x2048 .f32}
    (h : v.read (Elt F) f = wgu) (b : Fin 8) (inb : ∀ a, (![0, 0, 256 * b.val] : Fin 3 → ℕ) a + S1x1024x256.size a ≤ S1x1024x2048.size a) :
    v.readAt (Elt F) (Rect.unit (s := S1x1024x2048) ![0, 0, 256 * b.val] S1x1024x256.size inb).toLoadRect f = columns wgu b := by
  subst h
  funext z
  rw [View.readAt_apply]
  refine congrArg (v.read (Elt F) f) (funext fun a => Fin.ext ?_)
  match a with
  | ⟨0, _⟩ => show 0 + 1 * (z 0).val = (z 0).val; omega
  | ⟨1, _⟩ => show 0 + 1 * (z 1).val = (z 1).val; omega
  | ⟨2, _⟩ => show 256 * b.val + 1 * (z 2).val = 256 * b.val + (z 2).val; omega

/-- A store of columns `[128 b, 128 b + 128)` read against the whole: chunk `b`, and the column's place in it. -/
theorem placed (G : Fin 8 → Vec F S1024x128 .bf16) (b : Fin 8) (inb : ∀ a, (![0, 128 * b.val] : Fin 2 → ℕ) a + S1024x128.size a ≤ S1024x1024.size a)
    (z : S1024x128.Idx) :
    G b z = (fun y : S1024x1024.Idx => G ⟨(y 1).val / 128, Nat.div_lt_of_lt_mul (y 1).isLt⟩ (ix2 (y 0) ⟨(y 1).val % 128, Nat.mod_lt _ (by decide)⟩))
      ((Rect.unit (s := S1024x1024) ![0, 128 * b.val] S1024x128.size inb).emb z) := by
  have hz : (z 1).val < 128 := (z 1).isLt
  have e0 : (((Rect.unit (s := S1024x1024) ![0, 128 * b.val] S1024x128.size inb).emb z) 0).val = (z 0).val := by
    show 0 + 1 * (z 0).val = _; omega
  have e1 : (((Rect.unit (s := S1024x1024) ![0, 128 * b.val] S1024x128.size inb).emb z) 1).val = 128 * b.val + (z 1).val := by
    show 128 * b.val + 1 * (z 1).val = _; omega
  refine congr (congrArg G (Fin.ext ?_)) (funext fun a => Fin.ext ?_)
  · show b.val = _ / 128
    rw [e1]; omega
  · match a with
    | ⟨0, _⟩ => exact e0.symm
    | ⟨1, _⟩ => show (z 1).val = _ % 128; rw [e1]; omega

/-- The eight stores of a half, read: every column out of the chunk that holds it. -/
theorem split_read {v : View sig .tc .vmem S1024x1024 .bf16} (f : v.ty.Contents (Elt F)) (G : Fin 8 → Vec F S1024x128 .bf16)
    {p0 p1 p2 p3 p4 p5 p6 p7 : Vec F S1024x128 .bf16} (h0 : p0 = G 0) (h1 : p1 = G 1) (h2 : p2 = G 2) (h3 : p3 = G 3) (h4 : p4 = G 4)
    (h5 : p5 = G 5) (h6 : p6 = G 6) (h7 : p7 = G 7) :
    v.read (Elt F) (v.writes (Elt F) f
      [⟨Rect.unit (s := S1024x1024) ![0, 896] S1024x128.size inb_S1024x1024_S1024x128_0_896, p7⟩,
       ⟨Rect.unit (s := S1024x1024) ![0, 768] S1024x128.size inb_S1024x1024_S1024x128_0_768, p6⟩,
       ⟨Rect.unit (s := S1024x1024) ![0, 640] S1024x128.size inb_S1024x1024_S1024x128_0_640, p5⟩,
       ⟨Rect.unit (s := S1024x1024) ![0, 512] S1024x128.size inb_S1024x1024_S1024x128_0_512, p4⟩,
       ⟨Rect.unit (s := S1024x1024) ![0, 384] S1024x128.size inb_S1024x1024_S1024x128_0_384, p3⟩,
       ⟨Rect.unit (s := S1024x1024) ![0, 256] S1024x128.size inb_S1024x1024_S1024x128_0_256, p2⟩,
       ⟨Rect.unit (s := S1024x1024) ![0, 128] S1024x128.size inb_S1024x1024_S1024x128_0_128, p1⟩,
       ⟨Rect.unit (s := S1024x1024) ![0, 0] S1024x128.size inb_S1024x1024_S1024x128_0_0, p0⟩])
      = fun y : S1024x1024.Idx => G ⟨(y 1).val / 128, Nat.div_lt_of_lt_mul (y 1).isLt⟩ (ix2 (y 0) ⟨(y 1).val % 128, Nat.mod_lt _ (by decide)⟩) := by
  subst h0 h1 h2 h3 h4 h5 h6 h7
  funext y
  refine View.read_writes_apply_of_pieces _ _ (fun y : S1024x1024.Idx => G ⟨(y 1).val / 128, Nat.div_lt_of_lt_mul (y 1).isLt⟩ (ix2 (y 0) ⟨(y 1).val % 128, Nat.mod_lt _ (by decide)⟩))
    _ ?_ y (View.cover_of_tiledL (s := S1024x1024) _ S1024x128.size (by sl_kernel_rfl) y)
  simp only [List.forall_mem_cons]
  exact ⟨fun x => placed G 7 inb_S1024x1024_S1024x128_0_896 x, fun x => placed G 6 inb_S1024x1024_S1024x128_0_768 x,
    fun x => placed G 5 inb_S1024x1024_S1024x128_0_640 x, fun x => placed G 4 inb_S1024x1024_S1024x128_0_512 x,
    fun x => placed G 3 inb_S1024x1024_S1024x128_0_384 x, fun x => placed G 2 inb_S1024x1024_S1024x128_0_256 x,
    fun x => placed G 1 inb_S1024x1024_S1024x128_0_128 x, fun x => placed G 0 inb_S1024x1024_S1024x128_0_0 x, List.forall_mem_nil _⟩

/-- A store of the whole buffer, read. -/
theorem full_read {v : View sig .tc .vmem S1024x1024 .bf16} (f : v.ty.Contents (Elt F)) {p D : Vec F S1024x1024 .bf16} (h : p = D) :
    v.read (Elt F) (v.writes (Elt F) f [⟨Rect.unit (s := S1024x1024) ![0, 0] S1024x1024.size inb_S1024x1024_S1024x1024_0_0, p⟩]) = D := by
  subst h
  rw [View.read_writes_eq_canon _ _ _ (View.cover_of_tiledL (s := S1024x1024) _ S1024x1024.size (by sl_kernel_rfl))]
  exact View.canon_cons_unit_zero (by decide) _ _ _

/-- Stores under a condition, read: the stored array where it holds, what was there where it does not. -/
theorem read_if {S : Shape} {e : EltTy} {v : View sig .tc .vmem S e} {P : Prop} [Decidable P] {f g : v.ty.Contents (Elt F)} {a b : S.Idx → Elt F e}
    (ha : v.read (Elt F) f = a) (hb : v.read (Elt F) g = b) : v.read (Elt F) (if _ : P then f else g) = if P then a else b := by
  split <;> assumption

/-- The output block after the two guarded stores, one of which happens. -/
theorem output_read {v : View sig .tc .vmem S512x1024 .bf16} (f : v.ty.Contents (Elt F)) {P Q : Prop} [Decidable P] [Decidable Q] (h : Q ↔ ¬P)
    {w R z : Vec F S512x1024 .bf16} (hw : w = R) :
    v.read (Elt F)
      (if _ : Q then
        v.writes (Elt F) (if _ : P then v.writes (Elt F) f [⟨Rect.unit (s := S512x1024) ![0, 0] S512x1024.size inb_S512x1024_S512x1024_0_0, w⟩] else f)
          [⟨Rect.unit (s := S512x1024) ![0, 0] S512x1024.size inb_S512x1024_S512x1024_0_0, z⟩]
      else if _ : P then v.writes (Elt F) f [⟨Rect.unit (s := S512x1024) ![0, 0] S512x1024.size inb_S512x1024_S512x1024_0_0, w⟩] else f)
      = if P then R else z := by
  subst hw
  have full : ∀ (g : v.ty.Contents (Elt F)) (p : Vec F S512x1024 .bf16),
      v.read (Elt F) (v.writes (Elt F) g [⟨Rect.unit (s := S512x1024) ![0, 0] S512x1024.size inb_S512x1024_S512x1024_0_0, p⟩]) = p := fun g p => by
    rw [View.read_writes_eq_canon _ _ _ (View.cover_of_tiledL (s := S512x1024) _ S512x1024.size (by sl_kernel_rfl))]
    exact View.canon_cons_unit_zero (by decide) _ _ _
  by_cases hP : P
  · rw [dif_neg (fun hQ => h.mp hQ hP), dif_pos hP, if_pos hP]
    exact full _ _
  · rw [dif_pos (h.mpr hP), if_neg hP]
    exact full _ _

variable (c : Dev nD) (i : grid0.Coords)
  (arg3 : Memref sig .tc .vmem S512x1024 .bf16) (harg3 : arg3.IsWhole) (arg4 : Memref sig .tc .vmem S1x1024x2048 .f32) (harg4 : arg4.IsWhole)
  (arg5 : Memref sig .tc .vmem S1x1x1024 .f32) (harg5 : arg5.IsWhole) (arg6 : Memref sig .tc .vmem S1x1x1024 .f32) (harg6 : arg6.IsWhole)
  (arg7 : Memref sig .tc .vmem S1x1024x1024 .f32) (harg7 : arg7.IsWhole) (arg8 : Memref sig .tc .vmem S1x1x1024 .f32) (harg8 : arg8.IsWhole)
  (arg9 : Memref sig .tc .vmem S256x256 .bf16) (harg9 : arg9.IsWhole) (arg10 : Memref sig .tc .vmem S512x1024 .bf16) (harg10 : arg10.IsWhole)
  (arg11 : Memref sig .tc .vmem S1024x1024 .bf16) (harg11 : arg11.IsWhole) (arg12 : Memref sig .tc .vmem S1024x1024 .bf16) (harg12 : arg12.IsWhole)
  (arg13 : Memref sig .tc .vmem S1024x1024 .bf16) (harg13 : arg13.IsWhole)
  (x : Vec F S512x1024 .bf16) (wgu : Vec F S1x1024x2048 .f32) (bg : Vec F S1x1x1024 .f32) (bl : Vec F S1x1x1024 .f32)
  (wd : Vec F S1x1024x1024 .f32) (bd : Vec F S1x1x1024 .f32) (pm : Vec F S256x256 .bf16)
  (be : Buf (Elt F) (experts.view.loc (c : Thread nD τ))) (nu : Buf (Elt F) (used.view.loc (c : Thread nD τ)))

/-- The body at point `i` on any staging buffers. -/
abbrev body : Prog (TpuEff nD τ sig (Elt F) Λ₀ .tc) PUnit :=
  cc0_experts (F := F) i experts (Memref.isWhole_whole _) used (Memref.isWhole_whole _) arg3 harg3 arg4 harg4 arg5 harg5 arg6 harg6 arg7 harg7 arg8 harg8
    arg9 harg9 arg10 harg10 arg11 harg11 arg12 harg12 arg13 harg13

/-- What the body only reads: the tokens, the expert's arrays, the matrix, and the two tables. -/
abbrev readOnly : sProp 𝕄 :=
  iprop(owns (c : Thread nD τ) arg3 fullShare x ∗ owns (c : Thread nD τ) arg4 fullShare wgu ∗ owns (c : Thread nD τ) arg5 fullShare bg
    ∗ owns (c : Thread nD τ) arg6 fullShare bl ∗ owns (c : Thread nD τ) arg7 fullShare wd ∗ owns (c : Thread nD τ) arg8 fullShare bd
    ∗ owns (c : Thread nD τ) arg9 fullShare pm ∗ heldTable c experts be ∗ heldTable c used nu)

/-- The split weights' scratch buffers. -/
abbrev scratch (g l d : Vec F S1024x1024 .bf16) : sProp 𝕄 :=
  iprop(owns (c : Thread nD τ) arg11 fullShare g ∗ owns (c : Thread nD τ) arg12 fullShare l ∗ owns (c : Thread nD τ) arg13 fullShare d)

/-- What the body leaves in the output block: the experts' formula on the weights at hand where the block is used, zeros where it is not. -/
def result (g l d : Vec F S1024x1024 .bf16) : Vec F S512x1024 .bf16 :=
  if k0_cond2 i (usedWord (F := F) nu) = 1#1 then k0_pay28 x g bg l bl d bd else k0_pay7

/-- What the split leaves in a scratch buffer: the new half where it happens. -/
abbrev refreshed (new old : Vec F S1024x1024 .bf16) : Vec F S1024x1024 .bf16 := if splitBit i be nu = 1#1 then new else old

set_option maxHeartbeats 2000000 in
/-- The body at any point: the scratch buffers are split anew where the point says so, and the output block is computed from them. -/
theorem run (g l d : Vec F S1024x1024 .bf16) (E : Set ℕ) (K : PUnit → sProp 𝕄) :
    iprop(readOnly c arg3 arg4 arg5 arg6 arg7 arg8 arg9 x wgu bg bl wd bd pm be nu
        ∗ scratch c arg11 arg12 arg13 g l d ∗ (∃ o, owns (c : Thread nD τ) arg10 fullShare o)
        ∗ (iprop(readOnly c arg3 arg4 arg5 arg6 arg7 arg8 arg9 x wgu bg bl wd bd pm be nu
            ∗ scratch c arg11 arg12 arg13 (refreshed c i be nu (gateHalf wgu pm) g) (refreshed c i be nu (linearHalf wgu pm) l) (refreshed c i be nu (k0_pay6 wd) d)
            ∗ owns (c : Thread nD τ) arg10 fullShare
                (result c i x bg bl bd nu (refreshed c i be nu (gateHalf wgu pm) g) (refreshed c i be nu (linearHalf wgu pm) l) (refreshed c i be nu (k0_pay6 wd) d))) -∗ K ⟨⟩))
      ⊢ wp frame (wpE (defs₀ (F := F)) Variants.none c none) E
          (body i arg3 harg3 arg4 harg4 arg5 harg5 arg6 harg6 arg7 harg7 arg8 harg8 arg9 harg9 arg10 harg10 arg11 harg11 arg12 harg12 arg13 harg13) K := by
  unfold readOnly scratch body
  simp only [cc0_experts_eq_skeleton]; unfold cc0_experts_skel
  unfold owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HT0, HT1⟩,
    ⟨⟨%f11, %hf11, H11⟩, ⟨%f12, %hf12, H12⟩, ⟨%f13, %hf13, H13⟩⟩, ⟨%o, %f10, -, H10⟩, Hk⟩
  sl_exec
  sl_step
  have z2 : (![0, 0] : Fin 2 → ℕ) = fun _ => 0 := by decide
  have z3 : (![0, 0, 0] : Fin 3 → ℕ) = fun _ => 0 := by decide
  -- the two halves, the down weights, and the pieces they are stored in
  have e9 : View.readAt (Elt F) arg9.view (Rect.unit (s := S256x256) ![0, 0] S256x256.size inb_S256x256_S256x256_0_0).toLoadRect f9 = pm := by
    rw [View.readAt_eq_ld, hf9, View.ld_unit_zero z2]
  have e7 : View.readAt (Elt F) arg7.view (Rect.unit (s := S1x1024x1024) ![0, 0, 0] S1x1024x1024.size inb_S1x1024x1024_S1x1024x1024_0_0_0).toLoadRect f7 = wd := by
    rw [View.readAt_eq_ld, hf7, View.ld_unit_zero z3]
  have c0 := load_columns hf4 0 inb_S1x1024x2048_S1x1024x256_0_0_0
  have c1 := load_columns hf4 1 inb_S1x1024x2048_S1x1024x256_0_0_256
  have c2 := load_columns hf4 2 inb_S1x1024x2048_S1x1024x256_0_0_512
  have c3 := load_columns hf4 3 inb_S1x1024x2048_S1x1024x256_0_0_768
  have c4 := load_columns hf4 4 inb_S1x1024x2048_S1x1024x256_0_0_1024
  have c5 := load_columns hf4 5 inb_S1x1024x2048_S1x1024x256_0_0_1280
  have c6 := load_columns hf4 6 inb_S1x1024x2048_S1x1024x256_0_0_1536
  have c7 := load_columns hf4 7 inb_S1x1024x2048_S1x1024x256_0_0_1792
  have hG := fun f => split_read (v := arg11.view) f (fun b => k0_pay9 (columns wgu b) pm)
    (congrArg₂ k0_pay9 c0 e9) (congrArg₂ k0_pay9 c1 e9) (congrArg₂ k0_pay9 c2 e9) (congrArg₂ k0_pay9 c3 e9)
    (congrArg₂ k0_pay9 c4 e9) (congrArg₂ k0_pay9 c5 e9) (congrArg₂ k0_pay9 c6 e9) (congrArg₂ k0_pay9 c7 e9)
  have hL := fun f => split_read (v := arg12.view) f (fun b => k0_pay10 (columns wgu b) pm)
    (congrArg₂ k0_pay10 c0 e9) (congrArg₂ k0_pay10 c1 e9) (congrArg₂ k0_pay10 c2 e9) (congrArg₂ k0_pay10 c3 e9)
    (congrArg₂ k0_pay10 c4 e9) (congrArg₂ k0_pay10 c5 e9) (congrArg₂ k0_pay10 c6 e9) (congrArg₂ k0_pay10 c7 e9)
  have hw : ∀ (fG : arg11.view.ty.Contents (Elt F)) (fL : arg12.view.ty.Contents (Elt F)) (fD : arg13.view.ty.Contents (Elt F))
      {G L D : Vec F S1024x1024 .bf16}, arg11.view.read (Elt F) fG = G → arg12.view.read (Elt F) fL = L → arg13.view.read (Elt F) fD = D →
      k0_pay28 (View.readAt (Elt F) arg3.view (Rect.unit (s := S512x1024) ![0, 0] S512x1024.size inb_S512x1024_S512x1024_0_0).toLoadRect f3)
        (View.readAt (Elt F) arg11.view (Rect.unit (s := S1024x1024) ![0, 0] S1024x1024.size inb_S1024x1024_S1024x1024_0_0).toLoadRect fG)
        (View.readAt (Elt F) arg5.view (Rect.unit (s := S1x1x1024) ![0, 0, 0] S1x1x1024.size inb_S1x1x1024_S1x1x1024_0_0_0).toLoadRect f5)
        (View.readAt (Elt F) arg12.view (Rect.unit (s := S1024x1024) ![0, 0] S1024x1024.size inb_S1024x1024_S1024x1024_0_0).toLoadRect fL)
        (View.readAt (Elt F) arg6.view (Rect.unit (s := S1x1x1024) ![0, 0, 0] S1x1x1024.size inb_S1x1x1024_S1x1x1024_0_0_0).toLoadRect f6)
        (View.readAt (Elt F) arg13.view (Rect.unit (s := S1024x1024) ![0, 0] S1024x1024.size inb_S1024x1024_S1024x1024_0_0).toLoadRect fD)
        (View.readAt (Elt F) arg8.view (Rect.unit (s := S1x1x1024) ![0, 0, 0] S1x1x1024.size inb_S1x1x1024_S1x1x1024_0_0_0).toLoadRect f8)
        = k0_pay28 x G bg L bl D bd := by
    intro fG fL fD G L D eG eL eD
    simp only [View.readAt_eq_ld]
    rw [eG, eL, eD, hf3, hf5, hf6, hf8]
    rw [View.ld_unit_zero (S := S512x1024) z2, View.ld_unit_zero (S := S1024x1024) z2, View.ld_unit_zero (S := S1024x1024) z2, View.ld_unit_zero (S := S1024x1024) z2,
      View.ld_unit_zero (S := S1x1x1024) z3, View.ld_unit_zero (S := S1x1x1024) z3, View.ld_unit_zero (S := S1x1x1024) z3]
  have hD := fun f => full_read (v := arg13.view) f (congrArg k0_pay6 e7)
  iapply Hk
  isplitl [H3 H4 H5 H6 H7 H8 H9 HT0 HT1]
  · isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    isplitl [H9]; · iexists _; isplitr; · ipureintro; exact hf9
                    iexact H9
    isplitl [HT0]; · iexact HT0
    iexact HT1
  isplitl [H11 H12 H13]
  · isplitl [H11]
    · iexists _; isplitr
      swap; · iexact H11
      ipureintro
      sl_unfold_words
      refine read_if ?_ hf11
      exact hG _
    isplitl [H12]
    · iexists _; isplitr
      swap; · iexact H12
      ipureintro
      sl_unfold_words
      refine read_if ?_ hf12
      exact hL _
    iexists _; isplitr
    swap; · iexact H13
    ipureintro
    sl_unfold_words
    refine read_if ?_ hf13
    exact hD _
  iexists _; isplitr
  swap; · iexact H10
  ipureintro
  sl_unfold_words
  exact output_read f10 (cond3_iff i _) (hw _ _ _ (read_if (hG _) hf11) (read_if (hL _) hf12) (read_if (hD _) hf13))

end Cert.Experts.Body

end
-- ==== Proof.Tables.lean ====
/- The experts' tables as the pipeline reads them: each block's expert and the number of used blocks, the windows'
   block indices from them, and the words the body decides on. -/
module

public import proofs.«01_k».proof.Proof.Body

@[expose] public section

set_option maxRecDepth 16384

noncomputable section

namespace Cert.Experts.Tables

open Cert.Experts.Gen Cert.Experts.Region Cert.Experts.Body
open Idealize.ShloMosaic Idealize.ShloMosaic.TcCoe Idealize.ShloMosaic.Tactic
open Idealize.SL.Sem
open Idealize.ShloMosaic.Pipeline (Dat Cfg Window)

variable {F : FTy → Type} [FloatOps F] (m : (ℓ : Loc nD τ sig) → Buf (Elt F) ℓ)

/-- The expert of block `n`, as the table's word, -/
def expert (n : Fin 344) : BitVec 32 := tables m 0 (ix1 n)

/-- and the number of used blocks. -/
def count : BitVec 32 := tables m 1 (ix1 (0 : Fin 1))

/-- Block `n` is used. -/
def Used (n : ℕ) : Prop := (n : ℤ) < (count m).toInt

theorem coord (t : Fin grid0.N) : ((grid0.coords t) 0).val = t.val := by
  have ht : t.val < 344 := Nat.lt_of_lt_of_eq t.isLt N_0
  have e : ((grid0.coords t) 0).val = t.val / 1 % 344 := Pipeline.Grid.coords_val t 0 (by decide) rfl
  omega

/-- A point's number as a block's. -/
def num (t : Fin grid0.N) : Fin 344 := ⟨t.val, Nat.lt_of_lt_of_eq t.isLt N_0⟩

theorem off1 (t : Fin grid0.N) : k0_off1 (grid0.coords t) 0 = t.val := by
  have ht : t.val < 344 := Nat.lt_of_lt_of_eq t.isLt N_0
  show (Scalar.indexCast (BitVec.ofNat 32 ((grid0.coords t) 0).val)).toNat = t.val
  rw [coord]
  show (BitVec.ofNat 32 t.val).toNat = t.val
  rw [BitVec.toNat_ofNat]; omega

theorem off2 (t : Fin grid0.N) : k0_off2 (grid0.coords t) 0 = t.val - 1 := by
  have ht : t.val < 344 := Nat.lt_of_lt_of_eq t.isLt N_0
  show (Scalar.indexCast (Scalar.maxsi (Scalar.subi (BitVec.ofNat 32 ((grid0.coords t) 0).val) 1#32) 0#32)).toNat = t.val - 1
  rw [coord]
  generalize t.val = n at ht
  revert n
  decide +kernel

/-- Where a one-element load of a table looks. -/
theorem load_at {N : ℕ} (off : Fin 1 → ℕ) (inb : ∀ a, off a + S1.size a ≤ (⟨1, ![N]⟩ : Shape).size a) (n : Fin N) (h : off 0 = n.val)
    (z : S1.Idx) : (Rect.unit (s := ⟨1, ![N]⟩) off S1.size inb).emb z = ix1 n := by
  funext a
  obtain rfl : a = 0 := Subsingleton.elim _ _
  refine Fin.ext ?_
  have hz : (z 0).val < 1 := (z 0).isLt
  show off 0 + 1 * (z 0).val = n.val
  omega

variable (t : Fin grid0.N)

theorem used_word : usedWord (c := 0) (tables m 1) = count m :=
  congrArg (tables m 1) (load_at (N := 1) _ inb_S1_S1_0 0 rfl _)

theorem expert_word : expertWord (c := 0) (grid0.coords t) (tables m 0) = expert m (num t) :=
  congrArg (tables m 0) (load_at (N := 344) _ (k0_off1_inb (grid0.coords t)) (num t) (off1 t) _)

theorem prior_word : priorWord (c := 0) (grid0.coords t) (tables m 0) = expert m ⟨t.val - 1, by have := (num t).isLt; show t.val - 1 < 344; simp only [num] at this; omega⟩ :=
  congrArg (tables m 0) (load_at (N := 344) _ (k0_off2_inb (grid0.coords t)) ⟨t.val - 1, _⟩ (off2 t) _)

/-! ## The conditions -/

theorem word_lt (n : ℕ) (hn : n < 344) (v : BitVec 32) : Scalar.cmpi .slt (BitVec.ofNat 32 n) v = 1#1 ↔ (n : ℤ) < v.toInt := by
  have e : (BitVec.ofNat 32 n).toInt = n := by
    rw [BitVec.toInt_eq_toNat_of_lt] <;> rw [BitVec.toNat_ofNat] <;> omega
  show BitVec.ofBool (BitVec.slt _ _) = 1#1 ↔ _
  rw [BitVec.slt, e]
  by_cases h : (n : ℤ) < v.toInt <;> simp [h]

theorem cond2_iff : k0_cond2 (grid0.coords t) (count m) = 1#1 ↔ Used m t.val := by
  have hn : t.val < 344 := Nat.lt_of_lt_of_eq t.isLt N_0
  unfold Used
  rw [← word_lt t.val hn, ← coord t]
  unfold k0_cond2
  dsimp only
  generalize Scalar.cmpi .slt (BitVec.ofNat 32 ((grid0.coords t) 0).val) (count m) = b
  revert b
  decide

theorem split_iff : splitBit (c := 0) (grid0.coords t) (tables m 0) (tables m 1) = 1#1
    ↔ Used m t.val ∧ (t.val = 0 ∨ expert m (num t) ≠ expert m ⟨t.val - 1, by have := (num t).isLt; show t.val - 1 < 344; simp only [num] at this; omega⟩) := by
  have hn : t.val < 344 := Nat.lt_of_lt_of_eq t.isLt N_0
  unfold splitBit Used
  rw [used_word, expert_word, prior_word, coord, ← word_lt t.val hn]
  have hz : Scalar.cmpi .eq (BitVec.ofNat 32 t.val) 0#32 = 1#1 ↔ t.val = 0 := by
    generalize t.val = n at hn
    revert n
    decide +kernel
  have he : ∀ a b : BitVec 32, Scalar.cmpi .ne a b = 1#1 ↔ a ≠ b := fun a b => by
    show BitVec.ofBool (a != b) = 1#1 ↔ _
    by_cases h : a = b
    · simp [h]
    · simp [bne_iff_ne.mpr h, h]
  rw [← hz, ← he]
  generalize Scalar.cmpi .slt _ _ = p
  generalize Scalar.cmpi .eq _ _ = q
  generalize Scalar.cmpi .ne (expert m _) _ = r
  revert p q r
  decide

/-! ## The windows' block indices -/

variable {m} (hO : Placed m)

theorem index1 : ((cfg m hO).win 1).index t = ![(expert m (num t)).toNat, 0, 0] :=
  congrArg (fun z => ![(tables m 0 z : BitVec 32).toNat, 0, 0]) (load_at (N := 344) _ (k0_off1_inb (grid0.coords t)) (num t) (off1 t) _)
theorem index2 : ((cfg m hO).win 2).index t = ![(expert m (num t)).toNat, 0, 0] := index1 t hO
theorem index3 : ((cfg m hO).win 3).index t = ![(expert m (num t)).toNat, 0, 0] := index1 t hO
theorem index4 : ((cfg m hO).win 4).index t = ![(expert m (num t)).toNat, 0, 0] := index1 t hO
theorem index5 : ((cfg m hO).win 5).index t = ![(expert m (num t)).toNat, 0, 0] := index1 t hO
theorem index6 : ((cfg m hO).win 6).index t = ![0, 0] := rfl
theorem index7 : ((cfg m hO).win 7).index t = ![t.val, 0] := by
  show ![(BitVec.ofNat 32 ((grid0.coords t) 0).val).toNat, _] = _
  have hn : t.val < 344 := Nat.lt_of_lt_of_eq t.isLt N_0
  rw [coord, BitVec.toNat_ofNat, Nat.mod_eq_of_lt (by omega)]
  rfl

/-- The smaller of a block's number and the last used block's. -/
theorem capped_word (n : ℕ) (hn : n < 344) (h : 0 < (count m).toInt) :
    ((Scalar.minsi (BitVec.ofNat 32 n) (Scalar.subi (count m) 1#32)).toNat : ℤ) = min (n : ℤ) ((count m).toInt - 1) := by
  generalize count m = v at h
  have hv := BitVec.toInt_eq_toNat_cond v
  have hlt := v.isLt
  have e1 : (BitVec.ofNat 32 n).toNat = n := by rw [BitVec.toNat_ofNat]; omega
  have e2 : (v - 1#32).toNat = v.toNat - 1 := by
    rw [BitVec.toNat_sub]
    show (2 ^ 32 - 1 + v.toNat) % 2 ^ 32 = _
    split at hv <;> omega
  have i1 := BitVec.toInt_eq_toNat_cond (BitVec.ofNat 32 n)
  have i2 := BitVec.toInt_eq_toNat_cond (v - 1#32)
  show ((if BitVec.slt (BitVec.ofNat 32 n) (v - 1#32) then BitVec.ofNat 32 n else v - 1#32).toNat : ℤ) = _
  rw [BitVec.slt]
  rw [e1] at i1
  rw [e2] at i2
  split at hv
  · rw [if_pos (by omega)] at i1 i2
    rw [i1, i2]
    by_cases hc : (n : ℤ) < ((v.toNat - 1 : ℕ) : ℤ)
    · rw [if_pos (by simpa using hc), e1]; omega
    · rw [if_neg (by simpa using hc), e2]; omega
  · omega

/-- The block of tokens at any point: its own, or past the used blocks the last used one's. -/
theorem index0_eq : ((cfg m hO).win 0).index t = ![(Scalar.minsi (BitVec.ofNat 32 t.val) (Scalar.subi (count m) 1#32)).toNat, 0] := by
  rw [← coord t]
  exact congrArg (fun z => ![(Scalar.minsi (BitVec.ofNat 32 ((grid0.coords t) 0).val) (Scalar.subi (tables m 1 z : BitVec 32) 1#32)).toNat, 0])
    (load_at (N := 1) _ inb_S1_S1_0 0 rfl _)

/-- The tokens of a used block are that block's. -/
theorem index0 (h : Used m t.val) : ((cfg m hO).win 0).index t = ![t.val, 0] := by
  have hn : t.val < 344 := Nat.lt_of_lt_of_eq t.isLt N_0
  unfold Used at h
  have e := capped_word (m := m) t.val hn (by omega)
  rw [index0_eq, show (Scalar.minsi (BitVec.ofNat 32 t.val) (Scalar.subi (count m) 1#32)).toNat = t.val from by omega]

end Cert.Experts.Tables

end
-- ==== Proof.ExpertBlocks.lean ====
/- The blocks that a point of the experts' call is handed, read out of the arrays. -/
module

public import proofs.«01_k».proof.Proof.Tables

@[expose] public section

set_option maxRecDepth 16384

noncomputable section

namespace Cert.Experts.Blocks

open Cert.Experts.Gen Cert.Experts.Region Cert.Experts.Body Cert.Experts.Tables
open Idealize.ShloMosaic Idealize.ShloMosaic.TcCoe Idealize.ShloMosaic.Tactic
open Idealize.SL.Sem
open Idealize.ShloMosaic.Pipeline (Dat Cfg Window)

variable {F : FTy → Type} [FloatOps F] {m : (ℓ : Loc nD τ sig) → Buf (Elt F) ℓ} (hO : Placed m) (c : Dev nD) (t : Fin (cfg m hO).N)

/-- The blocks at point `t`: the tokens, the expert's first weights and their two bias rows, its second weights and
    their bias, and the matrix that sorts even columns before odd ones. -/
abbrev tokens : Vec F S512x1024 .bf16 := block m hO c 0 t
abbrev gateUp : Vec F S1x1024x2048 .f32 := block m hO c 1 t
abbrev gateBias : Vec F S1x1x1024 .f32 := block m hO c 2 t
abbrev linearBias : Vec F S1x1x1024 .f32 := block m hO c 3 t
abbrev down : Vec F S1x1024x1024 .f32 := block m hO c 4 t
abbrev downBias : Vec F S1x1x1024 .f32 := block m hO c 5 t
abbrev sorting : Vec F S256x256 .bf16 := block m hO c 6 t

/-- A placed window's expert is one of the thirty-two. -/
theorem expert_lt : (expert m (num t)).toNat < 32 := by
  obtain ⟨h, -⟩ := hO.2.1 (grid0.coords t)
  have h0 := h (0 : Fin 3)
  have e : cc0_transform_1 k0_off1_inb numel1_S1 (tables m) (grid0.coords t) (0 : Fin 3) = (expert m (num t)).toNat := congrFun (index1 t hO) (0 : Fin 3)
  rw [e] at h0
  have h1 : ((expert m (num t)).toNat + 1) * 1 ≤ 32 := h0
  omega

/-- The expert of point `t`. -/
def who : Fin 32 := ⟨(expert m (num t)).toNat, expert_lt hO t⟩

theorem tokens_at (h : Used m t.val) (r : Fin 512) (k : Fin 1024) :
    tokens hO c t (ix2 r k) = (V m c main_arg2 : Vec F S176128x1024 .bf16) (ix2 ⟨t.val * 512 + r.val, by have : t.val < 344 := (num t).isLt; omega⟩ k) := by
  have := index0 t hO h
  blk_ext [tokens, block, V, this]

theorem gateUp_at (z : S1x1024x2048.Idx) :
    gateUp hO c t z = (V m c main_arg3 : Vec F S32x1024x2048 .f32) (ix3 (who hO t) (z 1) (z 2)) := by
  have := index1 t hO
  blk_ext [gateUp, block, V, this, who]

theorem down_at (z : S1x1024x1024.Idx) :
    down hO c t z = (V m c main_arg5 : Vec F S32x1024x1024 .f32) (ix3 (who hO t) (z 1) (z 2)) := by
  have := index4 t hO
  blk_ext [down, block, V, this, who]

theorem gateBias_at (z : S1x1x1024.Idx) :
    gateBias hO c t z = (V m c main_v1 : Vec F S32x1x1024 .f32) (ix3 (who hO t) (z 1) (z 2)) := by
  have := index2 t hO
  blk_ext [gateBias, block, V, this, who]

theorem linearBias_at (z : S1x1x1024.Idx) :
    linearBias hO c t z = (V m c main_v3 : Vec F S32x1x1024 .f32) (ix3 (who hO t) (z 1) (z 2)) := by
  have := index3 t hO
  blk_ext [linearBias, block, V, this, who]

theorem downBias_at (z : S1x1x1024.Idx) :
    downBias hO c t z = (V m c main_v4 : Vec F S32x1x1024 .f32) (ix3 (who hO t) (z 1) (z 2)) := by
  have := index5 t hO
  blk_ext [downBias, block, V, this, who]

theorem sorting_at (z : S256x256.Idx) : sorting hO c t z = (V m c main_v23 : Vec F S256x256 .bf16) z := by
  have := index6 t hO
  blk_ext [sorting, block, V, this]

end Cert.Experts.Blocks

end
-- ==== Proof.Launch.lean ====
/- The experts' call at its launch: what every point leaves, the scratch buffers from point to point, the run, and the
   frame. -/
module

public import proofs.«01_k».proof.Proof.ExpertBlocks

@[expose] public section

set_option maxRecDepth 16384

noncomputable section

namespace Cert.Experts.Launch

open Cert.Experts.Gen Cert.Experts.Region Cert.Experts.Body Cert.Experts.Tables Cert.Experts.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Placed m) (c : Dev nD)

/-! ## What a point leaves -/

/-- The expert's weights at point `t`, split into the gate half, the linear half, and the down weights. -/
abbrev gateAt (t : Fin (cfg m hO).N) : Vec F S1024x1024 .bf16 := gateHalf (gateUp hO c t) (sorting hO c t)
abbrev linearAt (t : Fin (cfg m hO).N) : Vec F S1024x1024 .bf16 := linearHalf (gateUp hO c t) (sorting hO c t)
abbrev downAt (t : Fin (cfg m hO).N) : Vec F S1024x1024 .bf16 := k0_pay6 (down hO c t)

/-- The block point `t` writes back. -/
abbrev outAt (t : Fin (cfg m hO).N) : Vec F S512x1024 .bf16 :=
  result (0 : Dev nD) (grid0.coords t) (tokens hO c t) (gateBias hO c t) (linearBias hO c t) (downBias hO c t) (tables m 1)
    (gateAt m hO c t) (linearAt m hO c t) (downAt m hO c t)

/-- What is known of the scratch buffers before point `n`: if the point before is used, they hold its expert's weights. -/
def Current (n : ℕ) (hn : n ≤ (cfg m hO).N) (g l d : Vec F S1024x1024 .bf16) : Prop :=
  ∀ h0 : 0 < n, Used m (n - 1) → g = gateAt m hO c ⟨n - 1, by omega⟩ ∧ l = linearAt m hO c ⟨n - 1, by omega⟩ ∧ d = downAt m hO c ⟨n - 1, by omega⟩

variable {m hO c}

/-- Two points of the same expert split the same weights. -/
theorem same_expert {t t' : Fin (cfg m hO).N} (h : expert m (num t) = expert m (num t')) :
    gateAt m hO c t = gateAt m hO c t' ∧ linearAt m hO c t = linearAt m hO c t' ∧ downAt m hO c t = downAt m hO c t' := by
  have hw : who hO t = who hO t' := Fin.ext (by show (expert m (num t)).toNat = (expert m (num t')).toNat; rw [h])
  have e1 : gateUp hO c t = gateUp hO c t' := funext fun z => by rw [gateUp_at, gateUp_at, hw]
  have e4 : down hO c t = down hO c t' := funext fun z => by rw [down_at, down_at, hw]
  have e6 : sorting hO c t = sorting hO c t' := rfl
  unfold gateAt linearAt downAt
  rw [e1, e4, e6]
  exact ⟨rfl, rfl, rfl⟩

/-- Where the point is used, the scratch buffers hold its expert's weights after the split. -/
theorem refreshed_current {t : Fin (cfg m hO).N} {g l d : Vec F S1024x1024 .bf16} (h : Current m hO c t.val t.isLt.le g l d) (hu : Used m t.val) :
    refreshed (0 : Dev nD) (grid0.coords t) (tables m 0) (tables m 1) (gateAt m hO c t) g = gateAt m hO c t
      ∧ refreshed (0 : Dev nD) (grid0.coords t) (tables m 0) (tables m 1) (linearAt m hO c t) l = linearAt m hO c t
      ∧ refreshed (0 : Dev nD) (grid0.coords t) (tables m 0) (tables m 1) (downAt m hO c t) d = downAt m hO c t := by
  unfold refreshed
  by_cases hs : splitBit (c := 0) (grid0.coords t) (tables m 0) (tables m 1) = 1#1
  · simp only [if_pos hs, and_self]
  · simp only [if_neg hs]
    have hn := (split_iff m t).not.mp hs
    push Not at hn
    obtain ⟨h0, he⟩ := hn hu
    have hpos : 0 < t.val := Nat.pos_of_ne_zero h0
    have hprev : Used m (t.val - 1) := by unfold Used at hu ⊢; omega
    obtain ⟨eg, el, ed⟩ := h hpos hprev
    obtain ⟨sg, sl, sd⟩ := same_expert (hO := hO) (c := c) (t := t) (t' := ⟨t.val - 1, by omega⟩) he
    exact ⟨eg.trans sg.symm, el.trans sl.symm, ed.trans sd.symm⟩

/-- The block the body leaves is `outAt`: where the point is used the scratch buffers hold its expert's weights, and
    where it is not they do not matter. -/
theorem out_eq {t : Fin (cfg m hO).N} {g l d : Vec F S1024x1024 .bf16} (h : Current m hO c t.val t.isLt.le g l d) :
    result c (grid0.coords t) (tokens hO c t) (gateBias hO c t) (linearBias hO c t) (downBias hO c t) (tables m 1)
      (refreshed c (grid0.coords t) (tables m 0) (tables m 1) (gateAt m hO c t) g)
      (refreshed c (grid0.coords t) (tables m 0) (tables m 1) (linearAt m hO c t) l)
      (refreshed c (grid0.coords t) (tables m 0) (tables m 1) (downAt m hO c t) d) = outAt m hO c t := by
  obtain rfl : c = 0 := Subsingleton.elim _ _
  by_cases hu : Used m t.val
  · obtain ⟨eg, el, ed⟩ := refreshed_current h hu
    rw [eg, el, ed]
  · have hc : ¬k0_cond2 (grid0.coords t) (usedWord (c := 0) (tables m 1)) = 1#1 := by
      rw [used_word]
      exact fun hc => hu ((cond2_iff m t).mp hc)
    unfold outAt result
    rw [if_neg hc, if_neg hc]

variable (m hO c)

/-! ## The proof data -/

/-- The scratch buffers. -/
abbrev scr0 : Memref sig .tc .vmem S1024x1024 .bf16 := Memref.whole cc0_scratch0
abbrev scr1 : Memref sig .tc .vmem S1024x1024 .bf16 := Memref.whole cc0_scratch1
abbrev scr2 : Memref sig .tc .vmem S1024x1024 .bf16 := Memref.whole cc0_scratch2

/-- What the launch lends of the call's own memory: the scratch buffers at some contents, and the generator's register. -/
theorem lent_scratch :
    (Pipeline.ΦA spec0 c : sProp 𝕄)
      = iprop(iprop((∃ d, owns (c : Thread nD τ) scr0 fullShare d) ∗ (∃ d, owns (c : Thread nD τ) scr1 fullShare d)
          ∗ (∃ d, owns (c : Thread nD τ) scr2 fullShare d)) ∗ (∃ r, prngReg c r)) := by
  unfold Pipeline.ΦA
  rw [scopedRest0_eq]
  simp only [scr0, scr1, scr2, owns_whole]
  try rfl

/-- Before point `n`: the scratch buffers at contents of which `Current` holds, the generator's register, the tables. -/
def before (n : ℕ) (hn : n ≤ (cfg m hO).N) : sProp 𝕄 :=
  iprop((∃ g, ∃ l, ∃ d, ⌜Current m hO c n hn g l d⌝ ∗ scratch c scr0 scr1 scr2 g l d) ∗ (∃ r, prngReg c r) ∗ Pipeline.ΦT pre0 (tables m) c)

/-- The pipeline's proof data: the inputs stay, the output block is `outAt`. -/
def dats (_ : Fin 1) (c : Dev nD) : Dat τ (Elt F) Unit ℕ (UR sig nD τ) ℕ (cfg m hO) c where
  A w := V m c (Pipeline.arrRef spec0 w)
  after w t := match w with
    | ⟨0, _⟩ => block m hO c 0 t
    | ⟨1, _⟩ => block m hO c 1 t
    | ⟨2, _⟩ => block m hO c 2 t
    | ⟨3, _⟩ => block m hO c 3 t
    | ⟨4, _⟩ => block m hO c 4 t
    | ⟨5, _⟩ => block m hO c 5 t
    | ⟨6, _⟩ => block m hO c 6 t
    | ⟨7, _⟩ => outAt m hO c t
  Φ t := before m hO c t.val (Nat.le_of_lt_succ t.isLt)
  q _ := fullShare
  owed _ := 0

theorem arrays (w : Fin (cfg m hO).W) : (dats m hO 0 c).A w = V m c (Pipeline.arrRef spec0 w) := by
  dsimp only [dats]

theorem at_start (t : Fin (cfg m hO).N) : (dats m hO 0 c).Φ t.castSucc = before m hO c t.val t.isLt.le := by
  dsimp only [dats]
  exact Pipeline.Dat.Φ_castSucc (before m hO c) t

theorem after0 (t : Fin (cfg m hO).N) : (dats m hO 0 c).after 0 t = block m hO c 0 t := by dsimp only [dats]; try rfl
theorem after1 (t : Fin (cfg m hO).N) : (dats m hO 0 c).after 1 t = block m hO c 1 t := by dsimp only [dats]; try rfl
theorem after2 (t : Fin (cfg m hO).N) : (dats m hO 0 c).after 2 t = block m hO c 2 t := by dsimp only [dats]; try rfl
theorem after3 (t : Fin (cfg m hO).N) : (dats m hO 0 c).after 3 t = block m hO c 3 t := by dsimp only [dats]; try rfl
theorem after4 (t : Fin (cfg m hO).N) : (dats m hO 0 c).after 4 t = block m hO c 4 t := by dsimp only [dats]; try rfl
theorem after5 (t : Fin (cfg m hO).N) : (dats m hO 0 c).after 5 t = block m hO c 5 t := by dsimp only [dats]; try rfl
theorem after6 (t : Fin (cfg m hO).N) : (dats m hO 0 c).after 6 t = block m hO c 6 t := by dsimp only [dats]; try rfl
theorem after7 (t : Fin (cfg m hO).N) : (dats m hO 0 c).after 7 t = outAt m hO c t := by dsimp only [dats]; try rfl

/-- An input's buffer holds its block when the body starts. -/
theorem input0 (t : Fin (cfg m hO).N) (d) : (dats m hO 0 c).before 0 t d = block m hO c 0 t :=
  (before_input m hO _ (arrays m hO c) 0 rfl (fun _ => rfl) (fun _ _ _ => rfl) (fun t => by rw [after0]; try rfl) t d).trans
    (by unfold Dat.fetched Dat.blockOf block; rw [arrays]; try rfl)
theorem input1 (t : Fin (cfg m hO).N) (d) : (dats m hO 0 c).before 1 t d = block m hO c 1 t :=
  (before_input m hO _ (arrays m hO c) 1 rfl (fun _ => rfl) (fun _ _ _ => rfl) (fun t => by rw [after1]; try rfl) t d).trans
    (by unfold Dat.fetched Dat.blockOf block; rw [arrays]; try rfl)
theorem input2 (t : Fin (cfg m hO).N) (d) : (dats m hO 0 c).before 2 t d = block m hO c 2 t :=
  (before_input m hO _ (arrays m hO c) 2 rfl (fun _ => rfl) (fun _ _ _ => rfl) (fun t => by rw [after2]; try rfl) t d).trans
    (by unfold Dat.fetched Dat.blockOf block; rw [arrays]; try rfl)
theorem input3 (t : Fin (cfg m hO).N) (d) : (dats m hO 0 c).before 3 t d = block m hO c 3 t :=
  (before_input m hO _ (arrays m hO c) 3 rfl (fun _ => rfl) (fun _ _ _ => rfl) (fun t => by rw [after3]; try rfl) t d).trans
    (by unfold Dat.fetched Dat.blockOf block; rw [arrays]; try rfl)
theorem input4 (t : Fin (cfg m hO).N) (d) : (dats m hO 0 c).before 4 t d = block m hO c 4 t :=
  (before_input m hO _ (arrays m hO c) 4 rfl (fun _ => rfl) (fun _ _ _ => rfl) (fun t => by rw [after4]; try rfl) t d).trans
    (by unfold Dat.fetched Dat.blockOf block; rw [arrays]; try rfl)
theorem input5 (t : Fin (cfg m hO).N) (d) : (dats m hO 0 c).before 5 t d = block m hO c 5 t :=
  (before_input m hO _ (arrays m hO c) 5 rfl (fun _ => rfl) (fun _ _ _ => rfl) (fun t => by rw [after5]; try rfl) t d).trans
    (by unfold Dat.fetched Dat.blockOf block; rw [arrays]; try rfl)
theorem input6 (t : Fin (cfg m hO).N) (d) : (dats m hO 0 c).before 6 t d = block m hO c 6 t :=
  (before_input m hO _ (arrays m hO c) 6 rfl (fun _ => rfl) (fun _ _ _ => rfl) (fun t => by rw [after6]; try rfl) t d).trans
    (by unfold Dat.fetched Dat.blockOf block; rw [arrays]; try rfl)

/-! ## The body at a point -/

/-- Each window's staging buffer at point `t`. -/
abbrev stg0 (t : Fin (cfg m hO).N) : Memref sig .tc .vmem S512x1024 .bf16 := spec0_0.stage ((cfg m hO).slots t 0)
abbrev stg1 (t : Fin (cfg m hO).N) : Memref sig .tc .vmem S1x1024x2048 .f32 := spec0_1.stage ((cfg m hO).slots t 1)
abbrev stg2 (t : Fin (cfg m hO).N) : Memref sig .tc .vmem S1x1x1024 .f32 := spec0_2.stage ((cfg m hO).slots t 2)
abbrev stg3 (t : Fin (cfg m hO).N) : Memref sig .tc .vmem S1x1x1024 .f32 := spec0_3.stage ((cfg m hO).slots t 3)
abbrev stg4 (t : Fin (cfg m hO).N) : Memref sig .tc .vmem S1x1024x1024 .f32 := spec0_4.stage ((cfg m hO).slots t 4)
abbrev stg5 (t : Fin (cfg m hO).N) : Memref sig .tc .vmem S1x1x1024 .f32 := spec0_5.stage ((cfg m hO).slots t 5)
abbrev stg6 (t : Fin (cfg m hO).N) : Memref sig .tc .vmem S256x256 .bf16 := spec0_6.stage ((cfg m hO).slots t 6)
abbrev stg7 (t : Fin (cfg m hO).N) : Memref sig .tc .vmem S512x1024 .bf16 := spec0_7.stage ((cfg m hO).slots t 7)

/-- The body as the pipeline calls it at point `t`. -/
abbrev bodyAt (t : Fin (cfg m hO).N) : Prog (TpuEff nD τ sig (Elt F) Λ₀ .tc) PUnit :=
  body (grid0.coords t) (stg0 m hO t) (hstage0_0 (((cfg m hO).slots t 0).cast nbuf0_0)) (stg1 m hO t) (hstage0_1 (((cfg m hO).slots t 1).cast nbuf0_1))
    (stg2 m hO t) (hstage0_2 (((cfg m hO).slots t 2).cast nbuf0_2)) (stg3 m hO t) (hstage0_3 (((cfg m hO).slots t 3).cast nbuf0_3))
    (stg4 m hO t) (hstage0_4 (((cfg m hO).slots t 4).cast nbuf0_4)) (stg5 m hO t) (hstage0_5 (((cfg m hO).slots t 5).cast nbuf0_5))
    (stg6 m hO t) (hstage0_6 (((cfg m hO).slots t 6).cast nbuf0_6)) (stg7 m hO t) (hstage0_7 (((cfg m hO).slots t 7).cast nbuf0_7))
    scr0 (Memref.isWhole_whole _) scr1 (Memref.isWhole_whole _) scr2 (Memref.isWhole_whole _)

/-- What the body is called with, -/
def given (t : Fin (cfg m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d))
    ∗ (∃ d, owns (c : Thread nD τ) (stg5 m hO t) fullShare ((dats m hO 0 c).before 5 t d))
    ∗ (∃ d, owns (c : Thread nD τ) (stg6 m hO t) fullShare ((dats m hO 0 c).before 6 t d))
    ∗ (∃ d, owns (c : Thread nD τ) (stg7 m hO t) fullShare ((dats m hO 0 c).before 7 t d)))

/-- and what it hands back. -/
def returned (t : Fin (cfg m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t ∗ (dats m hO 0 c).leavesExact 3 t
    ∗ (dats m hO 0 c).leavesExact 4 t ∗ (dats m hO 0 c).leavesExact 5 t ∗ (dats m hO 0 c).leavesExact 6 t ∗ (dats m hO 0 c).leavesExact 7 t)

/-- One of the two stores of the output block happens, -/
theorem stored (i : grid0.Coords) (v : BitVec 32) : (!(k0_cond2 i v == 1#1) && !(k0_cond3 i v == 1#1)) = false := by
  by_cases h : k0_cond2 i v = 1#1
  · simp [h]
  · simp [(cond3_iff i v).mpr h]

/-- so the block is stored at every point. -/
theorem live (t : Fin (cfg m hO).N) : (cfg m hO).idle 7 (grid0.coords t) = false := by
  have e : (cfg m hO).idle 7 (grid0.coords t) = (!(k0_cond2 (grid0.coords t) ((tables m).atD 1 ![0]) == 1#1)
      && !(k0_cond3 (grid0.coords t) ((tables m).atD 1 ![0]) == 1#1)) := by sl_kernel_rfl
  exact e.trans (stored _ _)

set_option maxHeartbeats 6400000 in
/-- The body's triple at every point. -/
theorem body_sound (t : Fin (cfg m hO).N) :
    given m hO c t ⊢ wp frame (wpE (defs₀ (F := F)) Variants.none c none) Set.univ (bodyAt m hO t) (fun _ => returned m hO c t) := by
  unfold given returned
  simp only [input0, input1, input2, input3, input4, input5, input6]
  rw [show (dats m hO 0 c).owesAt () t.succ = (dats m hO 0 c).owesAt () t.castSucc from rfl]
  rw [show (dats m hO 0 c).Φ t.succ = before m hO c (t.val + 1) t.isLt from rfl, at_start]
  rw [show (dats m hO 0 c).leavesExact 0 t = owns (c : Thread nD τ) (stg0 m hO t) fullShare ((dats m hO 0 c).after 0 t) from rfl, after0]
  rw [show (dats m hO 0 c).leavesExact 1 t = owns (c : Thread nD τ) (stg1 m hO t) fullShare ((dats m hO 0 c).after 1 t) from rfl, after1]
  rw [show (dats m hO 0 c).leavesExact 2 t = owns (c : Thread nD τ) (stg2 m hO t) fullShare ((dats m hO 0 c).after 2 t) from rfl, after2]
  rw [show (dats m hO 0 c).leavesExact 3 t = owns (c : Thread nD τ) (stg3 m hO t) fullShare ((dats m hO 0 c).after 3 t) from rfl, after3]
  rw [show (dats m hO 0 c).leavesExact 4 t = owns (c : Thread nD τ) (stg4 m hO t) fullShare ((dats m hO 0 c).after 4 t) from rfl, after4]
  rw [show (dats m hO 0 c).leavesExact 5 t = owns (c : Thread nD τ) (stg5 m hO t) fullShare ((dats m hO 0 c).after 5 t) from rfl, after5]
  rw [show (dats m hO 0 c).leavesExact 6 t = owns (c : Thread nD τ) (stg6 m hO t) fullShare ((dats m hO 0 c).after 6 t) from rfl, after6]
  rw [show (dats m hO 0 c).leavesExact 7 t = owns (c : Thread nD τ) (stg7 m hO t) fullShare ((dats m hO 0 c).after 7 t) from by
    unfold Dat.leavesExact; rw [live m hO t]; try rfl, after7]
  unfold before
  rw [lent_tables]
  iintro ⟨⟨⟨%g, %l, %d, %hcur, ⟨HS0, HS1, HS2⟩⟩, Hg, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (grid0.coords t) (stg0 m hO t) _ (stg1 m hO t) _ (stg2 m hO t) _ (stg3 m hO t) _ (stg4 m hO t) _ (stg5 m hO t) _ (stg6 m hO t) _
    (stg7 m hO t) _ scr0 _ scr1 _ scr2 _ (tokens hO c t) (gateUp hO c t) (gateBias hO c t) (linearBias hO c t) (down hO c t) (downBias hO c t)
    (sorting hO c t) (tables m 0) (tables m 1) g l d Set.univ _)
  isplitl [H0 H1 H2 H3 H4 H5 H6 HT0 HT1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    iexact HT1
  isplitl [HS0 HS1 HS2]
  · isplitl [HS0]; · iexact HS0
    isplitl [HS1]; · iexact HS1
    iexact HS2
  isplitl [H7]; · iexists _; iexact H7
  iintro ⟨⟨H0, H1, H2, H3, H4, H5, H6, HT0, HT1⟩, ⟨HS0, HS1, HS2⟩, H7⟩
  isplitl [HS0 HS1 HS2 Hg HT0 HT1]
  · isplitl [HS0 HS1 HS2]
    · iexists _; iexists _; iexists _
      isplitr
      swap
      · isplitl [HS0]; · iexact HS0
        isplitl [HS1]; · iexact HS1
        iexact HS2
      ipureintro
      exact fun _ hu => refreshed_current hcur hu
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  rw [← out_eq hcur]
  iexact H7

/-- The body table's row at point `t` is the body. -/
theorem defs₀_row (t : Fin (cfg m hO).N) :
    defs₀ (F := F) .tc (cfg m hO).body ((cfg m hO).bodyArgs t ((cfg m hO).slots t)) = bodyAt m hO t := by
  unfold defs₀
  rw [Defs.onTc_tc]

/-- The library's obligation, at every point. -/
theorem obligation : BodyObligation (dats (F := F) m hO 0 c) (defs₀ (F := F)) Variants.none () Set.univ := fun t => by
  rw [bigSep_W0, bigSep_W0, defs₀_row m hO]
  refine triple_restated (body_sound m hO c t) rfl .rfl fun _ => ?_
  exact Entails.of_eq (by sl_kernel_rfl)

/-- What the launch lends is the invariant before the first point, -/
theorem enter : iprop(Pipeline.ΦA spec0 c ∗ Pipeline.ΦT pre0 (tables m) c) ⊢ (dats m hO 0 c).Φ 0 := by
  rw [show (dats m hO 0 c).Φ 0 = before m hO c 0 (Nat.zero_le _) from rfl, lent_scratch]
  unfold before
  iintro ⟨⟨⟨⟨%g, HS0⟩, ⟨%l, HS1⟩, ⟨%d, HS2⟩⟩, Hg⟩, HT⟩
  isplitl [HS0 HS1 HS2]
  · iexists g; iexists l; iexists d
    isplitr
    · ipureintro
      exact fun h => absurd h (Nat.lt_irrefl _)
    isplitl [HS0]; · iexact HS0
    isplitl [HS1]; · iexact HS1
    iexact HS2
  isplitl [Hg]; · iexact Hg
  iexact HT

/-- and the invariant after the last point gives it back. -/
theorem leave : (dats m hO 0 c).Φ (Fin.last (cfg m hO).N) ⊢ Pipeline.ΦA spec0 c := by
  rw [show (dats m hO 0 c).Φ (Fin.last (cfg m hO).N) = before m hO c (cfg m hO).N le_rfl from rfl, lent_scratch]
  unfold before
  iintro ⟨⟨%g, %l, %d, -, ⟨HS0, HS1, HS2⟩⟩, Hg, -⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every run of the call ends, with the arrays as the proof data has them and every semaphore at zero. -/
theorem runs : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := hmain m Variants.none) (hA := arrays m hO) (hpf := tables_core m)
    (hin := enter m hO) (hout := leave m hO)

include hO in
/-- The frame: every argument is unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged_of m ρ hO (dats m hO) (arrays m hO) ((θ_run defs _ _).mono (fun _ h => h.1) (runs m ρ hO)))
    ((θ_run defs _ _).mono (fun _ h => h.2) (runs m ρ hO))

end Cert.Experts.Launch

end
-- ==== Proof.Routed.lean ====
/- The precondition `routed`: what its masks say of the experts' tables, and that the tables then place every window. -/
module

public import proofs.«01_k».proof.Proof.Tables
public import proofs.«01_k».proof.Pre_routed
public import Idealize.ShloMosaic.Lib.Pointwise

@[expose] public section

set_option maxRecDepth 16384

noncomputable section

namespace Cert.Experts.Routed

open Cert.Experts.Gen Cert.Experts.Region Cert.Experts.Tables
open Idealize.ShloMosaic Idealize.ShloMosaic.TcCoe Idealize.ShloMosaic.Tactic

/-- The side conditions the precondition's operations take. -/
theorem facts : Cert.Pre_routed.Facts where
  bcast_S_S344 := by decide
  bcast_S_S1 := by decide

attribute [local instance] facts

variable {F : FTy → Type} [FloatOps F]

/-- A word that passes both signed comparisons lies between the two bounds. -/
theorem between_of {a lo hi : BitVec 32} (h : IntOp.andi (IntOp.cmpi .sge a lo) (IntOp.cmpi .slt a hi) = 1#1) :
    lo.toInt ≤ a.toInt ∧ a.toInt < hi.toInt := by
  simp only [IntOp.andi, IntOp.cmpi, BitVec.slt, BitVec.sle] at h
  by_cases p : lo.toInt ≤ a.toInt <;> by_cases q : a.toInt < hi.toInt <;> simp_all

/-- The same with the upper bound admitted. -/
theorem between_of_le {a lo hi : BitVec 32} (h : IntOp.andi (IntOp.cmpi .sge a lo) (IntOp.cmpi .sle a hi) = 1#1) :
    lo.toInt ≤ a.toInt ∧ a.toInt ≤ hi.toInt := by
  simp only [IntOp.andi, IntOp.cmpi, BitVec.slt, BitVec.sle] at h
  by_cases p : lo.toInt ≤ a.toInt <;> by_cases q : a.toInt ≤ hi.toInt <;> simp_all

section Masks

variable (be : IVec Cert.Pre_routed.S344 32) (nu : IVec Cert.Pre_routed.S1 32) (x : FVec F Cert.Pre_routed.S176128x1024 .bf16)
  (wgu : FVec F Cert.Pre_routed.S32x1024x2048 .f32) (bgu : FVec F Cert.Pre_routed.S32x2048 .f32)
  (wd : FVec F Cert.Pre_routed.S32x1024x1024 .f32) (bd : FVec F Cert.Pre_routed.S32x1024 .f32)

/-- All ones in the first mask: every block's expert is one of the thirty-two. -/
theorem experts_of (h : (Cert.Pre_routed.fn (F := F) be nu x wgu bgu wd bd).1 = fun _ => 1#1) (i : Cert.Pre_routed.S344.Idx) :
    0 ≤ (be i).toInt ∧ (be i).toInt < 32 := by
  have e := congrFun h i
  pointwise [Cert.Pre_routed.fn] at e
  exact between_of e

/-- All ones in the second mask: at least one block is used, and no more than there are. -/
theorem count_of (h : (Cert.Pre_routed.fn (F := F) be nu x wgu bgu wd bd).2 = fun _ => 1#1) (i : Cert.Pre_routed.S1.Idx) :
    1 ≤ (nu i).toInt ∧ (nu i).toInt ≤ 344 := by
  have e := congrFun h i
  pointwise [Cert.Pre_routed.fn] at e
  exact between_of_le e

end Masks

variable {m : (ℓ : Loc nD τ sig) → Buf (Elt F) ℓ}

/-- What the masks say of a launch's tables. -/
structure Ranges (m : (ℓ : Loc nD τ sig) → Buf (Elt F) ℓ) : Prop where
  expert : ∀ n, 0 ≤ (Tables.expert m n).toInt ∧ (Tables.expert m n).toInt < 32
  count : 1 ≤ (Tables.count m).toInt ∧ (Tables.count m).toInt ≤ 344

theorem table_experts : tables m 0 = m (((0 : Dev nD) : Thread nD τ).loc main_arg0) := untouched m 0 (by decide)
theorem table_used : tables m 1 = m (((0 : Dev nD) : Thread nD τ).loc main_arg1) := untouched m 0 (by decide)

/-- The masks of a launch's arguments say that its tables are in range. -/
theorem ranges (h : ∀ c : Dev nD,
      (Cert.Pre_routed.fn (F := F) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6))).1 = (fun _ => 1#1)
      ∧ (Cert.Pre_routed.fn (F := F) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6))).2 = (fun _ => 1#1)) : Ranges m where
  expert n := by
    unfold Tables.expert
    rw [table_experts]
    exact experts_of _ _ _ _ _ _ _ (h 0).1 _
  count := by
    unfold Tables.count
    rw [table_used]
    exact count_of _ _ _ _ _ _ _ (h 0).2 _

/-- A word in the experts' range is that number. -/
theorem toNat_lt {a : BitVec 32} (h : 0 ≤ a.toInt ∧ a.toInt < 32) : a.toNat < 32 := by
  have e := BitVec.toInt_eq_toNat_cond a
  have := a.isLt
  split at e <;> omega

/-- Every point of the grid is the point of its number. -/
theorem point (i : grid0.Coords) : ∃ t, grid0.coords t = i := by
  have h : (i 0).val < 344 := (i 0).isLt
  refine ⟨⟨(i 0).val, Nat.lt_of_lt_of_eq h N_0.symm⟩, ?_⟩
  funext a
  obtain rfl : a = 0 := Subsingleton.elim _ _
  exact Fin.ext (coord _)

/-- A whole expert's block lies inside its array. -/
theorem inside {A B : ℕ} {e : ℕ} (h : e < 32) (a : Fin 3) :
    ((![e, 0, 0] : Fin 3 → ℕ) a + 1) * (![1, A, B] : Fin 3 → ℕ) a ≤ (![32, A, B] : Fin 3 → ℕ) a := by
  fin_cases a
  · show (e + 1) * 1 ≤ 32
    omega
  · show (0 + 1) * A ≤ A
    omega
  · show (0 + 1) * B ≤ B
    omega

/-- Tables in range place every window inside its array. -/
theorem placed (h : Ranges m) : Placed m := by
  have by_expert : ∀ t, cc0_transform_1 k0_off1_inb numel1_S1 (tables m) (grid0.coords t) = ![(Tables.expert m (num t)).toNat, 0, 0] :=
    fun t => congrArg (fun z => ![(tables m 0 z : BitVec 32).toNat, 0, 0]) (load_at (N := 344) _ (k0_off1_inb (grid0.coords t)) (num t) (off1 t) _)
  have lt : ∀ t, (Tables.expert m (num t)).toNat < 32 := fun t => toNat_lt (h.expert _)
  refine ⟨fun i => ?_, fun i => ?_, fun i => ?_, fun i => ?_, fun i => ?_, fun i => ?_⟩ <;> obtain ⟨t, rfl⟩ := point i
  · refine ⟨fun a => ?_, .inr (Affine.block_words_dvd (of_decide_eq_true rfl) (by decide))⟩
    have hn : t.val < 344 := Nat.lt_of_lt_of_eq t.isLt N_0
    have hc := capped_word (m := m) t.val hn (by have := h.count.1; omega)
    have e : cc0_transform_0 inb_S1_S1_0 numel1_S1 (tables m) (grid0.coords t)
        = ![(Scalar.minsi (BitVec.ofNat 32 t.val) (Scalar.subi (Tables.count m) 1#32)).toNat, 0] := by
      rw [← coord t]
      exact congrArg (fun z => ![(Scalar.minsi (BitVec.ofNat 32 ((grid0.coords t) 0).val) (Scalar.subi (tables m 1 z : BitVec 32) 1#32)).toNat, 0])
        (load_at (N := 1) _ inb_S1_S1_0 0 rfl _)
    rw [e]
    generalize (Scalar.minsi (BitVec.ofNat 32 t.val) (Scalar.subi (Tables.count m) 1#32)).toNat = k at hc
    fin_cases a
    · show (k + 1) * 512 ≤ 176128
      omega
    · show (0 + 1) * 1024 ≤ 1024
      omega
  all_goals
    refine ⟨fun a => ?_, .inl rfl⟩
    exact (congrArg (fun z : Fin 3 → ℕ => (z a + 1) * _) (by_expert t)).trans_le (inside (lt t) a)

end Cert.Experts.Routed

end
-- ==== Proof.Frames.lean ====
/- The frames of the experts' programs: the kernel, its idealization, and the reference. -/
module

public import proofs.«01_k».proof.Proof.Transfer
public import proofs.«01_k».proof.Proof.Launch
public import proofs.«01_k».proof.Proof.Routed
public import proofs.«01_k».proof.Proof.Gen.ExpertsReferenceIdeal.Run
public import Idealize.ShloMosaic.Adequacy
public import Idealize.ShloMosaic.Init

@[expose] public section

set_option maxRecDepth 65536

noncomputable section

namespace Cert.Frames

open Idealize.ShloMosaic Idealize.SL.Sem Idealize.ShloMosaic.Tactic

attribute [local instance] Cert.Experts.Gen.facts Cert.ExpertsIdeal.Gen.facts Cert.ExpertsReferenceIdeal.Gen.facts Cert.Experts.Routed.facts

/-- The kernel at its routed tables. -/
theorem experts : Cert.quiescent_Experts := fun m g h =>
  Cert.Experts.Launch.frame m g (Cert.Experts.Routed.placed (Cert.Experts.Routed.ranges h))

/-- Its idealization. -/
theorem experts_ideal : Cert.quiescent_ExpertsIdeal := fun m g h => by
  rw [Cert.Transfer.run_eq]
  exact Cert.Experts.Launch.frame (F := Ideal) m g (Cert.Experts.Routed.placed (Cert.Experts.Routed.ranges h))

/-- The reference leaves its arguments unchanged; it declares no semaphore. -/
theorem experts_reference : Cert.quiescent_ExpertsReferenceIdeal := fun m ρ _ =>
  (θ_run Cert.ExpertsReferenceIdeal.defs _ _).mono (fun r h => ⟨fun c => (h c).2, Idealize.ShloMosaic.sem_eq_zero_of_no_sems (by decide) r.2⟩)
    (Cert.ExpertsReferenceIdeal.Value.run (F := Ideal) m ρ)

end Cert.Frames

end
-- ==== Proof.HostArrays.lean ====
/- The arrays the host operations prepare for the experts' call: the biases' even and odd columns, and the matrix that
   sorts a chunk's even columns before its odd ones. -/
module

public import proofs.«01_k».proof.Proof.ExpertBlocks
public import Idealize.ShloMosaic.PureOps.Ideal
public import Idealize.ShloMosaic.Lib.Pointwise

@[expose] public section

set_option maxRecDepth 16384

noncomputable section

namespace Cert.Experts.HostArrays

open Cert.Experts.Gen Cert.Experts.Region
open Idealize.ShloMosaic Idealize.ShloMosaic.TcCoe Idealize.ShloMosaic.Tactic
open Idealize.SL.Sem Idealize.ShloMosaic.StableHlo

variable (m : (ℓ : Loc nD τ sig) → Buf (Elt Ideal) ℓ) (c : Dev nD)

/-- The first weights' biases, even columns, -/
theorem even_biases (e : Fin 32) (u : Fin 1) (j : Fin 1024) :
    (V m c main_v1 : Vec Ideal S32x1x1024 .f32) (ix3 e u j)
      = (m ((c : Thread nD τ).loc main_arg4) : Vec Ideal S32x2048 .f32) (ix2 e ⟨2 * j.val, by omega⟩) := by
  have h : V m c main_v1 = broadcastInDim S32x1x1024 ![0, 2] bcast_S32x1024_S32x1x1024_0_2
      (Host.slice S32x1024 ![0, 0] ![1, 2] (m ((c : Thread nD τ).loc main_arg4)) slicesBy_S32x2048_S32x1024_0s1_0s2) := by
    simp only [V, stretches, List.flatten_cons, List.flatten_nil, List.append_nil, hostOps0, hostOps0_1, hostOps0_2, List.cons_append,
      List.nil_append, TRef.ternary, TRef.toBuf, TRef.ofBuf, cast_eq]
    after_results_simp <;> rfl
  rw [h]
  pointwise

/-- odd columns, -/
theorem odd_biases (e : Fin 32) (u : Fin 1) (j : Fin 1024) :
    (V m c main_v3 : Vec Ideal S32x1x1024 .f32) (ix3 e u j)
      = (m ((c : Thread nD τ).loc main_arg4) : Vec Ideal S32x2048 .f32) (ix2 e ⟨2 * j.val + 1, by omega⟩) := by
  have h : V m c main_v3 = broadcastInDim S32x1x1024 ![0, 2] bcast_S32x1024_S32x1x1024_0_2
      (Host.slice S32x1024 ![0, 1] ![1, 2] (m ((c : Thread nD τ).loc main_arg4)) slicesBy_S32x2048_S32x1024_0s1_1s2) := by
    simp only [V, stretches, List.flatten_cons, List.flatten_nil, List.append_nil, hostOps0, hostOps0_1, hostOps0_2, List.cons_append,
      List.nil_append, TRef.ternary, TRef.toBuf, TRef.ofBuf, cast_eq]
    after_results_simp <;> rfl
  rw [h]
  pointwise
  simp only [Nat.add_comm]

/-- and the second weights' biases. -/
theorem down_biases (e : Fin 32) (u : Fin 1) (j : Fin 1024) :
    (V m c main_v4 : Vec Ideal S32x1x1024 .f32) (ix3 e u j)
      = (m ((c : Thread nD τ).loc main_arg6) : Vec Ideal S32x1024 .f32) (ix2 e j) := by
  have h : V m c main_v4 = broadcastInDim S32x1x1024 ![0, 2] bcast_S32x1024_S32x1x1024_0_2 (m ((c : Thread nD τ).loc main_arg6)) := by
    simp only [V, stretches, List.flatten_cons, List.flatten_nil, List.append_nil, hostOps0, hostOps0_1, hostOps0_2, List.cons_append,
      List.nil_append, TRef.ternary, TRef.toBuf, TRef.ofBuf, cast_eq]
    after_results_simp <;> rfl
  rw [h]
  pointwise

/-- The column of a chunk that the sorting matrix moves to column `n`: even ones first, then odd ones. -/
def source (n : Fin 256) : Fin 256 := if h : n.val < 128 then ⟨2 * n.val, by omega⟩ else ⟨2 * (n.val - 128) + 1, by omega⟩

/-- The source as the host operations compute it, on words. -/
theorem source_word : ∀ n : Fin 256,
    Scalar.select (IntOp.cmpi CmpIPredicate.slt (BitVec.ofNat 32 n.val) 128#32) (IntOp.muli (2#32) (BitVec.ofNat 32 n.val))
      (IntOp.addi (IntOp.muli (2#32) (IntOp.subi (BitVec.ofNat 32 n.val) 128#32)) 1#32) = BitVec.ofNat 32 (source n).val := by
  decide +kernel

/-- A comparison's bit as a number. -/
theorem equal_word (a b : Fin 256) :
    FloatOps.uitofp (F := Ideal) FTy.bf16 (IntOp.cmpi CmpIPredicate.eq (BitVec.ofNat 32 a.val) (BitVec.ofNat 32 b.val)) = (if a = b then 1 else 0 : EReal) := by
  by_cases h : a = b
  · subst h
    show ((_ : ℝ) : EReal) = _
    simp [IntOp.cmpi]
  · have hw : BitVec.ofNat 32 a.val ≠ BitVec.ofNat 32 b.val := fun e => h (Fin.ext (by
      have e' := congrArg BitVec.toNat e
      rw [BitVec.toNat_ofNat, BitVec.toNat_ofNat] at e'
      omega))
    show ((_ : ℝ) : EReal) = _
    simp [IntOp.cmpi, h, hw]

/-- The sorting matrix: a one where the row is the column's source. -/
theorem sorting (k n : Fin 256) :
    (V m c main_v23 : Vec Ideal S256x256 .bf16) (ix2 k n) = (if k = source n then 1 else 0 : EReal) := by
  have h : V m c main_v23 = uitofp (F := Ideal) .bf16 (cmpi .eq
      (broadcastInDim S256x256 ![0, 1] bcast_S256x1_S256x256_0_1 (broadcastInDim S256x1 ![0] bcast_S256_S256x1_0 (iotaInDim S256 32 0)))
      (broadcastInDim S256x256 ![0, 1] bcast_S1x256_S256x256_0_1 (broadcastInDim S1x256 ![1] bcast_S256_S1x256_1
        (select (cmpi .slt (iotaInDim S256 32 0) (broadcastInDim S256 ![] bcast_S_S256 (constantI S_ 32 128#32)))
          (muli (broadcastInDim S256 ![] bcast_S_S256 (constantI S_ 32 2#32)) (iotaInDim S256 32 0))
          (addi (muli (broadcastInDim S256 ![] bcast_S_S256 (constantI S_ 32 2#32))
              (subi (iotaInDim S256 32 0) (broadcastInDim S256 ![] bcast_S_S256 (constantI S_ 32 128#32))))
            (broadcastInDim S256 ![] bcast_S_S256 (constantI S_ 32 1#32))))))) := by
    simp only [V, stretches, List.flatten_cons, List.flatten_nil, List.append_nil, hostOps0, hostOps0_1, hostOps0_2, List.cons_append,
      List.nil_append, TRef.ternary, TRef.toBuf, TRef.ofBuf, cast_eq]
    after_results_simp <;> rfl
  rw [h]
  pointwise
  rw [source_word, equal_word]

end Cert.Experts.HostArrays

end
-- ==== Proof.ExpertSpec.lean ====
/- The experts' layer on the extended reals, elementwise: what one expert makes of one row, and which expert a row goes to. -/
module

public import Idealize.ShloMosaic.PureOps.Ideal
public import Idealize.ShloMosaic.Lib.Pointwise

@[expose] public section

noncomputable section

namespace Cert.ExpertSpec

open Idealize.ShloMosaic

/-- The arrays: the tokens, the first weights and their biases, the second weights and their biases. -/
structure Arrays where
  x : (⟨2, ![176128, 1024]⟩ : Shape).Idx → EReal
  wgu : (⟨3, ![32, 1024, 2048]⟩ : Shape).Idx → EReal
  bgu : (⟨2, ![32, 2048]⟩ : Shape).Idx → EReal
  wd : (⟨3, ![32, 1024, 1024]⟩ : Shape).Idx → EReal
  bd : (⟨2, ![32, 1024]⟩ : Shape).Idx → EReal

/-- The clip's bounds and the gate's slope. -/
abbrev seven : EReal := Ideal.ofBits .f32 0x40E00000#32
abbrev minusSeven : EReal := Ideal.ofBits .f32 0xC0E00000#32
abbrev slope : EReal := Ideal.ofBits .f32 0x3FD9DB23#32

variable (A : Arrays)

/-- Expert `e`'s first linear map of row `R`, at column `j`. -/
def first (R : Fin 176128) (e : Fin 32) (j : Fin 2048) : EReal :=
  (∑ k : Fin 1024, A.x (ix2 R k) * A.wgu (ix3 e k j)) + A.bgu (ix2 e j)

/-- The clipped gate and linear columns. -/
def gate (R : Fin 176128) (e : Fin 32) (f : Fin 1024) : EReal := min (first A R e ⟨2 * f.val, by omega⟩) seven
def linear (R : Fin 176128) (e : Fin 32) (f : Fin 1024) : EReal :=
  min seven (max minusSeven (first A R e ⟨2 * f.val + 1, by omega⟩))

/-- The activation. -/
def act (R : Fin 176128) (e : Fin 32) (f : Fin 1024) : EReal :=
  gate A R e f * Ideal.logistic (slope * gate A R e f) * (linear A R e f + 1)

/-- The second linear map of the activations. -/
def expert (R : Fin 176128) (e : Fin 32) (d : Fin 1024) : EReal :=
  (∑ f : Fin 1024, act A R e f * A.wd (ix3 e f d)) + A.bd (ix2 e d)

/-- The expert of block `n`, by the table's word. -/
def whose (be : (⟨1, ![344]⟩ : Shape).Idx → BitVec 32) (n : Fin 344) : Fin 32 := ⟨(be (ix1 n)).toNat % 32, Nat.mod_lt _ (by decide)⟩

/-- The layer: a row of a used block goes to its block's expert, and the other rows are zero. -/
def layer (be : (⟨1, ![344]⟩ : Shape).Idx → BitVec 32) (nu : (⟨1, ![1]⟩ : Shape).Idx → BitVec 32) (R : Fin 176128) (d : Fin 1024) : EReal :=
  if ((R.val / 512 : ℕ) : ℤ) < (nu (ix1 0)).toInt then expert A R (whose be ⟨R.val / 512, by omega⟩) d else 0

end Cert.ExpertSpec

end
-- ==== Proof.ExpertPayload.lean ====
/- What the experts' body stores, on the extended reals: the halves of the sorted weights, and a used block's rows. -/
module

public import proofs.«01_k».proof.Proof.HostArrays
public import proofs.«01_k».proof.Proof.ExpertSpec

@[expose] public section

set_option maxRecDepth 16384

noncomputable section

namespace Cert.Experts.Payload

open Cert.Experts.Gen Cert.Experts.Body Cert.Experts.HostArrays
open Idealize.ShloMosaic

/-- A product with a column that holds a single one picks that entry. -/
theorem pick (f P : Fin 256 → EReal) (n : Fin 256) (h : ∀ k, P k = if k = n then 1 else 0) : ∑ k, f k * P k = f n := by
  simp [h]

section Halves

variable (wgu : Vec Ideal S1x1024x2048 .f32) (pm : Vec Ideal S256x256 .bf16)
  (hp : ∀ k n : Fin 256, pm (ix2 k n) = (if k = source n then 1 else 0 : EReal))
include hp

/-- A sorted chunk's column is its source. -/
theorem sorted (b : Fin 8) (r : Fin 1024) (n : Fin 256) :
    k0_pay8 (columns wgu b) pm (ix2 r n) = wgu (ix3 0 r ⟨256 * b.val + (source n).val, by have := (source n).isLt; omega⟩) := by
  pointwise [k0_pay8]
  rw [pick _ (fun k => pm (ix2 k n)) (source n) (fun k => hp k n)]
  rfl

/-- The gate half is the even columns, -/
theorem gate_half (r j : Fin 1024) : gateHalf wgu pm (ix2 r j) = wgu (ix3 0 r ⟨2 * j.val, by omega⟩) := by
  unfold gateHalf
  pointwise [k0_pay9]
  rw [sorted wgu pm hp]
  refine congrArg wgu (congrArg (ix3 0 r) (Fin.ext ?_))
  have hm : j.val % 128 < 128 := Nat.mod_lt _ (by decide)
  simp only [source, hm, dif_pos]
  omega

/-- and the linear half the odd ones. -/
theorem linear_half (r j : Fin 1024) : linearHalf wgu pm (ix2 r j) = wgu (ix3 0 r ⟨2 * j.val + 1, by omega⟩) := by
  unfold linearHalf
  pointwise [k0_pay10]
  rw [sorted wgu pm hp]
  refine congrArg wgu (congrArg (ix3 0 r) (Fin.ext ?_))
  simp only [source, dif_neg (show ¬128 + j.val % 128 < 128 by omega)]
  omega

end Halves

/-- The second weights are stored as they are. -/
theorem down_cast (wd : Vec Ideal S1x1024x1024 .f32) (f d : Fin 1024) : k0_pay6 wd (ix2 f d) = wd (ix3 0 f d) := by
  pointwise [k0_pay6]

/-- An unused block is zero. -/
theorem zero_block (y : S512x1024.Idx) : k0_pay7 (F := Ideal) y = (0 : EReal) := by
  pointwise [k0_pay7]

/-- A used block's entry: the expert's row, once the block's arguments are the arrays' at row `R` and expert `e`. -/
theorem stored (A : ExpertSpec.Arrays) (R : Fin 176128) (e : Fin 32) (r : Fin 512) (x : Vec Ideal S512x1024 .bf16)
    (g l d : Vec Ideal S1024x1024 .bf16) (bg bl bd : Vec Ideal S1x1x1024 .f32) (n : Fin 1024)
    (hx : ∀ k, x (ix2 r k) = A.x (ix2 R k)) (hg : ∀ k j, g (ix2 k j) = A.wgu (ix3 e k ⟨2 * j.val, by omega⟩))
    (hl : ∀ k j, l (ix2 k j) = A.wgu (ix3 e k ⟨2 * j.val + 1, by omega⟩)) (hd : ∀ k j, d (ix2 k j) = A.wd (ix3 e k j))
    (hbg : ∀ j, bg (ix3 0 0 j) = A.bgu (ix2 e ⟨2 * j.val, by omega⟩)) (hbl : ∀ j, bl (ix3 0 0 j) = A.bgu (ix2 e ⟨2 * j.val + 1, by omega⟩))
    (hbd : ∀ j, bd (ix3 0 0 j) = A.bd (ix2 e j)) :
    k0_pay28 x g bg l bl d bd (ix2 r n) = ExpertSpec.expert A R e n := by
  pointwise [k0_pay28]
  simp only [hx, hg, hl, hd, hbg, hbl, hbd]
  rfl

end Cert.Experts.Payload

end
-- ==== Proof.ExpertResult.lean ====
/- The experts' result array: every point writes its block once, and the block is the layer at its rows. -/
module

public import proofs.«01_k».proof.Proof.Launch
public import proofs.«01_k».proof.Proof.Routed
public import proofs.«01_k».proof.Proof.ExpertPayload
public import Idealize.ShloMosaic.Lib.Pipeline.Covers
public import Idealize.ShloMosaic.Lib.Pipeline.ValueKit

@[expose] public section

set_option maxRecDepth 16384

noncomputable section

namespace Cert.Experts.Result

open Cert.Experts.Gen Cert.Experts.Region Cert.Experts.Body Cert.Experts.Tables Cert.Experts.Blocks Cert.Experts.Launch
open Cert.Experts.HostArrays Cert.Experts.Payload Cert.Experts.Routed
open Idealize.ShloMosaic Idealize.ShloMosaic.TcCoe Idealize.ShloMosaic.Tactic
open Idealize.SL.Sem

variable (m : (ℓ : Loc nD τ sig) → Buf (Elt Ideal) ℓ) (c : Dev nD)

/-- The arrays of the launch. -/
def arrs : ExpertSpec.Arrays where
  x := m ((c.tc : Thread nD τ).loc main_arg2)
  wgu := m ((c.tc : Thread nD τ).loc main_arg3)
  bgu := m ((c.tc : Thread nD τ).loc main_arg4)
  wd := m ((c.tc : Thread nD τ).loc main_arg5)
  bd := m ((c.tc : Thread nD τ).loc main_arg6)

/-- The layer at the launch's arguments. -/
def layer (R : Fin 176128) (d : Fin 1024) : EReal :=
  ExpertSpec.layer (arrs m c) (m ((c.tc : Thread nD τ).loc main_arg0)) (m ((c.tc : Thread nD τ).loc main_arg1)) R d

variable {m} (hO : Placed m)

/-- The point's expert is its block's, by the table. -/
theorem who_eq (t : Fin (cfg m hO).N) : who hO t = ExpertSpec.whose (m ((c.tc : Thread nD τ).loc main_arg0)) (num t) := by
  obtain rfl : c = 0 := Subsingleton.elim _ _
  refine Fin.ext ?_
  have h := expert_lt hO t
  have e : expert m (num t) = m (((0 : Dev nD) : Thread nD τ).loc main_arg0) (ix1 (num t)) := congrFun table_experts _
  show (expert m (num t)).toNat = (m (((0 : Dev nD) : Thread nD τ).loc main_arg0) (ix1 (num t)) : BitVec 32).toNat % 32
  rw [← e]
  omega

/-- Whether the point is used, by the table. -/
theorem used_iff (n : ℕ) : Used m n ↔ (n : ℤ) < (m ((c.tc : Thread nD τ).loc main_arg1) (ix1 (0 : Fin 1)) : BitVec 32).toInt := by
  obtain rfl : c = 0 := Subsingleton.elim _ _
  have e : count m = m (((0 : Dev nD) : Thread nD τ).loc main_arg1) (ix1 (0 : Fin 1)) := congrFun table_used _
  unfold Used
  rw [e]

/-- A block written back is the layer at the block's rows. -/
theorem block_at (t : Fin (cfg m hO).N) (r : Fin 512) (n : Fin 1024) (R : Fin 176128) (hR : R.val = t.val * 512 + r.val) :
    outAt m hO c t (ix2 r n) = layer m c R n := by
  have hdiv : R.val / 512 = t.val := by have := r.isLt; omega
  have hnum : (⟨R.val / 512, by omega⟩ : Fin 344) = num t := Fin.ext hdiv
  have hcond : k0_cond2 (grid0.coords t) (usedWord (c := 0) (tables m 1)) = 1#1 ↔ Used m t.val := by
    rw [used_word]
    exact cond2_iff m t
  unfold outAt result layer ExpertSpec.layer
  rw [hnum, hdiv, ← who_eq c hO t]
  by_cases hu : Used m t.val
  · rw [if_pos (hcond.mpr hu), if_pos ((used_iff c t.val).mp hu)]
    have ha : ∀ b (_ : ∀ y ∈ written, b ≠ y), V m c b = m ((c.tc : Thread nD τ).loc b) := fun b hb => untouched m c hb
    have hs : ∀ k n : Fin 256, Blocks.sorting hO c t (ix2 k n) = (if k = source n then 1 else 0 : EReal) :=
      fun k n => (sorting_at hO c t _).trans (sorting m c k n)
    refine stored (arrs m c) R (who hO t) r _ _ _ _ _ _ _ n (fun k => ?_) (fun k j => ?_) (fun k j => ?_) (fun k j => ?_) (fun j => ?_) (fun j => ?_) (fun j => ?_)
    · rw [tokens_at hO c t hu, ha main_arg2 (by decide)]
      exact congrArg (fun R : Fin 176128 => (arrs m c).x (ix2 R k)) (Fin.ext hR.symm)
    · refine (gate_half (gateUp hO c t) (Blocks.sorting hO c t) hs k j).trans ?_
      rw [gateUp_at, ha main_arg3 (by decide)]
      rfl
    · refine (linear_half (gateUp hO c t) (Blocks.sorting hO c t) hs k j).trans ?_
      rw [gateUp_at, ha main_arg3 (by decide)]
      rfl
    · refine (down_cast (down hO c t) k j).trans ?_
      rw [down_at, ha main_arg5 (by decide)]
      rfl
    · exact (gateBias_at hO c t _).trans (even_biases m c _ _ _)
    · exact (linearBias_at hO c t _).trans (odd_biases m c _ _ _)
    · exact (downBias_at hO c t _).trans (down_biases m c _ _ _)
  · rw [if_neg (fun h => hu (hcond.mp h)), if_neg (fun h => hu ((used_iff c t.val).mpr h))]
    exact zero_block _

/-- The blocks written back cover the result. -/
theorem covers : ((cfg m hO).win 7).Covers :=
  ((cfg m hO).win 7).covers_of_indexMap_surj rfl (fun a => (by decide : ∀ a : Fin 2, 0 < S512x1024.size a) a) fun β => by
    have hb : (β (0 : Fin 2)).val < 344 := lt_of_lt_of_eq (β (0 : Fin 2)).isLt (show (176128 + 512 - 1) / 512 = 344 by norm_num)
    have hb1 : (β (1 : Fin 2)).val < 1 := lt_of_lt_of_eq (β (1 : Fin 2)).isLt (show (1024 + 1024 - 1) / 1024 = 1 by norm_num)
    obtain ⟨t, ht⟩ : ∃ t : Fin (cfg m hO).N, t.val = (β (0 : Fin 2)).val := ⟨⟨(β (0 : Fin 2)).val, Nat.lt_of_lt_of_eq hb N_0.symm⟩, rfl⟩
    refine ⟨grid0.coords t, fun a => ?_⟩
    have e := congrFun (index7 t hO) a
    refine e.trans ?_
    match a with
    | ⟨0, _⟩ => exact ht
    | ⟨1, _⟩ => exact (show (0 : ℕ) = (β (1 : Fin 2)).val by omega)

variable (m) in
/-- The layer as an array. -/
def layerArray : Vec Ideal S176128x1024 .bf16 := fun i => layer m c (i 0) (i 1)

/-- The result array. -/
theorem result_eq : (dats m hO 0 c).arrAt 7 (cfg m hO).N = layerArray m c := by
  refine (dats m hO 0 c).arrAt_eq_of_covers 7 _ (covers hO) fun t hf y => ?_
  obtain ⟨r, n, rfl⟩ : ∃ (r : Fin 512) (n : Fin 1024), y = ix2 r n := ⟨_, _, eq_ix2 (n0 := 512) (n1 := 1024) y⟩
  have e7 := index7 t hO
  blk_simp
  rw [after7]
  have h0 : ((((cfg m hO).win 7).blk t).view.emb (ix2 r n) (0 : Fin 2)).val = t.val * 512 + r.val := by blk_simp [e7]
  have h1 : ((((cfg m hO).win 7).blk t).view.emb (ix2 r n) (1 : Fin 2)).val = n.val := by blk_simp [e7]
  exact (block_at c hO t r n _ h0).trans (congrArg (layer m c _) (Fin.ext h1.symm))

include hO in
/-- A run ends with the layer in the result and every argument unchanged. -/
theorem run_result (ρ : Dev nD → PrngReg) : θ_run defs (onTc (τ := τ) (main (F := Ideal))) ⟨m, fun _ => 0, ρ⟩ (fun r => ∀ c : Dev nD,
      r.2.mem ((c.tc : Thread nD τ).loc main_v24) = layerArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 7).trans (result_eq c hO), h.2 c⟩)
    (θ_run_and ((θ_run defs _ _).mono (fun _ h => h.1) (runs m ρ hO))
      (unchanged_of m ρ hO (dats m hO) (arrays m hO) ((θ_run defs _ _).mono (fun _ h => h.1) (runs m ρ hO))))

end Cert.Experts.Result

end
-- ==== Proof.ExpertReference.lean ====
/- The experts' reference read at an index: each entry of its result is the layer of `ExpertSpec`. -/
module

public import proofs.«01_k».proof.Proof.ExpertSpec
public import proofs.«01_k».proof.Proof.Gen.ExpertsReferenceIdeal.Read
public import Idealize.ShloMosaic.Lib.Routing.Ops
public import Idealize.ShloMosaic.Lib.Pointwise

@[expose] public section

set_option maxRecDepth 16384

noncomputable section

namespace Cert.ExpertReference

open Cert.ExpertsReferenceIdeal Cert.ExpertsReferenceIdeal.Gen Cert.ExpertsReferenceIdeal.Read
open Idealize.ShloMosaic Cert.ExpertSpec

/-- Taking whole matrices off a stack of `nb`: the dimension numbers. -/
abbrev stackDims (nb A B n : ℕ)
    (wf : GatherDims.WF ⟨3, ![nb, A, B]⟩ ⟨2, ![n, 1]⟩ ⟨3, ![n, A, B]⟩ [1, 2] [0] [] [0] [] 1 ![1, A, B]) :
    GatherDims ⟨3, ![nb, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- The matrix taken for `c` is the stack's matrix number `b`, where the index word of `c` is `b`. -/
theorem stack_at {α : Type} {nb A B n : ℕ}
    (wf : GatherDims.WF ⟨3, ![nb, A, B]⟩ ⟨2, ![n, 1]⟩ ⟨3, ![n, A, B]⟩ [1, 2] [0] [] [0] [] 1 ![1, A, B])
    (x : (⟨3, ![nb, A, B]⟩ : Shape).Idx → α) (idx : IVec ⟨2, ![n, 1]⟩ 32) (c : Fin n) (k : Fin A) (j : Fin B) (b : Fin nb)
    (hb : (idx (ix2 c (0 : Fin 1))).toInt = (b.val : ℤ)) :
    Host.gather (stackDims nb A B n wf) x idx (ix3 c k j) = x (ix3 b k j) := by
  unfold Host.gather
  refine congrArg x (funext fun a => Fin.ext ?_)
  show (stackDims nb A B n wf).start (ix3 c k j) idx a + (stackDims nb A B n wf).batchCoord (ix3 c k j) a
      + (stackDims nb A B n wf).offCoord (ix3 c k j) a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  have h1 : (1 : Fin 3) ∉ [(0 : Fin 3)] := by decide
  have h2 : (2 : Fin 3) ∉ [(0 : Fin 3)] := by decide
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (stackDims nb A B n wf).startIndexMap from List.mem_singleton.mpr rfl)]
    have hsi : (stackDims nb A B n wf).siIdx (ix3 c k j) ⟨List.idxOf (0 : Fin 3) (stackDims nb A B n wf).startIndexMap,
        List.idxOf_lt_length_iff.2 (List.mem_singleton.mpr rfl)⟩ = ix2 c (0 : Fin 1) := by
      funext b'
      refine Fin.ext ?_
      match b' with
      | ⟨0, _⟩ => rfl
      | ⟨1, _⟩ => rfl
    have hbl := b.isLt
    rw [hsi, hb]
    show min ((b.val : ℤ)).toNat (nb - 1) = b.val
    omega
  · unfold GatherDims.start GatherDims.offCoord
    rw [dif_neg h1, dif_pos ((GatherDims.mem_sKept _ _).mpr ⟨h1, List.not_mem_nil⟩), Nat.zero_add]
    rfl
  · unfold GatherDims.start GatherDims.offCoord
    rw [dif_neg h2, dif_pos ((GatherDims.mem_sKept _ _).mpr ⟨h2, List.not_mem_nil⟩), Nat.zero_add]
    rfl

variable (be : (⟨S344, .i32⟩ : BufTy).Contents (Elt Ideal)) (nu : (⟨S1, .i32⟩ : BufTy).Contents (Elt Ideal)) (A : Arrays)

/-- Every block's word names one of the thirty-two experts. -/
def InRange : Prop := ∀ n : Fin 344, 0 ≤ (be (ix1 n) : BitVec 32).toInt ∧ (be (ix1 n) : BitVec 32).toInt < 32

variable {be} (hbe : InRange be)
include hbe

/-- The word of a block is its expert's number, -/
theorem word_eq (n : Fin 344) : (be (ix1 n) : BitVec 32) = BitVec.ofNat 32 (whose be n).val := by
  obtain ⟨h0, h1⟩ := hbe n
  have e := BitVec.toInt_eq_toNat_cond (be (ix1 n) : BitVec 32)
  have hl := (be (ix1 n) : BitVec 32).isLt
  refine BitVec.eq_of_toNat_eq ?_
  show _ = (BitVec.ofNat 32 ((be (ix1 n) : BitVec 32).toNat % 32)).toNat
  rw [BitVec.toNat_ofNat]
  split at e <;> omega

/-- and the index word the reference makes of it is the same: a word below zero would be moved up, and none is. -/
theorem index_word (n : Fin 344) (u : Fin 1) :
    (val_main_v7 (F := Ideal) be (ix2 n u) : BitVec 32) = BitVec.ofNat 32 (whose be n).val := by
  have hn : ¬ (be (ix1 n) : BitVec 32).toInt < 0 := not_lt.mpr (hbe n).1
  have e : (val_main_v7 (F := Ideal) be (ix2 n u) : BitVec 32)
      = Scalar.select (IntOp.cmpi .slt (be (ix1 n)) 0#32) (IntOp.addi (be (ix1 n)) 32#32) (be (ix1 n)) := by
    pointwise [val_main_v7, val_main_v6, val_main_v5, val_main_v4, val_main_v3, val_main_v2, val_main_c, val_main_c_0]
  rw [e, ← word_eq hbe n]
  simp [Scalar.select, IntOp.cmpi, BitVec.slt, hn]

theorem index_int (n : Fin 344) : (val_main_v7 (F := Ideal) be (ix2 n (0 : Fin 1)) : BitVec 32).toInt = ((whose be n).val : ℤ) := by
  rw [index_word hbe]
  exact StableHlo.Predicate.toInt_ofNat_small _ (by have := (whose be n).isLt; omega)

/-- The gathered first weights, biases, second weights and biases of a block are its expert's. -/
theorem gateUp_at (n : Fin 344) (k : Fin 1024) (j : Fin 2048) :
    val_main_v8 (F := Ideal) be A.wgu (ix3 n k j) = A.wgu (ix3 (whose be n) k j) :=
  stack_at gather_S32x1024x2048_S344x1_S344x1024x2048_12_0_n_n_0_1_110242048_wf A.wgu _ n k j _ (index_int hbe n)

theorem down_at (n : Fin 344) (k : Fin 1024) (j : Fin 1024) :
    val_main_v43 (F := Ideal) be A.wd (ix3 n k j) = A.wd (ix3 (whose be n) k j) :=
  stack_at gather_S32x1024x1024_S344x1_S344x1024x1024_12_0_n_n_0_1_110241024_wf A.wd _ n k j _ (index_int hbe n)

theorem gateUpBias_at (n : Fin 344) (j : Fin 2048) :
    val_main_v16 (F := Ideal) be A.bgu (ix2 n j) = A.bgu (ix2 (whose be n) j) :=
  Routing.gather_row gather_S32x2048_S344x1_S344x2048_1_0_n_n_0_1_12048 rfl rfl rfl rfl rfl A.bgu _ n j (whose be n)
    (index_word hbe n 0) (by norm_num)

theorem downBias_at (n : Fin 344) (j : Fin 1024) :
    val_main_v51 (F := Ideal) be A.bd (ix2 n j) = A.bd (ix2 (whose be n) j) :=
  Routing.gather_row gather_S32x1024_S344x1_S344x1024_1_0_n_n_0_1_11024 rfl rfl rfl rfl rfl A.bd _ n j (whose be n)
    (index_word hbe n 0) (by norm_num)

/-- The first linear map of a block's row. -/
theorem first_at (n : Fin 344) (r : Fin 512) (R : Fin 176128) (hR : R.val = n.val * 512 + r.val) (j : Fin 2048) :
    val_main_v19 (F := Ideal) be A.x A.wgu A.bgu (ix3 n r j) = first A R (whose be n) j := by
  show val_main_v9 (F := Ideal) be A.x A.wgu (ix3 n r j) + val_main_v18 (F := Ideal) be A.bgu (ix3 n r j) = _
  unfold first
  rw [val_main_v9_apply]
  refine congrArg₂ (· + ·) (Finset.sum_congr rfl fun k _ => congrArg₂ (· * ·) ?_ ?_) ?_
  · rw [val_main_v1_apply]
    refine congrArg A.x (funext fun a => Fin.ext ?_)
    have hk := k.isLt
    match a with
    | ⟨0, _⟩ => show ((n.val * 512 + r.val) * 1024 + k.val) / 1024 = R.val; omega
    | ⟨1, _⟩ => show ((n.val * 512 + r.val) * 1024 + k.val) % 1024 = k.val; omega
  · refine Eq.trans (congrArg _ (funext fun a => ?_)) (gateUp_at A hbe n k j)
    match a with | ⟨0, _⟩ => rfl | ⟨1, _⟩ => rfl | ⟨2, _⟩ => rfl
  · rw [val_main_v18_apply, val_main_v17_apply]
    refine Eq.trans (congrArg _ (funext fun a => ?_)) (gateUpBias_at A hbe n j)
    match a with | ⟨0, _⟩ => rfl | ⟨1, _⟩ => rfl

/-- The clipped gate column, -/
theorem gate_at (n : Fin 344) (r : Fin 512) (R : Fin 176128) (hR : R.val = n.val * 512 + r.val) (f : Fin 1024) :
    val_main_v23 (F := Ideal) be A.x A.wgu A.bgu (ix3 n r f) = gate A R (whose be n) f := by
  unfold gate
  rw [← first_at A hbe n r R hR]
  unfold val_main_v23 val_main_v20 val_main_v22 val_main_cst
  generalize val_main_v19 (F := Ideal) be A.x A.wgu A.bgu = z
  pointwise

/-- and the clipped linear one. -/
theorem linear_at (n : Fin 344) (r : Fin 512) (R : Fin 176128) (hR : R.val = n.val * 512 + r.val) (f : Fin 1024) :
    val_main_v24 (F := Ideal) be A.x A.wgu A.bgu (ix3 n r f) = linear A R (whose be n) f := by
  unfold linear
  rw [← first_at A hbe n r R hR]
  unfold val_main_v24 val_main_call0_v4 val_main_call0_v3 val_main_call0_v2 val_main_call0_v1 val_main_call0_v0 val_main_v21 val_main_cst_3 val_main_cst_4
  generalize val_main_v19 (F := Ideal) be A.x A.wgu A.bgu = z
  pointwise
  simp only [Nat.add_comm]
  rfl

/-- The activation. -/
theorem act_at (n : Fin 344) (r : Fin 512) (R : Fin 176128) (hR : R.val = n.val * 512 + r.val) (f : Fin 1024) :
    val_main_v36 (F := Ideal) be A.x A.wgu A.bgu (ix3 n r f) = act A R (whose be n) f := by
  unfold act
  rw [← gate_at A hbe n r R hR, ← linear_at A hbe n r R hR]
  unfold val_main_v36 val_main_v35 val_main_v34 val_main_v33 val_main_v32 val_main_v31 val_main_v30 val_main_v29 val_main_v28 val_main_v27 val_main_v26 val_main_v25 val_main_cst_5 val_main_cst_6 val_main_cst_7 val_main_cst_8
  generalize val_main_v23 (F := Ideal) be A.x A.wgu A.bgu = z
  generalize val_main_v24 (F := Ideal) be A.x A.wgu A.bgu = y
  pointwise
  rfl

/-- The expert's result. -/
theorem expert_at (n : Fin 344) (r : Fin 512) (R : Fin 176128) (hR : R.val = n.val * 512 + r.val) (d : Fin 1024) :
    val_main_v54 (F := Ideal) be A.x A.wgu A.bgu A.wd A.bd (ix3 n r d) = expert A R (whose be n) d := by
  show val_main_v44 (F := Ideal) be A.x A.wgu A.bgu A.wd (ix3 n r d) + val_main_v53 (F := Ideal) be A.bd (ix3 n r d) = _
  unfold expert
  rw [val_main_v44_apply]
  refine congrArg₂ (· + ·) (Finset.sum_congr rfl fun k _ => congrArg₂ (· * ·) ?_ ?_) ?_
  · refine Eq.trans (congrArg _ (funext fun a => ?_)) (act_at A hbe n r R hR k)
    match a with | ⟨0, _⟩ => rfl | ⟨1, _⟩ => rfl | ⟨2, _⟩ => rfl
  · refine Eq.trans (congrArg _ (funext fun a => ?_)) (down_at A hbe n k d)
    match a with | ⟨0, _⟩ => rfl | ⟨1, _⟩ => rfl | ⟨2, _⟩ => rfl
  · rw [val_main_v53_apply, val_main_v52_apply]
    refine Eq.trans (congrArg _ (funext fun a => ?_)) (downBias_at A hbe n d)
    match a with | ⟨0, _⟩ => rfl | ⟨1, _⟩ => rfl

omit hbe in
/-- The mask of the used blocks. -/
theorem mask_at (n : Fin 344) (r : Fin 512) (d : Fin 1024) :
    (val_main_call1_v1 (F := Ideal) nu (ix3 n r d) : BitVec 1) = IntOp.cmpi .slt (BitVec.ofNat 32 n.val) (nu (ix1 (0 : Fin 1))) := by
  rw [val_main_call1_v1_apply]
  show IntOp.cmpi .slt (val_main_v56 (F := Ideal) _) (val_main_v58 (F := Ideal) nu _) = _
  rw [val_main_v56_apply, val_main_v58_apply]
  refine congrArg₂ (IntOp.cmpi .slt) rfl ?_
  refine congrArg nu (funext fun a => ?_)
  match a with | ⟨0, _⟩ => exact Subsingleton.elim (α := Fin 1) _ _

omit hbe in
/-- A choice by a comparison of a small number with a word is the choice by the comparison of the numbers. -/
theorem select_lt (n : ℕ) (hn : n < 344) (w : BitVec 32) (a b : EReal) :
    Scalar.select (IntOp.cmpi .slt (BitVec.ofNat 32 n) w) a b = if (n : ℤ) < w.toInt then a else b := by
  have hi : (BitVec.ofNat 32 n).toInt = (n : ℤ) := StableHlo.Predicate.toInt_ofNat_small _ (by omega)
  by_cases h : (n : ℤ) < w.toInt
  · rw [if_pos h]
    simp [Scalar.select, IntOp.cmpi, BitVec.slt, hi, h]
  · rw [if_neg h]
    simp [Scalar.select, IntOp.cmpi, BitVec.slt, hi, h]

omit hbe in
/-- Rows of blocks that are not used are zero. -/
theorem zero_at (i : S344x512x1024.Idx) : val_main_call1_v2 (F := Ideal) i = (0 : EReal) := by
  pointwise [val_main_call1_v2, val_main_call1_v0, val_main_cst_13]
  simp only [id]
  pointwise

/-- The reference's result in blocks. -/
theorem block_at (n : Fin 344) (r : Fin 512) (R : Fin 176128) (hR : R.val = n.val * 512 + r.val) (d : Fin 1024) :
    val_main_v60 (F := Ideal) be nu A.x A.wgu A.bgu A.wd A.bd (ix3 n r d)
      = if (n.val : ℤ) < (nu (ix1 (0 : Fin 1)) : BitVec 32).toInt then expert A R (whose be n) d else 0 := by
  rw [val_main_v60_apply, mask_at, zero_at, expert_at A hbe n r R hR]
  exact select_lt n.val n.isLt _ _ _

omit hbe in
/-- The block and row of a result's row. -/
theorem split_row (R : Fin 176128) (d : Fin 1024) (n : Fin 344) (r : Fin 512) (hR : R.val = n.val * 512 + r.val) :
    idx_main_v61 (ix2 R d) = ix3 n r d := by
  have hr := r.isLt
  have hd := d.isLt
  funext a
  refine Fin.ext ?_
  match a with
  | ⟨0, _⟩ => show (R.val * 1024 + d.val) / 524288 = n.val; omega
  | ⟨1, _⟩ => show (R.val * 1024 + d.val) / 1024 % 512 = r.val; omega
  | ⟨2, _⟩ => show (R.val * 1024 + d.val) % 1024 = d.val; omega

/-- The reference's result. -/
theorem result_at (R : Fin 176128) (d : Fin 1024) :
    val_main_v62 (F := Ideal) be nu A.x A.wgu A.bgu A.wd A.bd (ix2 R d) = layer A be nu R d := by
  obtain ⟨n, hn⟩ : ∃ n : Fin 344, n.val = R.val / 512 := ⟨⟨R.val / 512, by omega⟩, rfl⟩
  obtain ⟨r, hr⟩ : ∃ r : Fin 512, r.val = R.val % 512 := ⟨⟨R.val % 512, by omega⟩, rfl⟩
  have hR : R.val = n.val * 512 + r.val := by omega
  have hf : (⟨R.val / 512, by omega⟩ : Fin 344) = n := Fin.ext hn.symm
  rw [val_main_v62_apply, val_main_v61_apply, split_row R d n r hR, block_at nu A hbe n r R hR]
  unfold layer
  rw [hf, ← hn]
  rfl

end Cert.ExpertReference

end
-- ==== Proof.ExpertsEqual.lean ====
/- The experts' kernel and their reference end with the same result: the layer of `ExpertSpec` at the arguments. -/
module

public import proofs.«01_k».proof.Proof.Frames
public import proofs.«01_k».proof.Proof.ExpertResult
public import proofs.«01_k».proof.Proof.ExpertReference

@[expose] public section

set_option maxRecDepth 65536

noncomputable section

namespace Cert.ExpertsEqual

open Idealize.ShloMosaic Idealize.SL.Sem Idealize.ShloMosaic.Tactic

attribute [local instance] Cert.Experts.Gen.facts Cert.ExpertsIdeal.Gen.facts Cert.ExpertsReferenceIdeal.Gen.facts Cert.Experts.Routed.facts

/-- The experts, kernel against reference. -/
theorem experts : Cert.algebraic_ExpertsIdeal_ExpertsReferenceIdeal := by
  intro m g m' g' hpre hagree
  have hr := Cert.Experts.Routed.ranges (F := Ideal) (m := m) hpre
  have hO := Cert.Experts.Routed.placed hr
  refine ⟨fun c => Cert.Experts.Result.layerArray m c, ?_, ?_⟩
  · rw [Cert.Transfer.run_eq]
    exact Cert.Experts.Result.run_result hO g
  · refine (θ_run Cert.ExpertsReferenceIdeal.defs _ _).mono (fun r h c => ⟨(h c).1.trans ?_, (h c).2⟩)
      (Cert.ExpertsReferenceIdeal.Value.run (F := Ideal) m' g')
    obtain ⟨e0, e1, e2, e3, e4, e5, e6⟩ := hagree c
    rw [Cert.ExpertsReferenceIdeal.Read.val_main_v62_eq, e0, e1, e2, e3, e4, e5, e6]
    funext i
    obtain ⟨R, d, rfl⟩ : ∃ (R : Fin 176128) (d : Fin 1024), i = ix2 R d := ⟨_, _, eq_ix2 (n0 := 176128) (n1 := 1024) i⟩
    refine Cert.ExpertReference.result_at _ (Cert.Experts.Result.arrs m c) (fun n => ?_) R d
    obtain rfl : c = 0 := Subsingleton.elim _ _
    have e := hr.expert n
    unfold Cert.Experts.Tables.expert at e
    rw [Cert.Experts.Routed.table_experts] at e
    exact e

end Cert.ExpertsEqual

end
-- ==== Proof.RowSpec.lean ====
/- Two pieces of the layer on the extended reals that several of its calls share: a row's modulated norm, and the rows of the modulation. -/
module

public import Idealize.ShloMosaic.PureOps.Ideal
public import Idealize.ShloMosaic.Lib.Pointwise

@[expose] public section

noncomputable section

namespace Cert.RowSpec

open Idealize.ShloMosaic

/-- The reciprocal of the root of a row's mean square, kept off zero; `count` is the word of the row's length. -/
def rowInv {n : ℕ} (count : BitVec 32) (x : Fin n → EReal) : EReal :=
  Ideal.rsqrt (Ideal.div (∑ k : Fin n, x k * x k) (Ideal.ofBits .f32 count) + Ideal.ofBits .f32 0x358637BD#32)

/-- A row of 1024 entries, normed, weighted by `g`, scaled by `1 + sc` and shifted by `sh`. -/
def modulated (x g sc sh : Fin 1024 → EReal) (d : Fin 1024) : EReal :=
  x d * rowInv 0x44800000#32 x * g d * (1 + sc d) + sh d

/-- Row `k` of the six rows that modulate frame `f`. -/
def modRow (mod : (⟨3, ![16, 1, 6144]⟩ : Shape).Idx → EReal) (k : Fin 6) (f : Fin 8) (d : Fin 1024) : EReal :=
  mod (ix3 ⟨f.val, by omega⟩ 0 ⟨k.val * 1024 + d.val, by omega⟩)

/-- The frame of a token. -/
abbrev frameOf (N : Fin 32768) : Fin 8 := ⟨N.val / 4096, by omega⟩

/-- Token `p` of frame `f`. -/
abbrev token (f : Fin 8) (p : Fin 4096) : Fin 32768 := ⟨f.val * 4096 + p.val, by omega⟩

/-- Its frame is `f`. -/
theorem frame_token (f : Fin 8) (p : Fin 4096) : frameOf (token f p) = f := Fin.ext (by dsimp only; omega)

/-- A token is the token of its frame and of its place in the frame. -/
theorem token_eq (N : Fin 32768) : token (frameOf N) ⟨N.val % 4096, Nat.mod_lt _ (by decide)⟩ = N := Fin.ext (by dsimp only; omega)

/-- An entry of a matrix by its coordinates, -/
theorem at2 {α : Type} {n0 n1 : ℕ} (x : (⟨2, ![n0, n1]⟩ : Shape).Idx → α) (i : (⟨2, ![n0, n1]⟩ : Shape).Idx) (a : Fin n0) (b : Fin n1)
    (h0 : (i 0).val = a.val) (h1 : (i 1).val = b.val) : x i = x (ix2 a b) := by
  refine congrArg x (funext fun k => ?_)
  match k with
  | ⟨0, _⟩ => exact Fin.ext h0
  | ⟨1, _⟩ => exact Fin.ext h1

/-- and an entry of a stack of matrices. -/
theorem at3 {α : Type} {n0 n1 n2 : ℕ} (x : (⟨3, ![n0, n1, n2]⟩ : Shape).Idx → α) (i : (⟨3, ![n0, n1, n2]⟩ : Shape).Idx)
    (a : Fin n0) (b : Fin n1) (c : Fin n2) (h0 : (i 0).val = a.val) (h1 : (i 1).val = b.val) (h2 : (i 2).val = c.val) :
    x i = x (ix3 a b c) := by
  refine congrArg x (funext fun k => ?_)
  match k with
  | ⟨0, _⟩ => exact Fin.ext h0
  | ⟨1, _⟩ => exact Fin.ext h1
  | ⟨2, _⟩ => exact Fin.ext h2

end Cert.RowSpec

end
-- ==== Proof.MergeSpec.lean ====
/- The merge of the two attention branches on the extended reals, elementwise: the residual stream after it, and its modulated norm. -/
module

public import proofs.«01_k».proof.Proof.RowSpec

@[expose] public section

noncomputable section

namespace Cert.MergeSpec

open Idealize.ShloMosaic Cert.RowSpec

/-- The arrays: the two branches' outputs, their gates, the tokens, the modulation, the branches' and the output's weights, the norm's weight. -/
structure Arrays where
  oa : (⟨2, ![512, 32768]⟩ : Shape).Idx → EReal
  ob : (⟨2, ![512, 32768]⟩ : Shape).Idx → EReal
  sa : (⟨2, ![32768, 1024]⟩ : Shape).Idx → EReal
  sb : (⟨2, ![32768, 1024]⟩ : Shape).Idx → EReal
  x : (⟨2, ![32768, 1024]⟩ : Shape).Idx → EReal
  mod : (⟨3, ![16, 1, 6144]⟩ : Shape).Idx → EReal
  wa : (⟨2, ![512, 1024]⟩ : Shape).Idx → EReal
  wb : (⟨2, ![512, 1024]⟩ : Shape).Idx → EReal
  wo : (⟨2, ![1024, 1024]⟩ : Shape).Idx → EReal
  g : (⟨2, ![1, 1024]⟩ : Shape).Idx → EReal

variable (A : Arrays)

/-- The gated sum of the two branches' projections of token `N`. -/
def mixed (N : Fin 32768) (e : Fin 1024) : EReal :=
  A.sa (ix2 N e) * ∑ r : Fin 512, A.oa (ix2 r N) * A.wa (ix2 r e) + A.sb (ix2 N e) * ∑ r : Fin 512, A.ob (ix2 r N) * A.wb (ix2 r e)

/-- The token after the merge. -/
def merged (N : Fin 32768) (d : Fin 1024) : EReal :=
  A.x (ix2 N d) + modRow A.mod 2 (frameOf N) d * ∑ e : Fin 1024, mixed A N e * A.wo (ix2 e d)

/-- Its modulated norm. -/
def normed (N : Fin 32768) (d : Fin 1024) : EReal :=
  modulated (merged A N) (fun d => A.g (ix2 0 d)) (modRow A.mod 4 (frameOf N)) (modRow A.mod 3 (frameOf N)) d

end Cert.MergeSpec

end
-- ==== Proof.MergeBlock.lean ====
/- What one point of the merge makes of its blocks: the tokens after the merge, and their modulated norm. -/
module

public import proofs.«01_k».proof.Proof.RowSpec
public import proofs.«01_k».proof.Proof.Gen.MergeIdeal.Skeleton
public import Idealize.ShloMosaic.Lib.Pipeline.ValueKit
public import Idealize.ShloMosaic.Lib.Pointwise

@[expose] public section

set_option maxRecDepth 16384

noncomputable section

namespace Cert.MergeBlock

open Cert.MergeIdeal Cert.MergeIdeal.Gen Idealize.ShloMosaic Cert.RowSpec

variable (oa ob : Vec Ideal S512x256 .bf16) (wa wb : Vec Ideal S512x1024 .bf16) (sa sb : Vec Ideal S256x1024 .bf16)
  (wo : Vec Ideal S1024x1024 .bf16) (x : Vec Ideal S256x1024 .f32) (gate : Vec Ideal S1x1x1024 .f32)

/-- The block's tokens after the merge. -/
def merged (n : Fin 256) (d : Fin 1024) : EReal :=
  x (ix2 n d) + gate (ix3 0 0 d) * ∑ e : Fin 1024,
    (sa (ix2 n e) * ∑ r : Fin 512, oa (ix2 r n) * wa (ix2 r e) + sb (ix2 n e) * ∑ r : Fin 512, ob (ix2 r n) * wb (ix2 r e)) * wo (ix2 e d)

/-- The first stored value. -/
theorem merged_at (n : Fin 256) (d : Fin 1024) :
    k0_pay7 (F := Ideal) oa wa ob wb sa sb wo x gate (ix2 n d) = merged oa ob wa wb sa sb wo x gate n d := by
  unfold merged
  pointwise [k0_pay7]

/-- Its rows' reciprocal roots. -/
theorem inv_at (n : Fin 256) (d : Fin 1024) :
    k0_pay8 (F := Ideal) oa wa ob wb sa sb wo x gate (ix2 n d) = rowInv 0x44800000#32 (merged oa ob wa wb sa sb wo x gate n) := by
  unfold rowInv
  simp only [← merged_at]
  pointwise [k0_pay8]

/-- The second stored value. -/
theorem normed_at (g : Vec Ideal S1x1024 .f32) (sc sh : Vec Ideal S1x1x1024 .f32) (n : Fin 256) (d : Fin 1024) :
    k0_pay10 (F := Ideal) (k0_pay7 oa wa ob wb sa sb wo x gate) (k0_pay8 oa wa ob wb sa sb wo x gate) g sc sh (ix2 n d)
      = modulated (merged oa ob wa wb sa sb wo x gate n) (fun d => g (ix2 0 d)) (fun d => sc (ix3 0 0 d)) (fun d => sh (ix3 0 0 d)) d := by
  unfold modulated
  rw [← inv_at oa ob wa wb sa sb wo x gate n d, ← merged_at]
  generalize k0_pay7 (F := Ideal) oa wa ob wb sa sb wo x gate = v
  generalize k0_pay8 (F := Ideal) oa wa ob wb sa sb wo x gate = r
  pointwise [k0_pay10, k0_pay9]

end Cert.MergeBlock

end
-- ==== Proof.MergeBlocks.lean ====
/- Which block of each array a point of the merge loads or writes, as arithmetic on the point's number: a point below the last works on
   its own block of 256 tokens, and the last on the block before it again. -/
module

public import proofs.«01_k».proof.Proof.Gen.MergeIdeal
public import Idealize.ShloMosaic.Lib.Pipeline.ValueKit

@[expose] public section

set_option maxRecDepth 16384

noncomputable section

namespace Cert.MergeBlocks

open Cert.MergeIdeal Cert.MergeIdeal.Gen Idealize.ShloMosaic Idealize.ShloMosaic.TcCoe Idealize.SL.Sem

/-- The branches' outputs: columns of the block's tokens. -/
theorem oa_index : ∀ t : Fin cfg0.N, win0_0.index t = ![0, min t.val 127] := by decide +kernel
theorem ob_index : ∀ t : Fin cfg0.N, win0_1.index t = ![0, min t.val 127] := by decide +kernel
/-- The gates and the tokens: rows of the block's tokens. -/
theorem sa_index : ∀ t : Fin cfg0.N, win0_2.index t = ![min t.val 127, 0] := by decide +kernel
theorem sb_index : ∀ t : Fin cfg0.N, win0_3.index t = ![min t.val 127, 0] := by decide +kernel
theorem x_index : ∀ t : Fin cfg0.N, win0_4.index t = ![min t.val 127, 0] := by decide +kernel
/-- The modulation: the frame's gate, shift and scale. -/
theorem gate_index : ∀ t : Fin cfg0.N, win0_5.index t = ![min t.val 127 / 16, 0, 2] := by decide +kernel
theorem shift_index : ∀ t : Fin cfg0.N, win0_6.index t = ![min t.val 127 / 16, 0, 3] := by decide +kernel
theorem scale_index : ∀ t : Fin cfg0.N, win0_7.index t = ![min t.val 127 / 16, 0, 4] := by decide +kernel
/-- The weights: whole. -/
theorem wa_index : ∀ t : Fin cfg0.N, win0_8.index t = ![0, 0] := by decide +kernel
theorem wb_index : ∀ t : Fin cfg0.N, win0_9.index t = ![0, 0] := by decide +kernel
theorem wo_index : ∀ t : Fin cfg0.N, win0_10.index t = ![0, 0] := by decide +kernel
theorem g_index : ∀ t : Fin cfg0.N, win0_11.index t = ![0, 0] := by decide +kernel
/-- The two results: rows of the block's tokens. -/
theorem merged_index : ∀ t : Fin cfg0.N, win0_16.index t = ![min t.val 127, 0] := by decide +kernel
theorem normed_index : ∀ t : Fin cfg0.N, win0_17.index t = ![min t.val 127, 0] := by decide +kernel

/-- The blocks written back cover the two results. -/
theorem merged_covers : (cfg0.win 16).Covers := by decide +kernel
theorem normed_covers : (cfg0.win 17).Covers := by decide +kernel

end Cert.MergeBlocks

end
-- ==== Proof.MergeResult.lean ====
/- The merge's two result arrays: each block is written from the blocks of its own tokens, and the blocks cover the arrays. -/
module

public import proofs.«01_k».proof.Proof.MergeSpec
public import proofs.«01_k».proof.Proof.MergeBlock
public import proofs.«01_k».proof.Proof.MergeBlocks
public import proofs.«01_k».proof.Proof.Gen.MergeIdeal.Value
public import Idealize.ShloMosaic.Lib.Pipeline.ReadBack

@[expose] public section

set_option maxRecDepth 16384

noncomputable section

namespace Cert.MergeResult

open Cert.MergeIdeal Cert.MergeIdeal.Gen Cert.MergeBlocks Idealize.ShloMosaic Idealize.ShloMosaic.TcCoe Idealize.SL.Sem Cert.RowSpec

variable (m : (ℓ : Loc nD τ sig) → Buf (Elt Ideal) ℓ)

/-- The arrays at launch. -/
def arrays (c : Dev nD) : MergeSpec.Arrays where
  oa := m ((c : Thread nD τ).loc main_arg0)
  ob := m ((c : Thread nD τ).loc main_arg1)
  sa := m ((c : Thread nD τ).loc main_arg2)
  sb := m ((c : Thread nD τ).loc main_arg3)
  x := m ((c : Thread nD τ).loc main_arg4)
  mod := m ((c : Thread nD τ).loc main_arg5)
  wa := m ((c : Thread nD τ).loc main_arg6)
  wb := m ((c : Thread nD τ).loc main_arg7)
  wo := m ((c : Thread nD τ).loc main_arg8)
  g := m ((c : Thread nD τ).loc main_arg9)

/-- The blocks a point loads. -/
abbrev oaBlk (c : Dev nD) (t : Fin cfg0.N) : Vec Ideal S512x256 .bf16 := iblk m c 0 t
abbrev obBlk (c : Dev nD) (t : Fin cfg0.N) : Vec Ideal S512x256 .bf16 := iblk m c 1 t
abbrev saBlk (c : Dev nD) (t : Fin cfg0.N) : Vec Ideal S256x1024 .bf16 := iblk m c 2 t
abbrev sbBlk (c : Dev nD) (t : Fin cfg0.N) : Vec Ideal S256x1024 .bf16 := iblk m c 3 t
abbrev xBlk (c : Dev nD) (t : Fin cfg0.N) : Vec Ideal S256x1024 .f32 := iblk m c 4 t
abbrev gateBlk (c : Dev nD) (t : Fin cfg0.N) : Vec Ideal S1x1x1024 .f32 := iblk m c 5 t
abbrev shiftBlk (c : Dev nD) (t : Fin cfg0.N) : Vec Ideal S1x1x1024 .f32 := iblk m c 6 t
abbrev scaleBlk (c : Dev nD) (t : Fin cfg0.N) : Vec Ideal S1x1x1024 .f32 := iblk m c 7 t
abbrev waBlk (c : Dev nD) (t : Fin cfg0.N) : Vec Ideal S512x1024 .bf16 := iblk m c 8 t
abbrev wbBlk (c : Dev nD) (t : Fin cfg0.N) : Vec Ideal S512x1024 .bf16 := iblk m c 9 t
abbrev woBlk (c : Dev nD) (t : Fin cfg0.N) : Vec Ideal S1024x1024 .bf16 := iblk m c 10 t
abbrev gBlk (c : Dev nD) (t : Fin cfg0.N) : Vec Ideal S1x1024 .f32 := iblk m c 11 t

/-- The grid has 129 points. -/
theorem point_lt (t : Fin cfg0.N) : t.val < 129 := lt_of_lt_of_eq t.isLt N_0

variable {m} {c : Dev nD} (t : Fin cfg0.N) (n : Fin 256) (N : Fin 32768) (hN : N.val = min t.val 127 * 256 + n.val)
include hN

/-- An entry of a block is the array's entry at the block's place: `N` is the token of row `n` of the block. -/
theorem oa_at (r : Fin 512) : oaBlk m c t (ix2 r n) = (arrays m c).oa (ix2 r N) := by
  have := point_lt t
  unfold oaBlk iblk
  rw [show V m c (Pipeline.arrRef spec0 0) = (arrays m c).oa from V_main_arg0 m c]
  blk_ext [oa_index t]

theorem ob_at (r : Fin 512) : obBlk m c t (ix2 r n) = (arrays m c).ob (ix2 r N) := by
  have := point_lt t
  unfold obBlk iblk
  rw [show V m c (Pipeline.arrRef spec0 1) = (arrays m c).ob from V_main_arg1 m c]
  blk_ext [ob_index t]

theorem sa_at (d : Fin 1024) : saBlk m c t (ix2 n d) = (arrays m c).sa (ix2 N d) := by
  have := point_lt t
  unfold saBlk iblk
  rw [show V m c (Pipeline.arrRef spec0 2) = (arrays m c).sa from V_main_arg2 m c]
  blk_ext [sa_index t]

theorem sb_at (d : Fin 1024) : sbBlk m c t (ix2 n d) = (arrays m c).sb (ix2 N d) := by
  have := point_lt t
  unfold sbBlk iblk
  rw [show V m c (Pipeline.arrRef spec0 3) = (arrays m c).sb from V_main_arg3 m c]
  blk_ext [sb_index t]

theorem x_at (d : Fin 1024) : xBlk m c t (ix2 n d) = (arrays m c).x (ix2 N d) := by
  have := point_lt t
  unfold xBlk iblk
  rw [show V m c (Pipeline.arrRef spec0 4) = (arrays m c).x from V_main_arg4 m c]
  blk_ext [x_index t]

theorem gate_at (d : Fin 1024) : gateBlk m c t (ix3 0 0 d) = modRow (arrays m c).mod 2 (frameOf N) d := by
  have := point_lt t
  unfold gateBlk iblk modRow frameOf
  rw [show V m c (Pipeline.arrRef spec0 5) = (arrays m c).mod from V_main_arg5 m c]
  blk_ext [gate_index t]

theorem shift_at (d : Fin 1024) : shiftBlk m c t (ix3 0 0 d) = modRow (arrays m c).mod 3 (frameOf N) d := by
  have := point_lt t
  unfold shiftBlk iblk modRow frameOf
  rw [show V m c (Pipeline.arrRef spec0 6) = (arrays m c).mod from V_main_arg5 m c]
  blk_ext [shift_index t]

theorem scale_at (d : Fin 1024) : scaleBlk m c t (ix3 0 0 d) = modRow (arrays m c).mod 4 (frameOf N) d := by
  have := point_lt t
  unfold scaleBlk iblk modRow frameOf
  rw [show V m c (Pipeline.arrRef spec0 7) = (arrays m c).mod from V_main_arg5 m c]
  blk_ext [scale_index t]

omit hN

/-- The weights' blocks are the weights. -/
theorem wa_at (r : Fin 512) (d : Fin 1024) : waBlk m c t (ix2 r d) = (arrays m c).wa (ix2 r d) := by
  have := point_lt t
  unfold waBlk iblk
  rw [show V m c (Pipeline.arrRef spec0 8) = (arrays m c).wa from V_main_arg6 m c]
  blk_ext [wa_index t]

theorem wb_at (r : Fin 512) (d : Fin 1024) : wbBlk m c t (ix2 r d) = (arrays m c).wb (ix2 r d) := by
  have := point_lt t
  unfold wbBlk iblk
  rw [show V m c (Pipeline.arrRef spec0 9) = (arrays m c).wb from V_main_arg7 m c]
  blk_ext [wb_index t]

theorem wo_at (e d : Fin 1024) : woBlk m c t (ix2 e d) = (arrays m c).wo (ix2 e d) := by
  have := point_lt t
  unfold woBlk iblk
  rw [show V m c (Pipeline.arrRef spec0 10) = (arrays m c).wo from V_main_arg8 m c]
  blk_ext [wo_index t]

theorem g_at (d : Fin 1024) : gBlk m c t (ix2 0 d) = (arrays m c).g (ix2 0 d) := by
  have := point_lt t
  unfold gBlk iblk
  rw [show V m c (Pipeline.arrRef spec0 11) = (arrays m c).g from V_main_arg9 m c]
  blk_ext [g_index t]

include hN

/-- The tokens a point makes of its blocks are the merge's at the block's place, -/
theorem merged_block : MergeBlock.merged (oaBlk m c t) (obBlk m c t) (waBlk m c t) (wbBlk m c t) (saBlk m c t) (sbBlk m c t) (woBlk m c t)
    (xBlk m c t) (gateBlk m c t) n = MergeSpec.merged (arrays m c) N := by
  funext d
  unfold MergeBlock.merged MergeSpec.merged MergeSpec.mixed
  simp only [oa_at t n N hN, ob_at t n N hN, sa_at t n N hN, sb_at t n N hN, x_at t n N hN, gate_at t n N hN, wa_at, wb_at, wo_at]

/-- and so are their modulated norms. -/
theorem normed_block (d : Fin 1024) :
    modulated (MergeBlock.merged (oaBlk m c t) (obBlk m c t) (waBlk m c t) (wbBlk m c t) (saBlk m c t) (sbBlk m c t) (woBlk m c t)
      (xBlk m c t) (gateBlk m c t) n) (fun d => gBlk m c t (ix2 0 d)) (fun d => scaleBlk m c t (ix3 0 0 d))
      (fun d => shiftBlk m c t (ix3 0 0 d)) d = MergeSpec.normed (arrays m c) N d := by
  unfold MergeSpec.normed
  rw [merged_block t n N hN]
  simp only [shift_at t n N hN, scale_at t n N hN, g_at]

/-- The first block a point writes: the merge of its tokens. -/
theorem first_at (d : Fin 1024) : (outsAt0 m c t.val t.isLt).1 (ix2 n d) = MergeSpec.merged (arrays m c) N d := by
  have := point_lt t
  refine Eq.trans ?_ (congrFun (merged_block t n N hN) d)
  rw [← MergeBlock.merged_at]
  by_cases h1 : t.val % 2 = 0
  · have h2 : ¬t.val % 2 = 1 := by omega
    by_cases h0 : t.val % 129 = 0
    · rw [outsAt0_A m c t h0 h1 h2]
      frame_out
    · rw [outsAt0_C m c t h0 h1 h2]
      frame_out
  · have h2 : t.val % 2 = 1 := by omega
    have h0 : ¬t.val % 129 = 0 := by omega
    rw [outsAt0_B m c t h0 h1 h2]
    frame_out
    rfl

/-- The second: its modulated norm. -/
theorem second_at (d : Fin 1024) : (outsAt0 m c t.val t.isLt).2.1 (ix2 n d) = MergeSpec.normed (arrays m c) N d := by
  have := point_lt t
  refine Eq.trans ?_ (normed_block t n N hN d)
  rw [← MergeBlock.normed_at]
  by_cases h1 : t.val % 2 = 0
  · have h2 : ¬t.val % 2 = 1 := by omega
    by_cases h0 : t.val % 129 = 0
    · rw [outsAt0_A m c t h0 h1 h2]
      frame_out
    · rw [outsAt0_C m c t h0 h1 h2]
      frame_out
  · have h2 : t.val % 2 = 1 := by omega
    have h0 : ¬t.val % 129 = 0 := by omega
    rw [outsAt0_B m c t h0 h1 h2]
    frame_out
    rfl

omit hN

/-- The first result array. -/
theorem first : (dats m 0 c).arrAt 16 cfg0.N = fun i => MergeSpec.merged (arrays m c) (i 0) (i 1) := by
  refine (dats m 0 c).arrAt_eq_of_covers 16 _ merged_covers fun t hf y => ?_
  blk_simp
  rw [after0_16]
  rw [show y = ix2 (n0 := 256) (n1 := 1024) (y 0) (y 1) from eq_ix2 (n0 := 256) (n1 := 1024) y]
  refine (first_at t (y 0) ((win0_16.blk t).view.emb (ix2 (y 0) (y 1)) 0) ?_ (y 1)).trans (congrArg (MergeSpec.merged (arrays m c) ((win0_16.blk t).view.emb (ix2 (y 0) (y 1)) 0)) (Fin.ext ?_))
  · blk_simp [merged_index t]
  · blk_simp [merged_index t]

/-- The second. -/
theorem second : (dats m 0 c).arrAt 17 cfg0.N = fun i => MergeSpec.normed (arrays m c) (i 0) (i 1) := by
  refine (dats m 0 c).arrAt_eq_of_covers 17 _ normed_covers fun t hf y => ?_
  blk_simp
  rw [after0_17]
  rw [show y = ix2 (n0 := 256) (n1 := 1024) (y 0) (y 1) from eq_ix2 (n0 := 256) (n1 := 1024) y]
  refine (second_at t (y 0) ((win0_17.blk t).view.emb (ix2 (y 0) (y 1)) 0) ?_ (y 1)).trans (congrArg (MergeSpec.normed (arrays m c) ((win0_17.blk t).view.emb (ix2 (y 0) (y 1)) 0)) (Fin.ext ?_))
  · blk_simp [normed_index t]
  · blk_simp [normed_index t]

end Cert.MergeResult

end
-- ==== Proof.MergeReference.lean ====
/- The merge's reference read at an index: its two results are the arrays of `MergeSpec`. -/
module

public import proofs.«01_k».proof.Proof.MergeSpec
public import proofs.«01_k».proof.Proof.Gen.MergeReferenceIdeal.Read
public import Idealize.ShloMosaic.Lib.Pointwise

@[expose] public section

set_option maxRecDepth 16384

noncomputable section

namespace Cert.MergeReference

open Cert.MergeReferenceIdeal Cert.MergeReferenceIdeal.Gen Cert.MergeReferenceIdeal.Read Idealize.ShloMosaic Cert.RowSpec Cert.MergeSpec

variable (A : Arrays)

/-- The reference's six modulation rows of a frame, -/
theorem rows_at (mod : (⟨3, ![16, 1, 6144]⟩ : Shape).Idx → EReal) (f : Fin 8) (k : Fin 6) (d : Fin 1024) :
    val_main_v2 (F := Ideal) mod (ix3 f k d) = modRow mod k f d := by
  rw [val_main_v2_apply, val_main_v1_apply, val_main_v0_apply]
  have hf := f.isLt
  have hk := k.isLt
  have hd := d.isLt
  refine at3 mod _ _ _ _ ?_ ?_ ?_ <;> simp only [ix3] <;> dsimp <;> omega

/-- of which it takes the gate, -/
theorem gate_at (f : Fin 8) (d : Fin 1024) : val_main_v5 (F := Ideal) A.mod (ix3 f 0 d) = modRow A.mod 2 f d := by
  rw [← rows_at]
  pointwise [val_main_v5, val_main_v4, val_main_v3]

/-- the shift -/
theorem shift_at (f : Fin 8) (d : Fin 1024) : val_main_v8 (F := Ideal) A.mod (ix3 f 0 d) = modRow A.mod 3 f d := by
  rw [← rows_at]
  pointwise [val_main_v8, val_main_v7, val_main_v6]

/-- and the scale. -/
theorem scale_at (f : Fin 8) (d : Fin 1024) : val_main_v11 (F := Ideal) A.mod (ix3 f 0 d) = modRow A.mod 4 f d := by
  rw [← rows_at]
  pointwise [val_main_v11, val_main_v10, val_main_v9]

/-- The reference's tokens after the merge. -/
theorem merged_at (f : Fin 8) (p : Fin 4096) (d : Fin 1024) :
    val_main_v31 (F := Ideal) A.oa A.ob A.sa A.sb A.x A.mod A.wa A.wb A.wo (ix3 f p d) = merged A (token f p) d := by
  unfold merged mixed
  rw [frame_token, ← gate_at]
  pointwise [val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v13, val_main_v12]

/-- The reference's reciprocal roots. -/
theorem inv_at (f : Fin 8) (p : Fin 4096) :
    val_main_v39 (F := Ideal) A.oa A.ob A.sa A.sb A.x A.mod A.wa A.wb A.wo (ix3 f p 0) = rowInv 0x44800000#32 (merged A (token f p)) := by
  unfold rowInv
  simp only [← merged_at]
  pointwise [val_main_v39, val_main_v38, val_main_v37, val_main_v36, val_main_v35, val_main_v34, val_main_v33, val_main_v32, val_main_cst,
    val_main_cst_0, val_main_cst_1]

/-- The reference's modulated norm. -/
theorem normed_at (f : Fin 8) (p : Fin 4096) (d : Fin 1024) :
    val_main_v50 (F := Ideal) A.oa A.ob A.sa A.sb A.x A.mod A.wa A.wb A.wo A.g (ix3 f p d) = normed A (token f p) d := by
  unfold normed modulated
  rw [frame_token, ← inv_at, ← merged_at, ← scale_at, ← shift_at]
  pointwise [val_main_v50, val_main_v49, val_main_v48, val_main_v47, val_main_v46, val_main_v45, val_main_v44, val_main_v43, val_main_v42,
    val_main_v41, val_main_v40, val_main_cst_2]

/-- The first result. -/
theorem first (N : Fin 32768) (d : Fin 1024) :
    val_main_v51 (F := Ideal) A.oa A.ob A.sa A.sb A.x A.mod A.wa A.wb A.wo (ix2 N d) = merged A N d := by
  conv_rhs => rw [← token_eq N, ← merged_at]
  pointwise [val_main_v51]

/-- The second. -/
theorem second (N : Fin 32768) (d : Fin 1024) :
    val_main_v53 (F := Ideal) A.oa A.ob A.sa A.sb A.x A.mod A.wa A.wb A.wo A.g (ix2 N d) = normed A N d := by
  conv_rhs => rw [← token_eq N, ← normed_at]
  pointwise [val_main_v53, val_main_v52]

end Cert.MergeReference

end
-- ==== Proof.MergeEqual.lean ====
/- The merge: its kernel and its reference end with the same two results. -/
module

public import proofs.«01_k».proof.Defs
public import proofs.«01_k».proof.Proof.MergeResult
public import proofs.«01_k».proof.Proof.MergeReference
public import proofs.«01_k».proof.Proof.Gen.MergeIdeal.Value
public import proofs.«01_k».proof.Proof.Gen.MergeReferenceIdeal.Run
public import Idealize.ShloMosaic.Adequacy
public import Idealize.ShloMosaic.Init

@[expose] public section

set_option maxRecDepth 16384

noncomputable section

namespace Cert.MergeEqual

open Idealize.ShloMosaic Idealize.SL.Sem

attribute [local instance] Cert.MergeIdeal.Gen.facts Cert.MergeReferenceIdeal.Gen.facts

/-- The reference leaves its arguments unchanged; it declares no semaphore. -/
theorem frame_reference : Cert.quiescent_MergeReferenceIdeal := fun m ρ _ =>
  (θ_run Cert.MergeReferenceIdeal.defs _ _).mono
    (fun r h => ⟨fun c => (h c).2.2, Idealize.ShloMosaic.sem_eq_zero_of_no_sems (by decide) r.2⟩)
    (Cert.MergeReferenceIdeal.Value.run (F := Ideal) m ρ)

/-- The merge, kernel against reference. -/
theorem merge : Cert.algebraic_MergeIdeal_MergeReferenceIdeal := by
  intro m ρ m' ρ' _ hagree
  refine ⟨fun c i => MergeSpec.merged (MergeResult.arrays m c) (i 0) (i 1), fun c i => MergeSpec.normed (MergeResult.arrays m c) (i 0) (i 1), ?_, ?_⟩
  · refine (θ_run Cert.MergeIdeal.defs _ _).mono (fun r h c => ?_) (Cert.MergeIdeal.Value.run_blocks m ρ)
    obtain ⟨h0, h1, -, -, -, h⟩ := h c
    exact ⟨h0.trans MergeResult.first, h1.trans MergeResult.second, h⟩
  · refine (θ_run Cert.MergeReferenceIdeal.defs _ _).mono (fun r h c => ⟨(h c).1.trans ?_, (h c).2.1.trans ?_, (h c).2.2⟩)
      (Cert.MergeReferenceIdeal.Value.run (F := Ideal) m' ρ')
    · obtain ⟨e0, e1, e2, e3, e4, e5, e6, e7, e8, -⟩ := hagree c
      rw [Cert.MergeReferenceIdeal.Read.val_main_v51_eq, e0, e1, e2, e3, e4, e5, e6, e7, e8]
      funext i
      obtain ⟨N, d, rfl⟩ : ∃ (N : Fin 32768) (d : Fin 1024), i = ix2 N d := ⟨_, _, eq_ix2 (n0 := 32768) (n1 := 1024) i⟩
      exact MergeReference.first (MergeResult.arrays m c) N d
    · obtain ⟨e0, e1, e2, e3, e4, e5, e6, e7, e8, e9, -⟩ := hagree c
      rw [Cert.MergeReferenceIdeal.Read.val_main_v53_eq, e0, e1, e2, e3, e4, e5, e6, e7, e8, e9]
      funext i
      obtain ⟨N, d, rfl⟩ : ∃ (N : Fin 32768) (d : Fin 1024), i = ix2 N d := ⟨_, _, eq_ix2 (n0 := 32768) (n1 := 1024) i⟩
      exact MergeReference.second (MergeResult.arrays m c) N d

end Cert.MergeEqual

end
-- ==== Proof.ProjectionSpec.lean ====
/- Four of the projections on the extended reals, elementwise: the values of the two attention branches, and the branches' gates. -/
module

public import proofs.«01_k».proof.Proof.RowSpec

@[expose] public section

noncomputable section

namespace Cert.ProjectionSpec

open Idealize.ShloMosaic Cert.RowSpec

/-- The arrays: the tokens, the modulation, the norm's weight, the input weights, the latent norm's weight, the value weights. -/
structure Arrays where
  x : (⟨2, ![32768, 1024]⟩ : Shape).Idx → EReal
  mod : (⟨3, ![16, 1, 6144]⟩ : Shape).Idx → EReal
  g : (⟨2, ![1, 1024]⟩ : Shape).Idx → EReal
  w : (⟨2, ![1024, 3456]⟩ : Shape).Idx → EReal
  gl : (⟨2, ![1, 256]⟩ : Shape).Idx → EReal
  wl : (⟨2, ![512, 256]⟩ : Shape).Idx → EReal
  ws : (⟨2, ![128, 1024]⟩ : Shape).Idx → EReal

variable (A : Arrays)

/-- The modulated norm of token `N`. -/
def hiddenRow (N : Fin 32768) (d : Fin 1024) : EReal :=
  modulated (fun d => A.x (ix2 N d)) (fun d => A.g (ix2 0 d)) (modRow A.mod 1 (frameOf N)) (modRow A.mod 0 (frameOf N)) d

/-- Its product with column `j` of the input weights. -/
def column (N : Fin 32768) (j : Fin 3456) : EReal := ∑ k : Fin 1024, hiddenRow A N k * A.w (ix2 k j)

/-- The latent row: the first 256 columns, normed and weighted. -/
def latent (N : Fin 32768) (j : Fin 256) : EReal :=
  column A N ⟨j.val, by omega⟩ * rowInv 0x43800000#32 (fun j : Fin 256 => column A N ⟨j.val, by omega⟩) * A.gl (ix2 0 j)

/-- The values of the latent branch and of the window branch, at row `r`. -/
def latentValue (r : Fin 512) (N : Fin 32768) : EReal := ∑ j : Fin 256, latent A N j * A.wl (ix2 r j)
def windowValue (r : Fin 128) (N : Fin 32768) : EReal := ∑ k : Fin 1024, hiddenRow A N k * A.ws (ix2 r k)

/-- The gates of the two branches. -/
def latentGate (N : Fin 32768) (d : Fin 1024) : EReal := Ideal.logistic (column A N ⟨1408 + d.val, by omega⟩)
def windowGate (N : Fin 32768) (d : Fin 1024) : EReal := Ideal.logistic (column A N ⟨2432 + d.val, by omega⟩)

end Cert.ProjectionSpec

end
-- ==== Proof.ProjectionBlock.lean ====
/- What one point of the projections makes of its blocks: the values of the two branches and their gates. -/
module

public import proofs.«01_k».proof.Proof.RowSpec
public import proofs.«01_k».proof.Proof.Gen.Projection.Skeleton
public import Idealize.ShloMosaic.Lib.Pipeline.ValueKit
public import Idealize.ShloMosaic.Lib.Pointwise

@[expose] public section

set_option maxRecDepth 16384

noncomputable section

namespace Cert.ProjectionBlock

open Cert.Projection Cert.Projection.Gen Idealize.ShloMosaic Cert.RowSpec

variable (x : Vec Ideal S512x1024 .f32) (g : Vec Ideal S1x1024 .f32) (sc sh : Vec Ideal S1x1x1024 .f32) (w : Vec Ideal S1024x3456 .bf16)

/-- The block's modulated norms, -/
def hiddenRow (n : Fin 512) (d : Fin 1024) : EReal :=
  modulated (fun d => x (ix2 n d)) (fun d => g (ix2 0 d)) (fun d => sc (ix3 0 0 d)) (fun d => sh (ix3 0 0 d)) d

/-- and their products with the columns of the input weights. -/
def column (n : Fin 512) (j : Fin 3456) : EReal := ∑ k : Fin 1024, hiddenRow x g sc sh n k * w (ix2 k j)

/-- The norms the point forms -/
theorem hidden_at (n : Fin 512) (d : Fin 1024) : k0_pay2 (F := Ideal) x g sc sh (ix2 n d) = hiddenRow x g sc sh n d := by
  unfold hiddenRow modulated rowInv
  pointwise [k0_pay2]

/-- and the products. -/
theorem column_at (n : Fin 512) (j : Fin 3456) : k0_pay3 (F := Ideal) x g sc sh w (ix2 n j) = column x g sc sh w n j := by
  unfold column
  simp only [← hidden_at]
  pointwise [k0_pay3]

/-- The latent rows of a block of products. -/
theorem latent_at (y : FVec Ideal S512x3456 .f32) (gl : Vec Ideal S1x256 .f32) (n : Fin 512) (j : Fin 256) :
    k0_pay4 (F := Ideal) y gl (ix2 n j)
      = y (ix2 n ⟨j.val, by omega⟩) * rowInv 0x43800000#32 (fun j : Fin 256 => y (ix2 n ⟨j.val, by omega⟩)) * gl (ix2 0 j) := by
  unfold rowInv
  pointwise [k0_pay4]

/-- The latent values, -/
theorem latentValue_at (y : FVec Ideal S512x3456 .f32) (gl : Vec Ideal S1x256 .f32) (wl : Vec Ideal S512x256 .bf16) (r n : Fin 512) :
    k0_pay5 (F := Ideal) y gl wl (ix2 r n) = ∑ j : Fin 256, k0_pay4 (F := Ideal) y gl (ix2 n j) * wl (ix2 r j) := by
  simp only [mul_comm _ (wl _)]
  pointwise [k0_pay5]

/-- the window values, -/
theorem windowValue_at (ws : Vec Ideal S128x1024 .bf16) (r : Fin 128) (n : Fin 512) :
    k0_pay6 (F := Ideal) (k0_pay2 x g sc sh) ws (ix2 r n) = ∑ k : Fin 1024, hiddenRow x g sc sh n k * ws (ix2 r k) := by
  simp only [← hidden_at, mul_comm _ (ws _)]
  pointwise [k0_pay6]

/-- and the gates. -/
theorem latentGate_at (y : FVec Ideal S512x3456 .f32) (n : Fin 512) (d : Fin 1024) :
    k0_pay50 (F := Ideal) y (ix2 n d) = Ideal.logistic (y (ix2 n ⟨1408 + d.val, by omega⟩)) := by
  pointwise [k0_pay50]

theorem windowGate_at (y : FVec Ideal S512x3456 .f32) (n : Fin 512) (d : Fin 1024) :
    k0_pay1 (F := Ideal) (k0_pay51 y) (ix2 n d) = Ideal.logistic (y (ix2 n ⟨2432 + d.val, by omega⟩)) := by
  pointwise [k0_pay1, k0_pay51]

end Cert.ProjectionBlock

end
-- ==== Proof.ProjectionBlocks.lean ====
/- Which block of each array a point of the projections loads or writes: point `t` works on the 512 tokens from `512 t`. -/
module

public import proofs.«01_k».proof.Proof.Gen.Projection
public import Idealize.ShloMosaic.Lib.Pipeline.ValueKit

@[expose] public section

set_option maxRecDepth 16384

noncomputable section

namespace Cert.ProjectionBlocks

open Cert.Projection Cert.Projection.Gen Idealize.ShloMosaic Idealize.ShloMosaic.TcCoe Idealize.SL.Sem

/-- The tokens' rows; the shift and the scale of their frame. -/
theorem x_index : ∀ t : Fin cfg0.N, win0_0.index t = ![t.val, 0] := by decide +kernel
theorem shift_index : ∀ t : Fin cfg0.N, win0_1.index t = ![t.val / 8, 0, 0] := by decide +kernel
theorem scale_index : ∀ t : Fin cfg0.N, win0_2.index t = ![t.val / 8, 0, 1] := by decide +kernel
/-- The weights: whole. -/
theorem g_index : ∀ t : Fin cfg0.N, win0_3.index t = ![0, 0] := by decide +kernel
theorem w_index : ∀ t : Fin cfg0.N, win0_4.index t = ![0, 0] := by decide +kernel
theorem gl_index : ∀ t : Fin cfg0.N, win0_11.index t = ![0, 0] := by decide +kernel
theorem wl_index : ∀ t : Fin cfg0.N, win0_13.index t = ![0, 0] := by decide +kernel
theorem ws_index : ∀ t : Fin cfg0.N, win0_14.index t = ![0, 0] := by decide +kernel
/-- The results: the values by columns, the gates by rows. -/
theorem latentValue_index : ∀ t : Fin cfg0.N, win0_26.index t = ![0, t.val] := by decide +kernel
theorem windowValue_index : ∀ t : Fin cfg0.N, win0_28.index t = ![0, t.val] := by decide +kernel
theorem latentGate_index : ∀ t : Fin cfg0.N, win0_31.index t = ![t.val, 0] := by decide +kernel
theorem windowGate_index : ∀ t : Fin cfg0.N, win0_32.index t = ![t.val, 0] := by decide +kernel

/-- The blocks written back cover the results. -/
theorem latentValue_covers : (cfg0.win 26).Covers := by decide +kernel
theorem windowValue_covers : (cfg0.win 28).Covers := by decide +kernel
theorem latentGate_covers : (cfg0.win 31).Covers := by decide +kernel
theorem windowGate_covers : (cfg0.win 32).Covers := by decide +kernel

end Cert.ProjectionBlocks

end
-- ==== Proof.ProjectionRun.lean ====
/- The projection call's run: @main up to its region, the blocks each point loads, what each output's buffer holds after the body, and
   from these the run of the whole grid and the frame. Two of its steps unify terms of thirty-three windows and are given the time for it. -/
module

public import proofs.«01_k».proof.Proof.Gen.Projection.Launch
public import proofs.«01_k».proof.Proof.Gen.Projection.Skeleton
public import proofs.«01_k».proof.Proof.Gen.Projection.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.ProjectionRun

open Cert.Projection Cert.Projection.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for ANY proof
    data whose array is `V`'s (`hA`) and whose body leaves the block in place (`hafter`): `Dat.before_in_eq_fetched` (unfetched, the index has not moved), the window uncut and never idle. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, fetched there or not, for ANY proof
    data whose array is `V`'s (`hA`) and whose body leaves the block in place (`hafter`): `Dat.before_in_eq_fetched` (unfetched, the index has not moved), the window uncut and never idle. -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1980000 in
/-- THE FRAME from a frame run: for any proof data whose arrays are the region-entry contents (`hA`), a run to
    's `FramePost` read at the argument arrays — a staged input by the library's
    `Dat.arrAt_in`, an array no window stages by the post's second clause, each then by `V_…` — is the frame
    claim's post (`Cert.frame_Projection`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 3).trans (((dats 0 c).arrAt_in 3 rfl _).trans ((hA c 3).trans (V_main_arg2 m c))),
      ((h c).1 4).trans (((dats 0 c).arrAt_in 4 rfl _).trans ((hA c 4).trans (V_main_arg3 m c))),
      ((h c).1 5).trans (((dats 0 c).arrAt_in 5 rfl _).trans ((hA c 5).trans (V_main_arg4 m c))),
      ((h c).1 6).trans (((dats 0 c).arrAt_in 6 rfl _).trans ((hA c 6).trans (V_main_arg5 m c))),
      ((h c).1 7).trans (((dats 0 c).arrAt_in 7 rfl _).trans ((hA c 7).trans (V_main_arg6 m c))),
      ((h c).1 8).trans (((dats 0 c).arrAt_in 8 rfl _).trans ((hA c 8).trans (V_main_arg7 m c))),
      ((h c).1 9).trans (((dats 0 c).arrAt_in 9 rfl _).trans ((hA c 9).trans (V_main_arg8 m c))),
      ((h c).1 10).trans (((dats 0 c).arrAt_in 10 rfl _).trans ((hA c 10).trans (V_main_arg9 m c))),
      ((h c).1 11).trans (((dats 0 c).arrAt_in 11 rfl _).trans ((hA c 11).trans (V_main_arg10 m c))),
      ((h c).1 12).trans (((dats 0 c).arrAt_in 12 rfl _).trans ((hA c 12).trans (V_main_arg11 m c))),
      ((h c).1 13).trans (((dats 0 c).arrAt_in 13 rfl _).trans ((hA c 13).trans (V_main_arg12 m c))),
      ((h c).1 14).trans (((dats 0 c).arrAt_in 14 rfl _).trans ((hA c 14).trans (V_main_arg13 m c))),
      ((h c).1 15).trans (((dats 0 c).arrAt_in 15 rfl _).trans ((hA c 15).trans (V_main_arg14 m c))),
      ((h c).1 16).trans (((dats 0 c).arrAt_in 16 rfl _).trans ((hA c 16).trans (V_main_arg15 m c))),
      ((h c).1 21).trans (((dats 0 c).arrAt_in 21 rfl _).trans ((hA c 21).trans (V_main_arg16 m c))),
      ((h c).1 22).trans (((dats 0 c).arrAt_in 22 rfl _).trans ((hA c 22).trans (V_main_arg17 m c))),
      ((h c).1 23).trans (((dats 0 c).arrAt_in 23 rfl _).trans ((hA c 23).trans (V_main_arg18 m c))),
      ((h c).1 24).trans (((dats 0 c).arrAt_in 24 rfl _).trans ((hA c 24).trans (V_main_arg19 m c)))⟩) h

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1x1x1024 := Rect.unit (s := S1x1x1024) ![0, 0, 0] S1x1x1024.size inb_S1x1x1024_S1x1x1024_0_0_0
abbrev r0_3 : Rect S1024x3456 := Rect.unit (s := S1024x3456) ![0, 0] S1024x3456.size inb_S1024x3456_S1024x3456_0_0
abbrev r0_4 : Rect S512x128 := Rect.unit (s := S512x128) ![0, 0] S512x128.size inb_S512x128_S512x128_0_0
abbrev r0_5 : Rect S1x256 := Rect.unit (s := S1x256) ![0, 0] S1x256.size inb_S1x256_S1x256_0_0
abbrev r0_6 : Rect S256x1024 := Rect.unit (s := S256x1024) ![0, 0] S256x1024.size inb_S256x1024_S256x1024_0_0
abbrev r0_7 : Rect S512x256 := Rect.unit (s := S512x256) ![0, 0] S512x256.size inb_S512x256_S512x256_0_0
abbrev r0_8 : Rect S512x512 := Rect.unit (s := S512x512) ![0, 0] S512x512.size inb_S512x512_S512x512_0_0
abbrev r0_9 : Rect S128x1024 := Rect.unit (s := S128x1024) ![0, 0] S128x1024.size inb_S128x1024_S128x1024_0_0
abbrev r0_10 : Rect S128x512 := Rect.unit (s := S128x512) ![0, 0] S128x512.size inb_S128x512_S128x512_0_0
abbrev r0_11 : Rect S1024x128 := Rect.unit (s := S1024x128) ![0, 0] S1024x128.size inb_S1024x128_S1024x128_0_0
abbrev r0_12 : Rect S512x1024 := Rect.unit (s := S512x1024) ![0, 0] S512x128.size inb_S512x1024_S512x128_0_0
abbrev r0_13 : Rect S512x1024 := Rect.unit (s := S512x1024) ![0, 128] S512x128.size inb_S512x1024_S512x128_0_128
abbrev r0_14 : Rect S512x1024 := Rect.unit (s := S512x1024) ![0, 256] S512x128.size inb_S512x1024_S512x128_0_256
abbrev r0_15 : Rect S512x1024 := Rect.unit (s := S512x1024) ![0, 384] S512x128.size inb_S512x1024_S512x128_0_384
abbrev r0_16 : Rect S512x1024 := Rect.unit (s := S512x1024) ![0, 512] S512x128.size inb_S512x1024_S512x128_0_512
abbrev r0_17 : Rect S512x1024 := Rect.unit (s := S512x1024) ![0, 640] S512x128.size inb_S512x1024_S512x128_0_640
abbrev r0_18 : Rect S512x1024 := Rect.unit (s := S512x1024) ![0, 768] S512x128.size inb_S512x1024_S512x128_0_768
abbrev r0_19 : Rect S512x1024 := Rect.unit (s := S512x1024) ![0, 896] S512x128.size inb_S512x1024_S512x128_0_896
abbrev r0_20 : Rect S512x128 := Rect.unit (s := S512x128) ![0, 0] S128x128.size inb_S512x128_S128x128_0_0
abbrev r0_21 : Rect S256x512 := Rect.unit (s := S256x512) ![0, 0] S256x128.size inb_S256x512_S256x128_0_0
abbrev r0_22 : Rect S1x128 := Rect.unit (s := S1x128) ![0, 0] S1x128.size inb_S1x128_S1x128_0_0
abbrev r0_23 : Rect S1x384 := Rect.unit (s := S1x384) ![0, 0] S1x384.size inb_S1x384_S1x384_0_0
abbrev r0_24 : Rect S384x1024 := Rect.unit (s := S384x1024) ![0, 0] S384x1024.size inb_S384x1024_S384x1024_0_0
abbrev r0_25 : Rect S256x512 := Rect.unit (s := S256x512) ![0, 0] S256x512.size inb_S256x512_S256x512_0_0
abbrev r0_26 : Rect S1x512 := Rect.unit (s := S1x512) ![0, 0] S1x512.size inb_S1x512_S1x512_0_0
abbrev r0_27 : Rect S512x512 := Rect.unit (s := S512x512) ![0, 0] S512x128.size inb_S512x512_S512x128_0_0
abbrev r0_28 : Rect S512x512 := Rect.unit (s := S512x512) ![0, 128] S512x128.size inb_S512x512_S512x128_0_128
abbrev r0_29 : Rect S512x512 := Rect.unit (s := S512x512) ![0, 256] S512x128.size inb_S512x512_S512x128_0_256
abbrev r0_30 : Rect S512x512 := Rect.unit (s := S512x512) ![0, 384] S512x128.size inb_S512x512_S512x128_0_384

/-! ## What the body leaves in each output window's buffer -/

/-! ### Values of the body that the stores' payloads, spelt out, would write more than once

    Each is a vector the body binds (often a part call's result), stated over the input windows' blocks and
    numbered on from the skeleton's payload functions (`k0_pay52` …, after `k0_pay51`), so that
    `out0_W` and the values after it name it instead of spelling it out. -/

def k0_pay52 (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) : FVec F S512x3456 .f32 :=
  k0_pay3 (View.ld x0 r0_0) (View.ld x3 r0_1) (View.ld x2 r0_2) (View.ld x1 r0_2) (View.ld x4 r0_3) -- `v26`
def k0_pay53 (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) : FVec F S512x128 .f32 :=
  constant S512x128 .f32 0x00000000#32 -- `cst_47`
def k0_pay54 (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) : FVec F S512x1024 .f32 :=
  k0_pay7 (k0_pay52 x0 x1 x2 x3 x4 x5 x6 x7 x8 x9 x10 x11 x12 x13 x14 x15 x16 x17 x18 x19 x20 x21 x22 x23 x24) (View.ld x11 r0_5) (View.ld x12 r0_6) -- `v62`
def k0_pay55 (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) : FVec F S1024x128 .bf16 :=
  k0_pay8 (View.ld x17 r0_11) -- `v65`
def k0_pay56 (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) : FVec F S512x1024 .bf16 :=
  k0_pay9 (k0_pay52 x0 x1 x2 x3 x4 x5 x6 x7 x8 x9 x10 x11 x12 x13 x14 x15 x16 x17 x18 x19 x20 x21 x22 x23 x24) (View.ld x11 r0_5) (View.ld x12 r0_6) -- `v66`
def k0_pay57 (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) : FVec F S512x1024 .f32 :=
  k0_pay10 (k0_pay54 x0 x1 x2 x3 x4 x5 x6 x7 x8 x9 x10 x11 x12 x13 x14 x15 x16 x17 x18 x19 x20 x21 x22 x23 x24) (k0_pay55 x0 x1 x2 x3 x4 x5 x6 x7 x8 x9 x10 x11 x12 x13 x14 x15 x16 x17 x18 x19 x20 x21 x22 x23 x24) (k0_pay56 x0 x1 x2 x3 x4 x5 x6 x7 x8 x9 x10 x11 x12 x13 x14 x15 x16 x17 x18 x19 x20 x21 x22 x23 x24) (k0_pay53 x0 x1 x2 x3 x4 x5 x6 x7 x8 x9 x10 x11 x12 x13 x14 x15 x16 x17 x18 x19 x20 x21 x22 x23 x24) (View.ld x18 r0_6) (View.ld x15 r0_1) -- `v84`
def k0_pay58 (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) : FVec F S512x1024 .f32 :=
  k0_pay28 (k0_pay52 x0 x1 x2 x3 x4 x5 x6 x7 x8 x9 x10 x11 x12 x13 x14 x15 x16 x17 x18 x19 x20 x21 x22 x23 x24) (View.ld x21 r0_23) (View.ld x22 r0_24) -- `v213`
def k0_pay59 (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) : FVec F S512x256 .bf16 :=
  k0_pay29 (k0_pay52 x0 x1 x2 x3 x4 x5 x6 x7 x8 x9 x10 x11 x12 x13 x14 x15 x16 x17 x18 x19 x20 x21 x22 x23 x24) (View.ld x21 r0_23) (View.ld x22 r0_24) (View.ld x17 r0_11) -- `v228`
def k0_pay60 (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) : FVec F S512x1024 .f32 :=
  k0_pay30 (k0_pay58 x0 x1 x2 x3 x4 x5 x6 x7 x8 x9 x10 x11 x12 x13 x14 x15 x16 x17 x18 x19 x20 x21 x22 x23 x24) (k0_pay59 x0 x1 x2 x3 x4 x5 x6 x7 x8 x9 x10 x11 x12 x13 x14 x15 x16 x17 x18 x19 x20 x21 x22 x23 x24) (View.ld x18 r0_6) (View.ld x23 r0_1) -- `v235`
def k0_pay61 (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) : FVec F S512x512 .f32 :=
  k0_pay43 (k0_pay52 x0 x1 x2 x3 x4 x5 x6 x7 x8 x9 x10 x11 x12 x13 x14 x15 x16 x17 x18 x19 x20 x21 x22 x23 x24) (View.ld x19 r0_4) (View.ld x20 r0_25) (View.ld x24 r0_26) -- `v338`

/-- Window 25's staging buffer after the body, from the input windows' blocks: its 8 stores as pieces, LAST
    FIRST. -/
def out0_25 (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) : Vec F S512x1024 .bf16 :=
  View.canon [⟨r0_19, k0_pay24 (View.ld x5 r0_4) (View.ld x6 r0_4) (View.ld x7 r0_4) (k0_pay57 x0 x1 x2 x3 x4 x5 x6 x7 x8 x9 x10 x11 x12 x13 x14 x15 x16 x17 x18 x19 x20 x21 x22 x23 x24)⟩,
    ⟨r0_18, k0_pay23 (View.ld x7 r0_4) (k0_pay20 (k0_pay57 x0 x1 x2 x3 x4 x5 x6 x7 x8 x9 x10 x11 x12 x13 x14 x15 x16 x17 x18 x19 x20 x21 x22 x23 x24)) (k0_pay21 (View.ld x5 r0_4) (k0_pay57 x0 x1 x2 x3 x4 x5 x6 x7 x8 x9 x10 x11 x12 x13 x14 x15 x16 x17 x18 x19 x20 x21 x22 x23 x24)) (k0_pay22 (View.ld x6 r0_4) (k0_pay57 x0 x1 x2 x3 x4 x5 x6 x7 x8 x9 x10 x11 x12 x13 x14 x15 x16 x17 x18 x19 x20 x21 x22 x23 x24))⟩,
    ⟨r0_17, k0_pay19 (View.ld x5 r0_4) (View.ld x6 r0_4) (View.ld x7 r0_4) (k0_pay57 x0 x1 x2 x3 x4 x5 x6 x7 x8 x9 x10 x11 x12 x13 x14 x15 x16 x17 x18 x19 x20 x21 x22 x23 x24)⟩,
    ⟨r0_16, k0_pay18 (View.ld x5 r0_4) (View.ld x6 r0_4) (View.ld x7 r0_4) (k0_pay57 x0 x1 x2 x3 x4 x5 x6 x7 x8 x9 x10 x11 x12 x13 x14 x15 x16 x17 x18 x19 x20 x21 x22 x23 x24)⟩,
    ⟨r0_15, k0_pay17 (View.ld x5 r0_4) (View.ld x6 r0_4) (View.ld x7 r0_4) (k0_pay57 x0 x1 x2 x3 x4 x5 x6 x7 x8 x9 x10 x11 x12 x13 x14 x15 x16 x17 x18 x19 x20 x21 x22 x23 x24)⟩,
    ⟨r0_14, k0_pay16 (View.ld x7 r0_4) (k0_pay13 (k0_pay54 x0 x1 x2 x3 x4 x5 x6 x7 x8 x9 x10 x11 x12 x13 x14 x15 x16 x17 x18 x19 x20 x21 x22 x23 x24) (k0_pay55 x0 x1 x2 x3 x4 x5 x6 x7 x8 x9 x10 x11 x12 x13 x14 x15 x16 x17 x18 x19 x20 x21 x22 x23 x24) (k0_pay56 x0 x1 x2 x3 x4 x5 x6 x7 x8 x9 x10 x11 x12 x13 x14 x15 x16 x17 x18 x19 x20 x21 x22 x23 x24) (k0_pay53 x0 x1 x2 x3 x4 x5 x6 x7 x8 x9 x10 x11 x12 x13 x14 x15 x16 x17 x18 x19 x20 x21 x22 x23 x24) (View.ld x18 r0_6) (View.ld x15 r0_1)) (k0_pay14 (View.ld x5 r0_4) (k0_pay54 x0 x1 x2 x3 x4 x5 x6 x7 x8 x9 x10 x11 x12 x13 x14 x15 x16 x17 x18 x19 x20 x21 x22 x23 x24) (k0_pay55 x0 x1 x2 x3 x4 x5 x6 x7 x8 x9 x10 x11 x12 x13 x14 x15 x16 x17 x18 x19 x20 x21 x22 x23 x24) (k0_pay56 x0 x1 x2 x3 x4 x5 x6 x7 x8 x9 x10 x11 x12 x13 x14 x15 x16 x17 x18 x19 x20 x21 x22 x23 x24) (k0_pay53 x0 x1 x2 x3 x4 x5 x6 x7 x8 x9 x10 x11 x12 x13 x14 x15 x16 x17 x18 x19 x20 x21 x22 x23 x24) (View.ld x18 r0_6) (View.ld x15 r0_1)) (k0_pay15 (View.ld x6 r0_4) (k0_pay54 x0 x1 x2 x3 x4 x5 x6 x7 x8 x9 x10 x11 x12 x13 x14 x15 x16 x17 x18 x19 x20 x21 x22 x23 x24) (k0_pay55 x0 x1 x2 x3 x4 x5 x6 x7 x8 x9 x10 x11 x12 x13 x14 x15 x16 x17 x18 x19 x20 x21 x22 x23 x24) (k0_pay56 x0 x1 x2 x3 x4 x5 x6 x7 x8 x9 x10 x11 x12 x13 x14 x15 x16 x17 x18 x19 x20 x21 x22 x23 x24) (k0_pay53 x0 x1 x2 x3 x4 x5 x6 x7 x8 x9 x10 x11 x12 x13 x14 x15 x16 x17 x18 x19 x20 x21 x22 x23 x24) (View.ld x18 r0_6) (View.ld x15 r0_1))⟩,
    ⟨r0_13, k0_pay12 (View.ld x5 r0_4) (View.ld x6 r0_4) (View.ld x7 r0_4) (k0_pay54 x0 x1 x2 x3 x4 x5 x6 x7 x8 x9 x10 x11 x12 x13 x14 x15 x16 x17 x18 x19 x20 x21 x22 x23 x24) (k0_pay55 x0 x1 x2 x3 x4 x5 x6 x7 x8 x9 x10 x11 x12 x13 x14 x15 x16 x17 x18 x19 x20 x21 x22 x23 x24) (k0_pay56 x0 x1 x2 x3 x4 x5 x6 x7 x8 x9 x10 x11 x12 x13 x14 x15 x16 x17 x18 x19 x20 x21 x22 x23 x24) (k0_pay53 x0 x1 x2 x3 x4 x5 x6 x7 x8 x9 x10 x11 x12 x13 x14 x15 x16 x17 x18 x19 x20 x21 x22 x23 x24) (View.ld x18 r0_6) (View.ld x15 r0_1)⟩,
    ⟨r0_12, k0_pay11 (View.ld x5 r0_4) (View.ld x6 r0_4) (View.ld x7 r0_4) (k0_pay54 x0 x1 x2 x3 x4 x5 x6 x7 x8 x9 x10 x11 x12 x13 x14 x15 x16 x17 x18 x19 x20 x21 x22 x23 x24) (k0_pay55 x0 x1 x2 x3 x4 x5 x6 x7 x8 x9 x10 x11 x12 x13 x14 x15 x16 x17 x18 x19 x20 x21 x22 x23 x24) (k0_pay56 x0 x1 x2 x3 x4 x5 x6 x7 x8 x9 x10 x11 x12 x13 x14 x15 x16 x17 x18 x19 x20 x21 x22 x23 x24) (k0_pay53 x0 x1 x2 x3 x4 x5 x6 x7 x8 x9 x10 x11 x12 x13 x14 x15 x16 x17 x18 x19 x20 x21 x22 x23 x24) (View.ld x18 r0_6) (View.ld x15 r0_1)⟩]

/-- Its stores tile the buffer (checked by evaluation), so they cover it. -/
theorem cover0_25 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_19, p0⟩, ⟨r0_18, p1⟩, ⟨r0_17, p2⟩, ⟨r0_16, p3⟩, ⟨r0_15, p4⟩, ⟨r0_14, p5⟩, ⟨r0_13, p6⟩, ⟨r0_12, p7⟩] : List (View.Piece (Elt F) S512x1024 .bf16)), y ∈ pc.1.set :=
  View.cover_of_tiled [⟨r0_19, p0⟩, ⟨r0_18, p1⟩, ⟨r0_17, p2⟩, ⟨r0_16, p3⟩, ⟨r0_15, p4⟩, ⟨r0_14, p5⟩, ⟨r0_13, p6⟩, ⟨r0_12, p7⟩] S512x128.size (by rfl) y

/-- Window 26's staging buffer after the body, from the input windows' blocks: its 1 store as pieces, LAST
    FIRST. -/
def out0_26 (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) : Vec F S512x512 .bf16 :=
  View.canon [⟨r0_8, k0_pay5 (k0_pay52 x0 x1 x2 x3 x4 x5 x6 x7 x8 x9 x10 x11 x12 x13 x14 x15 x16 x17 x18 x19 x20 x21 x22 x23 x24) (View.ld x11 r0_5) (View.ld x13 r0_7)⟩]

/-- Its stores tile the buffer (checked by evaluation), so they cover it. -/
theorem cover0_26 (p0 : Vec F S512x512 .bf16) (y : S512x512.Idx) :
    ∃ pc ∈ ([⟨r0_8, p0⟩] : List (View.Piece (Elt F) S512x512 .bf16)), y ∈ pc.1.set :=
  View.cover_of_tiled [⟨r0_8, p0⟩] S512x512.size (by rfl) y

/-- Window 27's staging buffer after the body, from the input windows' blocks: its 1 store as pieces, LAST
    FIRST. -/
def out0_27 (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) : Vec F S512x128 .bf16 :=
  View.canon [⟨r0_4, k0_pay27 (View.ld x9 r0_4) (View.ld x10 r0_4) (k0_pay25 (k0_pay52 x0 x1 x2 x3 x4 x5 x6 x7 x8 x9 x10 x11 x12 x13 x14 x15 x16 x17 x18 x19 x20 x21 x22 x23 x24) (View.ld x19 r0_20) (View.ld x20 r0_21) (View.ld x16 r0_22)) (k0_pay26 (k0_pay52 x0 x1 x2 x3 x4 x5 x6 x7 x8 x9 x10 x11 x12 x13 x14 x15 x16 x17 x18 x19 x20 x21 x22 x23 x24) (View.ld x8 r0_4) (View.ld x19 r0_20) (View.ld x20 r0_21) (View.ld x16 r0_22)) 112#32⟩]

/-- Its stores tile the buffer (checked by evaluation), so they cover it. -/
theorem cover0_27 (p0 : Vec F S512x128 .bf16) (y : S512x128.Idx) :
    ∃ pc ∈ ([⟨r0_4, p0⟩] : List (View.Piece (Elt F) S512x128 .bf16)), y ∈ pc.1.set :=
  View.cover_of_tiled [⟨r0_4, p0⟩] S512x128.size (by rfl) y

/-- Window 28's staging buffer after the body, from the input windows' blocks: its 1 store as pieces, LAST
    FIRST. -/
def out0_28 (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) : Vec F S128x512 .bf16 :=
  View.canon [⟨r0_10, k0_pay6 (k0_pay2 (View.ld x0 r0_0) (View.ld x3 r0_1) (View.ld x2 r0_2) (View.ld x1 r0_2)) (View.ld x14 r0_9)⟩]

/-- Its stores tile the buffer (checked by evaluation), so they cover it. -/
theorem cover0_28 (p0 : Vec F S128x512 .bf16) (y : S128x512.Idx) :
    ∃ pc ∈ ([⟨r0_10, p0⟩] : List (View.Piece (Elt F) S128x512 .bf16)), y ∈ pc.1.set :=
  View.cover_of_tiled [⟨r0_10, p0⟩] S128x512.size (by rfl) y

/-- Window 29's staging buffer after the body, from the input windows' blocks: its 8 stores as pieces, LAST
    FIRST. -/
def out0_29 (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) : Vec F S512x1024 .bf16 :=
  View.canon [⟨r0_19, k0_pay42 (View.ld x7 r0_4) (k0_pay40 (k0_pay60 x0 x1 x2 x3 x4 x5 x6 x7 x8 x9 x10 x11 x12 x13 x14 x15 x16 x17 x18 x19 x20 x21 x22 x23 x24)) (k0_pay41 (View.ld x5 r0_4) (View.ld x6 r0_4) (k0_pay60 x0 x1 x2 x3 x4 x5 x6 x7 x8 x9 x10 x11 x12 x13 x14 x15 x16 x17 x18 x19 x20 x21 x22 x23 x24))⟩,
    ⟨r0_18, k0_pay39 (View.ld x5 r0_4) (View.ld x6 r0_4) (View.ld x7 r0_4) (k0_pay60 x0 x1 x2 x3 x4 x5 x6 x7 x8 x9 x10 x11 x12 x13 x14 x15 x16 x17 x18 x19 x20 x21 x22 x23 x24)⟩,
    ⟨r0_17, k0_pay38 (View.ld x5 r0_4) (View.ld x6 r0_4) (View.ld x7 r0_4) (k0_pay60 x0 x1 x2 x3 x4 x5 x6 x7 x8 x9 x10 x11 x12 x13 x14 x15 x16 x17 x18 x19 x20 x21 x22 x23 x24)⟩,
    ⟨r0_16, k0_pay37 (View.ld x5 r0_4) (View.ld x6 r0_4) (View.ld x7 r0_4) (k0_pay60 x0 x1 x2 x3 x4 x5 x6 x7 x8 x9 x10 x11 x12 x13 x14 x15 x16 x17 x18 x19 x20 x21 x22 x23 x24)⟩,
    ⟨r0_15, k0_pay36 (View.ld x7 r0_4) (k0_pay34 (k0_pay58 x0 x1 x2 x3 x4 x5 x6 x7 x8 x9 x10 x11 x12 x13 x14 x15 x16 x17 x18 x19 x20 x21 x22 x23 x24) (k0_pay59 x0 x1 x2 x3 x4 x5 x6 x7 x8 x9 x10 x11 x12 x13 x14 x15 x16 x17 x18 x19 x20 x21 x22 x23 x24) (View.ld x18 r0_6) (View.ld x23 r0_1)) (k0_pay35 (View.ld x5 r0_4) (View.ld x6 r0_4) (k0_pay58 x0 x1 x2 x3 x4 x5 x6 x7 x8 x9 x10 x11 x12 x13 x14 x15 x16 x17 x18 x19 x20 x21 x22 x23 x24) (k0_pay59 x0 x1 x2 x3 x4 x5 x6 x7 x8 x9 x10 x11 x12 x13 x14 x15 x16 x17 x18 x19 x20 x21 x22 x23 x24) (View.ld x18 r0_6) (View.ld x23 r0_1))⟩,
    ⟨r0_14, k0_pay33 (View.ld x5 r0_4) (View.ld x6 r0_4) (View.ld x7 r0_4) (k0_pay58 x0 x1 x2 x3 x4 x5 x6 x7 x8 x9 x10 x11 x12 x13 x14 x15 x16 x17 x18 x19 x20 x21 x22 x23 x24) (k0_pay59 x0 x1 x2 x3 x4 x5 x6 x7 x8 x9 x10 x11 x12 x13 x14 x15 x16 x17 x18 x19 x20 x21 x22 x23 x24) (View.ld x18 r0_6) (View.ld x23 r0_1)⟩,
    ⟨r0_13, k0_pay32 (View.ld x5 r0_4) (View.ld x6 r0_4) (View.ld x7 r0_4) (k0_pay58 x0 x1 x2 x3 x4 x5 x6 x7 x8 x9 x10 x11 x12 x13 x14 x15 x16 x17 x18 x19 x20 x21 x22 x23 x24) (k0_pay59 x0 x1 x2 x3 x4 x5 x6 x7 x8 x9 x10 x11 x12 x13 x14 x15 x16 x17 x18 x19 x20 x21 x22 x23 x24) (View.ld x18 r0_6) (View.ld x23 r0_1)⟩,
    ⟨r0_12, k0_pay31 (View.ld x5 r0_4) (View.ld x6 r0_4) (View.ld x7 r0_4) (k0_pay58 x0 x1 x2 x3 x4 x5 x6 x7 x8 x9 x10 x11 x12 x13 x14 x15 x16 x17 x18 x19 x20 x21 x22 x23 x24) (k0_pay59 x0 x1 x2 x3 x4 x5 x6 x7 x8 x9 x10 x11 x12 x13 x14 x15 x16 x17 x18 x19 x20 x21 x22 x23 x24) (View.ld x18 r0_6) (View.ld x23 r0_1)⟩]

/-- Its stores tile the buffer (checked by evaluation), so they cover it. -/
theorem cover0_29 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_19, p0⟩, ⟨r0_18, p1⟩, ⟨r0_17, p2⟩, ⟨r0_16, p3⟩, ⟨r0_15, p4⟩, ⟨r0_14, p5⟩, ⟨r0_13, p6⟩, ⟨r0_12, p7⟩] : List (View.Piece (Elt F) S512x1024 .bf16)), y ∈ pc.1.set :=
  View.cover_of_tiled [⟨r0_19, p0⟩, ⟨r0_18, p1⟩, ⟨r0_17, p2⟩, ⟨r0_16, p3⟩, ⟨r0_15, p4⟩, ⟨r0_14, p5⟩, ⟨r0_13, p6⟩, ⟨r0_12, p7⟩] S512x128.size (by rfl) y

/-- Window 30's staging buffer after the body, from the input windows' blocks: its 4 stores as pieces, LAST
    FIRST. -/
def out0_30 (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) : Vec F S512x512 .bf16 :=
  View.canon [⟨r0_30, k0_pay49 (View.ld x8 r0_4) (View.ld x9 r0_4) (View.ld x10 r0_4) (k0_pay61 x0 x1 x2 x3 x4 x5 x6 x7 x8 x9 x10 x11 x12 x13 x14 x15 x16 x17 x18 x19 x20 x21 x22 x23 x24)⟩,
    ⟨r0_29, k0_pay48 (View.ld x8 r0_4) (View.ld x9 r0_4) (View.ld x10 r0_4) (k0_pay61 x0 x1 x2 x3 x4 x5 x6 x7 x8 x9 x10 x11 x12 x13 x14 x15 x16 x17 x18 x19 x20 x21 x22 x23 x24)⟩,
    ⟨r0_28, k0_pay47 (View.ld x9 r0_4) (View.ld x10 r0_4) (k0_pay45 (k0_pay52 x0 x1 x2 x3 x4 x5 x6 x7 x8 x9 x10 x11 x12 x13 x14 x15 x16 x17 x18 x19 x20 x21 x22 x23 x24) (View.ld x19 r0_4) (View.ld x20 r0_25) (View.ld x24 r0_26)) (k0_pay46 (k0_pay52 x0 x1 x2 x3 x4 x5 x6 x7 x8 x9 x10 x11 x12 x13 x14 x15 x16 x17 x18 x19 x20 x21 x22 x23 x24) (View.ld x8 r0_4) (View.ld x19 r0_4) (View.ld x20 r0_25) (View.ld x24 r0_26)) 112#32⟩,
    ⟨r0_27, k0_pay44 (k0_pay52 x0 x1 x2 x3 x4 x5 x6 x7 x8 x9 x10 x11 x12 x13 x14 x15 x16 x17 x18 x19 x20 x21 x22 x23 x24) (View.ld x8 r0_4) (View.ld x9 r0_4) (View.ld x10 r0_4) (View.ld x19 r0_4) (View.ld x20 r0_25) (View.ld x24 r0_26)⟩]

/-- Its stores tile the buffer (checked by evaluation), so they cover it. -/
theorem cover0_30 (p0 : Vec F S512x128 .bf16) (p1 : Vec F S512x128 .bf16) (p2 : Vec F S512x128 .bf16) (p3 : Vec F S512x128 .bf16) (y : S512x512.Idx) :
    ∃ pc ∈ ([⟨r0_30, p0⟩, ⟨r0_29, p1⟩, ⟨r0_28, p2⟩, ⟨r0_27, p3⟩] : List (View.Piece (Elt F) S512x512 .bf16)), y ∈ pc.1.set :=
  View.cover_of_tiled [⟨r0_30, p0⟩, ⟨r0_29, p1⟩, ⟨r0_28, p2⟩, ⟨r0_27, p3⟩] S512x128.size (by rfl) y

/-- Window 31's staging buffer after the body, from the input windows' blocks: its 1 store as pieces, LAST
    FIRST. -/
def out0_31 (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) : Vec F S512x1024 .bf16 :=
  View.canon [⟨r0_0, k0_pay50 (k0_pay52 x0 x1 x2 x3 x4 x5 x6 x7 x8 x9 x10 x11 x12 x13 x14 x15 x16 x17 x18 x19 x20 x21 x22 x23 x24)⟩]

/-- Its stores tile the buffer (checked by evaluation), so they cover it. -/
theorem cover0_31 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- Window 32's staging buffer after the body, from the input windows' blocks: its 1 store as pieces, LAST
    FIRST. -/
def out0_32 (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) : Vec F S512x1024 .bf16 :=
  View.canon [⟨r0_0, k0_pay1 (k0_pay51 (k0_pay52 x0 x1 x2 x3 x4 x5 x6 x7 x8 x9 x10 x11 x12 x13 x14 x15 x16 x17 x18 x19 x20 x21 x22 x23 x24))⟩]

/-- Its stores tile the buffer (checked by evaluation), so they cover it. -/
theorem cover0_32 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel (c : Dev nD) (E : Set ℕ) (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x3456 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x256 .f32) (harg12 : arg12.IsWhole) (arg13 : Memref sig .tc .vmem S256x1024 .bf16) (harg13 : arg13.IsWhole) (arg14 : Memref sig .tc .vmem S512x256 .bf16) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S1x128 .f32) (harg17 : arg17.IsWhole) (arg18 : Memref sig .tc .vmem S1024x128 .bf16) (harg18 : arg18.IsWhole) (arg19 : Memref sig .tc .vmem S256x1024 .bf16) (harg19 : arg19.IsWhole) (arg20 : Memref sig .tc .vmem S512x128 .bf16) (harg20 : arg20.IsWhole) (arg21 : Memref sig .tc .vmem S256x512 .bf16) (harg21 : arg21.IsWhole) (arg22 : Memref sig .tc .vmem S1x384 .f32) (harg22 : arg22.IsWhole) (arg23 : Memref sig .tc .vmem S384x1024 .bf16) (harg23 : arg23.IsWhole) (arg24 : Memref sig .tc .vmem S1x1024 .f32) (harg24 : arg24.IsWhole) (arg25 : Memref sig .tc .vmem S1x512 .f32) (harg25 : arg25.IsWhole) (arg26 : Memref sig .tc .vmem S512x1024 .bf16) (harg26 : arg26.IsWhole) (arg27 : Memref sig .tc .vmem S512x512 .bf16) (harg27 : arg27.IsWhole) (arg28 : Memref sig .tc .vmem S512x128 .bf16) (harg28 : arg28.IsWhole) (arg29 : Memref sig .tc .vmem S128x512 .bf16) (harg29 : arg29.IsWhole) (arg30 : Memref sig .tc .vmem S512x1024 .bf16) (harg30 : arg30.IsWhole) (arg31 : Memref sig .tc .vmem S512x512 .bf16) (harg31 : arg31.IsWhole) (arg32 : Memref sig .tc .vmem S512x1024 .bf16) (harg32 : arg32.IsWhole) (arg33 : Memref sig .tc .vmem S512x1024 .bf16) (harg33 : arg33.IsWhole)
    (x0 : Vec F S512x1024 .f32) (x1 : Vec F S1x1x1024 .f32) (x2 : Vec F S1x1x1024 .f32) (x3 : Vec F S1x1024 .f32) (x4 : Vec F S1024x3456 .bf16) (x5 : Vec F S512x128 .f32) (x6 : Vec F S512x128 .f32) (x7 : Vec F S512x128 .f32) (x8 : Vec F S512x128 .f32) (x9 : Vec F S512x128 .f32) (x10 : Vec F S512x128 .f32) (x11 : Vec F S1x256 .f32) (x12 : Vec F S256x1024 .bf16) (x13 : Vec F S512x256 .bf16) (x14 : Vec F S128x1024 .bf16) (x15 : Vec F S1x1024 .f32) (x16 : Vec F S1x128 .f32) (x17 : Vec F S1024x128 .bf16) (x18 : Vec F S256x1024 .bf16) (x19 : Vec F S512x128 .bf16) (x20 : Vec F S256x512 .bf16) (x21 : Vec F S1x384 .f32) (x22 : Vec F S384x1024 .bf16) (x23 : Vec F S1x1024 .f32) (x24 : Vec F S1x512 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare (out0_25 x0 x1 x2 x3 x4 x5 x6 x7 x8 x9 x10 x11 x12 x13 x14 x15 x16 x17 x18 x19 x20 x21 x22 x23 x24) ∗ owns (c : Thread nD τ) arg27 fullShare (out0_26 x0 x1 x2 x3 x4 x5 x6 x7 x8 x9 x10 x11 x12 x13 x14 x15 x16 x17 x18 x19 x20 x21 x22 x23 x24) ∗ owns (c : Thread nD τ) arg28 fullShare (out0_27 x0 x1 x2 x3 x4 x5 x6 x7 x8 x9 x10 x11 x12 x13 x14 x15 x16 x17 x18 x19 x20 x21 x22 x23 x24) ∗ owns (c : Thread nD τ) arg29 fullShare (out0_28 x0 x1 x2 x3 x4 x5 x6 x7 x8 x9 x10 x11 x12 x13 x14 x15 x16 x17 x18 x19 x20 x21 x22 x23 x24) ∗ owns (c : Thread nD τ) arg30 fullShare (out0_29 x0 x1 x2 x3 x4 x5 x6 x7 x8 x9 x10 x11 x12 x13 x14 x15 x16 x17 x18 x19 x20 x21 x22 x23 x24) ∗ owns (c : Thread nD τ) arg31 fullShare (out0_30 x0 x1 x2 x3 x4 x5 x6 x7 x8 x9 x10 x11 x12 x13 x14 x15 x16 x17 x18 x19 x20 x21 x22 x23 x24) ∗ owns (c : Thread nD τ) arg32 fullShare (out0_31 x0 x1 x2 x3 x4 x5 x6 x7 x8 x9 x10 x11 x12 x13 x14 x15 x16 x17 x18 x19 x20 x21 x22 x23 x24) ∗ owns (c : Thread nD τ) arg33 fullShare (out0_32 x0 x1 x2 x3 x4 x5 x6 x7 x8 x9 x10 x11 x12 x13 x14 x15 x16 x17 x18 x19 x20 x21 x22 x23 x24)) -∗ K ⟨⟩))
      ⊢ wp frame (wpE (defs₀ (F := F)) Variants.none c none) E (cc0_proj_latent i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0_proj_latent_eq_skeleton]; unfold cc0_proj_latent_skel
  simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists _; isplitr
    swap; · iexact H25
    ipureintro
    refine (View.read_writes_eq_canon _ _ _ (cover0_25 _ _ _ _ _ _ _ _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _ _ _ _ _ _ _ _)).trans ?_
    rfl
  isplitl [H30]
  · iexists _; isplitr
    swap; · iexact H30
    ipureintro
    refine (View.read_writes_eq_canon _ _ _ (cover0_30 _ _ _ _)).trans ?_
    rfl
  isplitl [H31]
  · iexists _; isplitr
    swap; · iexact H31
    ipureintro
    refine (View.read_writes_eq_canon _ _ _ (cover0_31 _)).trans ?_
    rfl
  iexists _; isplitr
  swap; · iexact H32
  ipureintro
  refine (View.read_writes_eq_canon _ _ _ (cover0_32 _)).trans ?_
  rfl

/-! ## The pipeline's proof data -/

/-- The proof data of the one pipeline on core `c`: the arrays as the region finds them (`V`); after the body at
    point `t` each input's buffer at its block and each output's at `out0_W` of the input blocks; the invariant the
    class's; nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨_ + 33, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d

/-! ## The body obligation, at a generic point -/

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  iintro ⟨H0, H1, H2, H3, H4, H5, H6, H7, H8, H9, H10, H11, H12, H13, H14, H15, H16, H17, H18, H19, H20, H21, H22, H23, H24, H25, H26, H27, H28, H29, H30, H31, H32⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iexact H32

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.ProjectionRun

end
-- ==== Proof.ProjectionResult.lean ====
/- The projections' four result arrays: each block is written from the blocks of its own tokens, and the blocks cover the arrays. -/
module

public import proofs.«01_k».proof.Proof.ProjectionSpec
public import proofs.«01_k».proof.Proof.ProjectionBlock
public import proofs.«01_k».proof.Proof.ProjectionBlocks
public import proofs.«01_k».proof.Proof.ProjectionRun
public import Idealize.ShloMosaic.Lib.Pipeline.ReadBack

@[expose] public section

set_option maxRecDepth 16384

noncomputable section

namespace Cert.ProjectionResult

open Cert.Projection Cert.Projection.Gen Cert.ProjectionRun Cert.ProjectionBlocks
open Idealize.ShloMosaic Idealize.ShloMosaic.TcCoe Idealize.SL.Sem Cert.RowSpec

variable (m : (ℓ : Loc nD τ sig) → Buf (Elt Ideal) ℓ)

/-- The arrays at launch. -/
def arrays (c : Dev nD) : ProjectionSpec.Arrays where
  x := m ((c : Thread nD τ).loc main_arg0)
  mod := m ((c : Thread nD τ).loc main_arg1)
  g := m ((c : Thread nD τ).loc main_arg2)
  w := m ((c : Thread nD τ).loc main_arg3)
  gl := m ((c : Thread nD τ).loc main_arg10)
  wl := m ((c : Thread nD τ).loc main_arg12)
  ws := m ((c : Thread nD τ).loc main_arg13)

/-- The blocks a point loads. -/
abbrev xBlk (c : Dev nD) (t : Fin cfg0.N) : Vec Ideal S512x1024 .f32 := iblk m c 0 t
abbrev shiftBlk (c : Dev nD) (t : Fin cfg0.N) : Vec Ideal S1x1x1024 .f32 := iblk m c 1 t
abbrev scaleBlk (c : Dev nD) (t : Fin cfg0.N) : Vec Ideal S1x1x1024 .f32 := iblk m c 2 t
abbrev gBlk (c : Dev nD) (t : Fin cfg0.N) : Vec Ideal S1x1024 .f32 := iblk m c 3 t
abbrev wBlk (c : Dev nD) (t : Fin cfg0.N) : Vec Ideal S1024x3456 .bf16 := iblk m c 4 t
abbrev glBlk (c : Dev nD) (t : Fin cfg0.N) : Vec Ideal S1x256 .f32 := iblk m c 11 t
abbrev wlBlk (c : Dev nD) (t : Fin cfg0.N) : Vec Ideal S512x256 .bf16 := iblk m c 13 t
abbrev wsBlk (c : Dev nD) (t : Fin cfg0.N) : Vec Ideal S128x1024 .bf16 := iblk m c 14 t

/-- The grid has 64 points. -/
theorem point_lt (t : Fin cfg0.N) : t.val < 64 := lt_of_lt_of_eq t.isLt N_0

variable {m} {c : Dev nD} (t : Fin cfg0.N)

/-- The weights' blocks are the weights. -/
theorem g_at (d : Fin 1024) : gBlk m c t (ix2 0 d) = (arrays m c).g (ix2 0 d) := by
  have := point_lt t
  unfold gBlk iblk
  rw [show V m c (Pipeline.arrRef spec0 3) = (arrays m c).g from V_main_arg2 m c]
  blk_ext [g_index t]

theorem w_at (k : Fin 1024) (j : Fin 3456) : wBlk m c t (ix2 k j) = (arrays m c).w (ix2 k j) := by
  have := point_lt t
  unfold wBlk iblk
  rw [show V m c (Pipeline.arrRef spec0 4) = (arrays m c).w from V_main_arg3 m c]
  blk_ext [w_index t]

theorem gl_at (j : Fin 256) : glBlk m c t (ix2 0 j) = (arrays m c).gl (ix2 0 j) := by
  have := point_lt t
  unfold glBlk iblk
  rw [show V m c (Pipeline.arrRef spec0 11) = (arrays m c).gl from V_main_arg10 m c]
  blk_ext [gl_index t]

theorem wl_at (r : Fin 512) (j : Fin 256) : wlBlk m c t (ix2 r j) = (arrays m c).wl (ix2 r j) := by
  have := point_lt t
  unfold wlBlk iblk
  rw [show V m c (Pipeline.arrRef spec0 13) = (arrays m c).wl from V_main_arg12 m c]
  blk_ext [wl_index t]

theorem ws_at (r : Fin 128) (k : Fin 1024) : wsBlk m c t (ix2 r k) = (arrays m c).ws (ix2 r k) := by
  have := point_lt t
  unfold wsBlk iblk
  rw [show V m c (Pipeline.arrRef spec0 14) = (arrays m c).ws from V_main_arg13 m c]
  blk_ext [ws_index t]

variable (n : Fin 512) (N : Fin 32768) (hN : N.val = t.val * 512 + n.val)
include hN

/-- An entry of the tokens' block, of the shift's and of the scale's: `N` is the token of row `n` of the block. -/
theorem x_at (d : Fin 1024) : xBlk m c t (ix2 n d) = (arrays m c).x (ix2 N d) := by
  have := point_lt t
  unfold xBlk iblk
  rw [show V m c (Pipeline.arrRef spec0 0) = (arrays m c).x from V_main_arg0 m c]
  blk_ext [x_index t]

theorem shift_at (d : Fin 1024) : shiftBlk m c t (ix3 0 0 d) = modRow (arrays m c).mod 0 (frameOf N) d := by
  have := point_lt t
  unfold shiftBlk iblk modRow frameOf
  rw [show V m c (Pipeline.arrRef spec0 1) = (arrays m c).mod from V_main_arg1 m c]
  blk_ext [shift_index t]

theorem scale_at (d : Fin 1024) : scaleBlk m c t (ix3 0 0 d) = modRow (arrays m c).mod 1 (frameOf N) d := by
  have := point_lt t
  unfold scaleBlk iblk modRow frameOf
  rw [show V m c (Pipeline.arrRef spec0 2) = (arrays m c).mod from V_main_arg1 m c]
  blk_ext [scale_index t]

/-- The norms a point makes of its blocks are those of its tokens, -/
theorem hidden_block : ProjectionBlock.hiddenRow (xBlk m c t) (gBlk m c t) (scaleBlk m c t) (shiftBlk m c t) n
    = ProjectionSpec.hiddenRow (arrays m c) N := by
  funext d
  unfold ProjectionBlock.hiddenRow ProjectionSpec.hiddenRow
  simp only [x_at t n N hN, g_at, shift_at t n N hN, scale_at t n N hN]

/-- and so are their products with the input weights. -/
theorem column_block : ProjectionBlock.column (xBlk m c t) (gBlk m c t) (scaleBlk m c t) (shiftBlk m c t) (wBlk m c t) n
    = ProjectionSpec.column (arrays m c) N := by
  funext j
  unfold ProjectionBlock.column ProjectionSpec.column
  rw [hidden_block t n N hN]
  simp only [w_at]

omit hN

/-- The block of products a point forms. -/
abbrev products (m : (ℓ : Loc nD τ sig) → Buf (Elt Ideal) ℓ) (c : Dev nD) (t : Fin cfg0.N) : FVec Ideal S512x3456 .f32 :=
  k0_pay3 (F := Ideal) (xBlk m c t) (gBlk m c t) (scaleBlk m c t) (shiftBlk m c t) (wBlk m c t)

include hN

/-- Its entries are the tokens' products. -/
theorem products_at (j : Fin 3456) : products m c t (ix2 n j) = ProjectionSpec.column (arrays m c) N j := by
  refine (ProjectionBlock.column_at ..).trans ?_
  rw [column_block t n N hN]

/-- The blocks a point writes: the latent values, -/
theorem latentValue_at (r : Fin 512) : (dats m 0 c).after 26 t (ix2 r n) = ProjectionSpec.latentValue (arrays m c) r N := by
  refine Eq.trans (b := k0_pay5 (F := Ideal) (products m c t) (glBlk m c t) (wlBlk m c t) (ix2 r n)) ?_ ?_
  · rw [after0_26]
    unfold out0_26 k0_pay52
    frame_out
  · rw [ProjectionBlock.latentValue_at]
    unfold ProjectionSpec.latentValue ProjectionSpec.latent
    simp only [ProjectionBlock.latent_at, products_at t n N hN, gl_at, wl_at]

/-- the window values, -/
theorem windowValue_at (r : Fin 128) : (dats m 0 c).after 28 t (ix2 r n) = ProjectionSpec.windowValue (arrays m c) r N := by
  refine Eq.trans (b := k0_pay6 (F := Ideal) (k0_pay2 (xBlk m c t) (gBlk m c t) (scaleBlk m c t) (shiftBlk m c t)) (wsBlk m c t) (ix2 r n)) ?_ ?_
  · rw [after0_28]
    unfold out0_28
    frame_out
  · rw [ProjectionBlock.windowValue_at, hidden_block t n N hN]
    unfold ProjectionSpec.windowValue
    simp only [ws_at]

/-- and the gates. -/
theorem latentGate_at (d : Fin 1024) : (dats m 0 c).after 31 t (ix2 n d) = ProjectionSpec.latentGate (arrays m c) N d := by
  refine Eq.trans (b := k0_pay50 (F := Ideal) (products m c t) (ix2 n d)) ?_ ?_
  · rw [after0_31]
    unfold out0_31 k0_pay52
    frame_out
  · rw [ProjectionBlock.latentGate_at, products_at t n N hN]
    rfl

theorem windowGate_at (d : Fin 1024) : (dats m 0 c).after 32 t (ix2 n d) = ProjectionSpec.windowGate (arrays m c) N d := by
  refine Eq.trans (b := k0_pay1 (F := Ideal) (k0_pay51 (products m c t)) (ix2 n d)) ?_ ?_
  · rw [after0_32]
    unfold out0_32 k0_pay52
    frame_out
  · rw [ProjectionBlock.windowGate_at, products_at t n N hN]
    rfl

omit hN

/-- The result arrays. -/
theorem latentValue : (dats m 0 c).arrAt 26 cfg0.N = fun i => ProjectionSpec.latentValue (arrays m c) (i 0) (i 1) := by
  refine (dats m 0 c).arrAt_eq_of_covers 26 _ latentValue_covers fun t hf y => ?_
  blk_simp
  rw [show y = ix2 (n0 := 512) (n1 := 512) (y 0) (y 1) from eq_ix2 (n0 := 512) (n1 := 512) y]
  refine (latentValue_at t (y 1) ((win0_26.blk t).view.emb (ix2 (y 0) (y 1)) 1) ?_ (y 0)).trans (congrArg (fun r => ProjectionSpec.latentValue (arrays m c) r ((win0_26.blk t).view.emb (ix2 (y 0) (y 1)) 1)) (Fin.ext ?_))
  · blk_simp [latentValue_index t]
  · blk_simp [latentValue_index t]

theorem windowValue : (dats m 0 c).arrAt 28 cfg0.N = fun i => ProjectionSpec.windowValue (arrays m c) (i 0) (i 1) := by
  refine (dats m 0 c).arrAt_eq_of_covers 28 _ windowValue_covers fun t hf y => ?_
  blk_simp
  rw [show y = ix2 (n0 := 128) (n1 := 512) (y 0) (y 1) from eq_ix2 (n0 := 128) (n1 := 512) y]
  refine (windowValue_at t (y 1) ((win0_28.blk t).view.emb (ix2 (y 0) (y 1)) 1) ?_ (y 0)).trans (congrArg (fun r => ProjectionSpec.windowValue (arrays m c) r ((win0_28.blk t).view.emb (ix2 (y 0) (y 1)) 1)) (Fin.ext ?_))
  · blk_simp [windowValue_index t]
  · blk_simp [windowValue_index t]

theorem latentGate : (dats m 0 c).arrAt 31 cfg0.N = fun i => ProjectionSpec.latentGate (arrays m c) (i 0) (i 1) := by
  refine (dats m 0 c).arrAt_eq_of_covers 31 _ latentGate_covers fun t hf y => ?_
  blk_simp
  rw [show y = ix2 (n0 := 512) (n1 := 1024) (y 0) (y 1) from eq_ix2 (n0 := 512) (n1 := 1024) y]
  refine (latentGate_at t (y 0) ((win0_31.blk t).view.emb (ix2 (y 0) (y 1)) 0) ?_ (y 1)).trans (congrArg (ProjectionSpec.latentGate (arrays m c) ((win0_31.blk t).view.emb (ix2 (y 0) (y 1)) 0)) (Fin.ext ?_))
  · blk_simp [latentGate_index t]
  · blk_simp [latentGate_index t]

theorem windowGate : (dats m 0 c).arrAt 32 cfg0.N = fun i => ProjectionSpec.windowGate (arrays m c) (i 0) (i 1) := by
  refine (dats m 0 c).arrAt_eq_of_covers 32 _ windowGate_covers fun t hf y => ?_
  blk_simp
  rw [show y = ix2 (n0 := 512) (n1 := 1024) (y 0) (y 1) from eq_ix2 (n0 := 512) (n1 := 1024) y]
  refine (windowGate_at t (y 0) ((win0_32.blk t).view.emb (ix2 (y 0) (y 1)) 0) ?_ (y 1)).trans (congrArg (ProjectionSpec.windowGate (arrays m c) ((win0_32.blk t).view.emb (ix2 (y 0) (y 1)) 0)) (Fin.ext ?_))
  · blk_simp [windowGate_index t]
  · blk_simp [windowGate_index t]

/-- What the run leaves in the four result arrays. -/
theorem latentValue_post (r : PUnit × MemSt nD τ sig (Elt Ideal)) (h : Pipeline.FramePost cfgs (dats m) 0 (V m) r) :
    r.2.mem ((c : Thread nD τ).loc main_v24_1) = fun i => ProjectionSpec.latentValue (arrays m c) (i 0) (i 1) :=
  Eq.trans (b := (dats m 0 c).arrAt 26 cfg0.N) ((h c).1 26) latentValue

theorem windowValue_post (r : PUnit × MemSt nD τ sig (Elt Ideal)) (h : Pipeline.FramePost cfgs (dats m) 0 (V m) r) :
    r.2.mem ((c : Thread nD τ).loc main_v24_3) = fun i => ProjectionSpec.windowValue (arrays m c) (i 0) (i 1) :=
  Eq.trans (b := (dats m 0 c).arrAt 28 cfg0.N) ((h c).1 28) windowValue

theorem latentGate_post (r : PUnit × MemSt nD τ sig (Elt Ideal)) (h : Pipeline.FramePost cfgs (dats m) 0 (V m) r) :
    r.2.mem ((c : Thread nD τ).loc main_v24_6) = fun i => ProjectionSpec.latentGate (arrays m c) (i 0) (i 1) :=
  Eq.trans (b := (dats m 0 c).arrAt 31 cfg0.N) ((h c).1 31) latentGate

theorem windowGate_post (r : PUnit × MemSt nD τ sig (Elt Ideal)) (h : Pipeline.FramePost cfgs (dats m) 0 (V m) r) :
    r.2.mem ((c : Thread nD τ).loc main_v24_7) = fun i => ProjectionSpec.windowGate (arrays m c) (i 0) (i 1) :=
  Eq.trans (b := (dats m 0 c).arrAt 32 cfg0.N) ((h c).1 32) windowGate

end Cert.ProjectionResult

end
-- ==== Proof.ProjectionReference.lean ====
/- The projections' reference read at an index: its four results are the arrays of `ProjectionSpec`. -/
module

public import proofs.«01_k».proof.Proof.ProjectionSpec
public import proofs.«01_k».proof.Proof.Gen.ProjectionReferenceIdeal.Read
public import Idealize.ShloMosaic.Lib.Pointwise

@[expose] public section

set_option maxRecDepth 16384

noncomputable section

namespace Cert.ProjectionReference

open Cert.ProjectionReferenceIdeal Cert.ProjectionReferenceIdeal.Gen Cert.ProjectionReferenceIdeal.Read Idealize.ShloMosaic Cert.RowSpec
open Cert.ProjectionSpec

variable (A : Arrays)

/-- The reference's six modulation rows of a frame, -/
theorem rows_at (mod : (⟨3, ![16, 1, 6144]⟩ : Shape).Idx → EReal) (f : Fin 8) (k : Fin 6) (d : Fin 1024) :
    val_main_v2 (F := Ideal) mod (ix3 f k d) = modRow mod k f d := by
  rw [val_main_v2_apply, val_main_v1_apply, val_main_v0_apply]
  have hf := f.isLt
  have hk := k.isLt
  have hd := d.isLt
  refine at3 mod _ _ _ _ ?_ ?_ ?_ <;> simp only [ix3] <;> dsimp <;> omega

/-- of which it takes the shift -/
theorem shift_at (f : Fin 8) (d : Fin 1024) : val_main_v5 (F := Ideal) A.mod (ix3 f 0 d) = modRow A.mod 0 f d := by
  rw [← rows_at]
  pointwise [val_main_v5, val_main_v4, val_main_v3]

/-- and the scale. -/
theorem scale_at (f : Fin 8) (d : Fin 1024) : val_main_v8 (F := Ideal) A.mod (ix3 f 0 d) = modRow A.mod 1 f d := by
  rw [← rows_at]
  pointwise [val_main_v8, val_main_v7, val_main_v6]

/-- The tokens, by frame. -/
theorem token_at (f : Fin 8) (p : Fin 4096) (d : Fin 1024) : val_main_v9 (F := Ideal) A.x (ix3 f p d) = A.x (ix2 (token f p) d) := by
  pointwise [val_main_v9]

/-- The tokens' reciprocal roots. -/
theorem inv_at (f : Fin 8) (p : Fin 4096) :
    val_main_v17 (F := Ideal) A.x (ix3 f p 0) = rowInv 0x44800000#32 fun d => A.x (ix2 (token f p) d) := by
  unfold rowInv
  simp only [← token_at]
  pointwise [val_main_v17, val_main_v16, val_main_v15, val_main_v14, val_main_v13, val_main_v12, val_main_v11, val_main_v10, val_main_cst,
    val_main_cst_0, val_main_cst_1]

/-- The modulated norm, by frame -/
theorem hidden_frame (f : Fin 8) (p : Fin 4096) (d : Fin 1024) :
    val_main_v28 (F := Ideal) A.x A.mod A.g (ix3 f p d) = hiddenRow A (token f p) d := by
  unfold hiddenRow modulated
  beta_reduce
  rw [frame_token, ← inv_at, ← token_at, ← scale_at, ← shift_at]
  pointwise [val_main_v28, val_main_v27, val_main_v26, val_main_v25, val_main_v24, val_main_v23, val_main_v22, val_main_v21, val_main_v20,
    val_main_v19, val_main_v18, val_main_cst_2]

/-- and by token. -/
theorem hidden_at (N : Fin 32768) (d : Fin 1024) : val_main_v29 (F := Ideal) A.x A.mod A.g (ix2 N d) = hiddenRow A N d := by
  conv_rhs => rw [← token_eq N, ← hidden_frame]
  pointwise [val_main_v29]

/-- The products with the first 256 columns, -/
theorem first_at (N : Fin 32768) (j : Fin 256) :
    val_main_v32 (F := Ideal) A.x A.mod A.g A.w (ix2 N j) = column A N ⟨j.val, by omega⟩ := by
  unfold column
  simp only [← hidden_at]
  pointwise [val_main_v32, val_main_v31, val_main_v30]

/-- their reciprocal roots, -/
theorem first_inv (N : Fin 32768) :
    val_main_v40 (F := Ideal) A.x A.mod A.g A.w (ix2 N 0) = rowInv 0x43800000#32 fun j : Fin 256 => column A N ⟨j.val, by omega⟩ := by
  unfold rowInv
  simp only [← first_at]
  pointwise [val_main_v40, val_main_v39, val_main_v38, val_main_v37, val_main_v36, val_main_v35, val_main_v34, val_main_v33, val_main_cst_3,
    val_main_cst_4, val_main_cst_5]

/-- and the latent row. -/
theorem latent_at (N : Fin 32768) (j : Fin 256) : val_main_v44 (F := Ideal) A.x A.mod A.g A.w A.gl (ix2 N j) = latent A N j := by
  unfold latent
  rw [← first_inv, ← first_at]
  pointwise [val_main_v44, val_main_v43, val_main_v42, val_main_v41]

/-- The four results: the latent values, -/
theorem latentValue_at (r : Fin 512) (N : Fin 32768) :
    val_main_v68 (F := Ideal) A.x A.mod A.g A.w A.gl A.wl (ix2 r N) = latentValue A r N := by
  unfold latentValue
  simp only [← latent_at]
  pointwise [val_main_v68, val_main_v67, val_main_v47, val_main_v46, val_main_v45]

/-- the window values, -/
theorem windowValue_at (r : Fin 128) (N : Fin 32768) :
    val_main_v70 (F := Ideal) A.x A.mod A.g A.ws (ix2 r N) = windowValue A r N := by
  unfold windowValue
  simp only [← hidden_at]
  pointwise [val_main_v70, val_main_v69, val_main_v50, val_main_v49, val_main_v48]

/-- and the gates. -/
theorem latentGate_at (N : Fin 32768) (d : Fin 1024) :
    val_main_v71 (F := Ideal) A.x A.mod A.g A.w (ix2 N d) = latentGate A N d := by
  unfold latentGate column Ideal.logistic
  simp only [← hidden_at]
  pointwise [val_main_v71, val_main_v58, val_main_v57, val_main_v56, val_main_v55, val_main_v54, val_main_v53, val_main_v52, val_main_v51,
    val_main_v30, val_main_cst_6, val_main_cst_7]

theorem windowGate_at (N : Fin 32768) (d : Fin 1024) :
    val_main_v72 (F := Ideal) A.x A.mod A.g A.w (ix2 N d) = windowGate A N d := by
  unfold windowGate column Ideal.logistic
  simp only [← hidden_at]
  pointwise [val_main_v72, val_main_v66, val_main_v65, val_main_v64, val_main_v63, val_main_v62, val_main_v61, val_main_v60, val_main_v59,
    val_main_v30, val_main_cst_8, val_main_cst_9]

end Cert.ProjectionReference

end
-- ==== Proof.ProjectionEqual.lean ====
/- The projections: their kernel and their reference end with the same four results; and the frames of their programs. -/
module

public import proofs.«01_k».proof.Defs
public import proofs.«01_k».proof.Proof.ProjectionResult
public import proofs.«01_k».proof.Proof.ProjectionReference
public import proofs.«01_k».proof.Proof.Gen.ProjectionIdeal
public import proofs.«01_k».proof.Proof.Gen.ProjectionReferenceIdeal.Run
public import Idealize.ShloMosaic.Adequacy
public import Idealize.ShloMosaic.Init
public import Idealize.ShloMosaic.Lib.Tactic

@[expose] public section

set_option maxRecDepth 65536

noncomputable section

namespace Cert.ProjectionEqual

open Idealize.ShloMosaic Idealize.SL.Sem Idealize.ShloMosaic.Tactic

attribute [local instance] Cert.Projection.Gen.facts Cert.ProjectionIdeal.Gen.facts Cert.ProjectionReferenceIdeal.Gen.facts

/-- The program and its idealization are one program at the ideal instance: a run of the one is a run of the other. -/
theorem run_eq (m : (ℓ : Loc Cert.ProjectionIdeal.nD Cert.ProjectionIdeal.τ Cert.ProjectionIdeal.sig) → Buf (Elt Ideal) ℓ)
    (ρ : Dev Cert.ProjectionIdeal.nD → PrngReg) :
    θ_run (Cert.ProjectionIdeal.defs (F := Ideal)) (onTc (τ := Cert.ProjectionIdeal.τ) (Cert.ProjectionIdeal.main (F := Ideal))) ⟨m, fun _ => 0, ρ⟩
      = θ_run (Cert.Projection.defs (F := Ideal)) (onTc (τ := Cert.Projection.τ) (Cert.Projection.main (F := Ideal))) ⟨m, fun _ => 0, ρ⟩ := by
  sl_kernel_rfl

/-- The frames: of the kernel, -/
theorem frame_kernel : Cert.quiescent_Projection := fun m ρ _ => Cert.ProjectionRun.frame m ρ

/-- of its idealization, -/
theorem frame_ideal : Cert.quiescent_ProjectionIdeal := fun m ρ _ => by
  rw [run_eq]
  exact Cert.ProjectionRun.frame (F := Ideal) m ρ

/-- and of the reference, which leaves its arguments unchanged and declares no semaphore. -/
theorem frame_reference : Cert.quiescent_ProjectionReferenceIdeal := fun m ρ _ =>
  (θ_run Cert.ProjectionReferenceIdeal.defs _ _).mono
    (fun r h => ⟨fun c => (h c).2.2.2.2, Idealize.ShloMosaic.sem_eq_zero_of_no_sems (by decide) r.2⟩)
    (Cert.ProjectionReferenceIdeal.Value.run (F := Ideal) m ρ)

set_option maxHeartbeats 4000000 in
/-- The projections, kernel against reference. -/
theorem projection : Cert.algebraic_ProjectionIdeal_ProjectionReferenceIdeal := by
  intro m ρ m' ρ' _ hagree
  refine ⟨fun c i => ProjectionSpec.latentValue (ProjectionResult.arrays m c) (i 0) (i 1),
    fun c i => ProjectionSpec.windowValue (ProjectionResult.arrays m c) (i 0) (i 1),
    fun c i => ProjectionSpec.latentGate (ProjectionResult.arrays m c) (i 0) (i 1),
    fun c i => ProjectionSpec.windowGate (ProjectionResult.arrays m c) (i 0) (i 1), ?_, ?_⟩
  · rw [run_eq]
    refine (θ_run Cert.Projection.defs _ _).mono (fun r h c => ?_)
      (θ_run_and (Cert.ProjectionRun.run_main (F := Ideal) m ρ) (Cert.ProjectionRun.unchanged (F := Ideal) m ρ))
    exact ⟨ProjectionResult.latentValue_post r h.1, ProjectionResult.windowValue_post r h.1,
      ProjectionResult.latentGate_post r h.1, ProjectionResult.windowGate_post r h.1, h.2 c⟩
  · refine (θ_run Cert.ProjectionReferenceIdeal.defs _ _).mono
      (fun r h c => ⟨(h c).1.trans ?_, (h c).2.1.trans ?_, (h c).2.2.1.trans ?_, (h c).2.2.2.1.trans ?_, (h c).2.2.2.2⟩)
      (Cert.ProjectionReferenceIdeal.Value.run (F := Ideal) m' ρ')
    · obtain ⟨e0, e1, e2, e3, -, -, -, -, -, -, e10, -, e12, -⟩ := hagree c
      rw [Cert.ProjectionReferenceIdeal.Read.val_main_v68_eq, e0, e1, e2, e3, e10, e12]
      funext i
      obtain ⟨r, N, rfl⟩ : ∃ (r : Fin 512) (N : Fin 32768), i = ix2 r N := ⟨_, _, eq_ix2 (n0 := 512) (n1 := 32768) i⟩
      exact ProjectionReference.latentValue_at (ProjectionResult.arrays m c) r N
    · obtain ⟨e0, e1, e2, -, -, -, -, -, -, -, -, -, -, e13, -⟩ := hagree c
      rw [Cert.ProjectionReferenceIdeal.Read.val_main_v70_eq, e0, e1, e2, e13]
      funext i
      obtain ⟨r, N, rfl⟩ : ∃ (r : Fin 128) (N : Fin 32768), i = ix2 r N := ⟨_, _, eq_ix2 (n0 := 128) (n1 := 32768) i⟩
      exact ProjectionReference.windowValue_at (ProjectionResult.arrays m c) r N
    · obtain ⟨e0, e1, e2, e3, -⟩ := hagree c
      rw [Cert.ProjectionReferenceIdeal.Read.val_main_v71_eq, e0, e1, e2, e3]
      funext i
      obtain ⟨N, d, rfl⟩ : ∃ (N : Fin 32768) (d : Fin 1024), i = ix2 N d := ⟨_, _, eq_ix2 (n0 := 32768) (n1 := 1024) i⟩
      exact ProjectionReference.latentGate_at (ProjectionResult.arrays m c) N d
    · obtain ⟨e0, e1, e2, e3, -⟩ := hagree c
      rw [Cert.ProjectionReferenceIdeal.Read.val_main_v72_eq, e0, e1, e2, e3]
      funext i
      obtain ⟨N, d, rfl⟩ : ∃ (N : Fin 32768) (d : Fin 1024), i = ix2 N d := ⟨_, _, eq_ix2 (n0 := 32768) (n1 := 1024) i⟩
      exact ProjectionReference.windowGate_at (ProjectionResult.arrays m c) N d

end Cert.ProjectionEqual

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Projection
public import proofs.«01_k».proof.Proof.Gen.Projection.Skeleton
public import proofs.«01_k».proof.Proof.Gen.Projection.Launch
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionReferenceIdeal
public import proofs.«01_k».proof.Proof.Gen.ProjectionReferenceIdeal.Run
public import proofs.«01_k».proof.Proof.Gen.ProjectionReferenceIdeal.Read
public import proofs.«01_k».proof.Proof.Reference
public import proofs.«01_k».proof.Proof.Result
public import proofs.«01_k».proof.Proof.Precondition
public import proofs.«01_k».proof.Proof.ExpertsEqual
public import proofs.«01_k».proof.Proof.MergeEqual
public import proofs.«01_k».proof.Proof.ProjectionEqual
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Finite.facts
  Cert.Experts.Gen.facts Cert.ExpertsIdeal.Gen.facts Cert.ExpertsReferenceIdeal.Gen.facts Cert.Experts.Routed.facts
  Cert.Merge.Gen.facts Cert.MergeIdeal.Gen.facts Cert.MergeReferenceIdeal.Gen.facts
  Cert.Projection.Gen.facts Cert.ProjectionIdeal.Gen.facts Cert.ProjectionReferenceIdeal.Gen.facts

/-- The reference leaves its arguments unchanged; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The attention kernel and its reference end with the same result: the attention `Spec.attn` of the arguments. -/
theorem attention : Cert.algebraic_KernelIdeal_ReferenceIdeal_pre_finite := by
  intro m ρ m' ρ' hpre hagree
  have hq := fun c => Cert.Finite.queries _ _ _ _ _ (hpre c).1
  have hk := fun c => Cert.Finite.keys _ _ _ _ _ (hpre c).2.1
  have hc := fun c => Cert.Finite.context _ _ _ _ _ (hpre c).2.2
  refine ⟨fun c i => Spec.attn (Cert.Result.qArr m c) (Cert.Result.kArr m c) (Cert.Result.vArr m c) (Cert.Result.kcArr m c) (Cert.Result.vcArr m c) (i 0) (i 1), ?_, ?_⟩
  · refine (θ_run Cert.KernelIdeal.defs _ _).mono (fun r h c => ⟨(h c).1.trans (Cert.Result.result (hq c) (hk c) (hc c)), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4⟩ := hagree c
    rw [Cert.ReferenceIdeal.Read.val_main_v33_eq, e0, e1, e2, e3, e4]
    funext i
    rw [ValueIdx.eq_ix2 i]
    exact Cert.RefValue.value _ _ (hq c) (hk c) (hc c) (i 0) (i 1)

/-- The claim. -/
theorem claim : Cert.Claim :=
  ⟨Cert.Kernel.Gen.facts, Cert.KernelIdeal.Gen.facts, Cert.ReferenceIdeal.Gen.facts,
    Cert.Experts.Gen.facts, Cert.ExpertsIdeal.Gen.facts, Cert.ExpertsReferenceIdeal.Gen.facts,
    Cert.Merge.Gen.facts, Cert.MergeIdeal.Gen.facts, Cert.MergeReferenceIdeal.Gen.facts,
    Cert.Projection.Gen.facts, Cert.ProjectionIdeal.Gen.facts, Cert.ProjectionReferenceIdeal.Gen.facts,
    Cert.Finite.facts, Cert.Experts.Routed.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    Cert.Frames.experts, Cert.Frames.experts_ideal, Cert.Frames.experts_reference, fun m ρ _ => Cert.Frames.experts_reference m ρ trivial,
    fun m ρ _ => Cert.Merge.Gen.frame m ρ, fun m ρ _ => Cert.MergeIdeal.Gen.frame m ρ, Cert.MergeEqual.frame_reference,
    Cert.ProjectionEqual.frame_kernel, Cert.ProjectionEqual.frame_ideal, Cert.ProjectionEqual.frame_reference,
    trivial, attention, trivial, Cert.ExpertsEqual.experts, trivial, Cert.MergeEqual.merge, trivial, Cert.ProjectionEqual.projection⟩

end Cert.Proof

end
